-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_named : Cert.Pre_tables_named.Facts] (m : (ℓ : Loc Cert.Kernel3.nD Cert.Kernel3.τ Cert.Kernel3.sig) → Buf (Elt Bits) ℓ) : Prop :=
  ∀ c : Dev Cert.Kernel3.nD,
    (Cert.Pre_tables_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).1 = (fun _ => 1#1)
    ∧ (Cert.Pre_tables_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.1 = (fun _ => 1#1)
    ∧ (Cert.Pre_tables_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2 = (fun _ => 1#1)

def Pre_Kernel3Ideal [hPre_tables_named : Cert.Pre_tables_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_tables_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_tables_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_named [hPre_tables_named : Cert.Pre_tables_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_tables_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_tables_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_tables_named : Cert.Pre_tables_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tables_named : Cert.Pre_tables_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_tables_named [hReference3Ideal : Cert.Reference3Ideal.Facts] [hPre_tables_named : Cert.Pre_tables_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v306) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_on_steps_used [hKernel3Ideal : Cert.Kernel3Ideal.Facts] [hReference3Ideal : Cert.Reference3Ideal.Facts] [hPre_tables_named : Cert.Pre_tables_named.Facts] [hOn_steps_used : Cert.On_steps_used.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![167, 256, 1024]⟩ : Shape).Idx, (Cert.On_steps_used.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) i = 1#1 → r.2.mem ((c.tc : Thread Cert.Kernel3Ideal.nD Cert.Kernel3Ideal.τ).loc Cert.Kernel3Ideal.main_v5) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![167, 256, 1024]⟩ : Shape).Idx, (Cert.On_steps_used.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) i = 1#1 → r.2.mem ((c.tc : Thread Cert.Reference3Ideal.nD Cert.Reference3Ideal.τ).loc Cert.Reference3Ideal.main_v162) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_named : Cert.Pre_tables_named.Facts) (hOn_steps_used : Cert.On_steps_used.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_named := hPre_tables_named)
    ∧ quiescent_Kernel3Ideal (hKernel3Ideal := hKernel3Ideal) (hPre_tables_named := hPre_tables_named)
    ∧ quiescent_Reference3Ideal (hReference3Ideal := hReference3Ideal)
    ∧ quiescent_Reference3Ideal_pre_tables_named (hReference3Ideal := hReference3Ideal) (hPre_tables_named := hPre_tables_named)
    ∧ quiescent_Kernel4 (hKernel4 := hKernel4)
    ∧ quiescent_Kernel4Ideal (hKernel4Ideal := hKernel4Ideal)
    ∧ quiescent_Reference4Ideal (hReference4Ideal := hReference4Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_steps_used (hKernel3Ideal := hKernel3Ideal) (hReference3Ideal := hReference3Ideal) (hPre_tables_named := hPre_tables_named) (hOn_steps_used := hOn_steps_used)
    ∧ preserves_Kernel4_Kernel4Ideal
    ∧ algebraic_Kernel4Ideal_Reference4Ideal (hKernel4Ideal := hKernel4Ideal) (hReference4Ideal := hReference4Ideal)
-- ==== On_steps_used.lean ====
abbrev S1336 : Shape := ⟨1, ![1336]⟩
abbrev S167 : Shape := ⟨1, ![167]⟩
abbrev S1 : Shape := ⟨1, ![1]⟩
abbrev S160x256x1024 : Shape := ⟨3, ![160, 256, 1024]⟩
abbrev S160x256x128 : Shape := ⟨3, ![160, 256, 128]⟩
abbrev S8x1024x2816 : Shape := ⟨3, ![8, 1024, 2816]⟩
abbrev S8x2816x1024 : Shape := ⟨3, ![8, 2816, 1024]⟩
abbrev S167x256x1024 : Shape := ⟨3, ![167, 256, 1024]⟩
abbrev S_ : Shape := ⟨0, ![]⟩

class Facts : Prop where
  shapeCasts_S1_S_ : S1.ShapeCasts S_
  bcast_S_S167x256x1024 : S_.BroadcastsInDim S167x256x1024 (![] : Fin 0 → Fin S167x256x1024.rank)

variable [Facts]

def fn {F : FTy → Type} [FloatOps F] (main_arg0 : IVec S1336 32) (main_arg1 : IVec S167 32) (main_arg2 : IVec S1 32) (main_arg3 : FVec F S160x256x1024 .bf16) (main_arg4 : FVec F S160x256x128 .f32) (main_arg5 : FVec F S8x1024x2816 .f32) (main_arg6 : FVec F S8x1024x2816 .f32) (main_arg7 : FVec F S8x2816x1024 .f32) : IVec S167x256x1024 1 :=
  let main_v0 : IVec S167x256x1024 32 := iotaInDim S167x256x1024 32 0
  let main_v1 : IVec S_ 32 := shapeCast S_ main_arg2 shapeCasts_S1_S_
  let main_v2 : IVec S167x256x1024 32 := broadcastInDim S167x256x1024 ![] bcast_S_S167x256x1024 main_v1
  let main_v3 : IVec S167x256x1024 1 := cmpi .slt main_v0 main_v2
  main_v3
-- ==== Pre_tables_named.lean ====
abbrev S1336 : Shape := ⟨1, ![1336]⟩
abbrev S167 : Shape := ⟨1, ![167]⟩
abbrev S1 : Shape := ⟨1, ![1]⟩
abbrev S160x256x1024 : Shape := ⟨3, ![160, 256, 1024]⟩
abbrev S160x256x128 : Shape := ⟨3, ![160, 256, 128]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S1336 : S_.BroadcastsInDim S1336 (![] : Fin 0 → Fin S1336.rank)
  bcast_S_S167 : S_.BroadcastsInDim S167 (![] : Fin 0 → Fin S167.rank)
  bcast_S_S1 : S_.BroadcastsInDim S1 (![] : Fin 0 → Fin S1.rank)

variable [Facts]

def fn {F : FTy → Type} [FloatOps F] (main_arg0 : IVec S1336 32) (main_arg1 : IVec S167 32) (main_arg2 : IVec S1 32) (main_arg3 : FVec F S160x256x1024 .bf16) (main_arg4 : FVec F S160x256x128 .f32) (main_arg5 : FVec F S8x1024x2816 .f32) (main_arg6 : FVec F S8x1024x2816 .f32) (main_arg7 : FVec F S8x2816x1024 .f32) : IVec S1336 1 × IVec S167 1 × IVec S1 1 :=
  let main_c : IVec S_ 32 := constantI S_ 32 0#32
  let main_v0 : IVec S1336 32 := broadcastInDim S1336 ![] bcast_S_S1336 main_c
  let main_v1 : IVec S1336 1 := cmpi .sge main_arg0 main_v0
  let main_c_0 : IVec S_ 32 := constantI S_ 32 1280#32
  let main_v2 : IVec S1336 32 := broadcastInDim S1336 ![] bcast_S_S1336 main_c_0
  let main_v3 : IVec S1336 1 := cmpi .slt main_arg0 main_v2
  let main_v4 : IVec S1336 1 := andi main_v1 main_v3
  let main_c_1 : IVec S_ 32 := constantI S_ 32 0#32
  let main_v5 : IVec S167 32 := broadcastInDim S167 ![] bcast_S_S167 main_c_1
  let main_v6 : IVec S167 1 := cmpi .sge main_arg1 main_v5
  let main_c_2 : IVec S_ 32 := constantI S_ 32 8#32
  let main_v7 : IVec S167 32 := broadcastInDim S167 ![] bcast_S_S167 main_c_2
  let main_v8 : IVec S167 1 := cmpi .slt main_arg1 main_v7
  let main_v9 : IVec S167 1 := andi main_v6 main_v8
  let main_c_3 : IVec S_ 32 := constantI S_ 32 1#32
  let main_v10 : IVec S1 32 := broadcastInDim S1 ![] bcast_S_S1 main_c_3
  let main_v11 : IVec S1 1 := cmpi .sge main_arg2 main_v10
  let main_c_4 : IVec S_ 32 := constantI S_ 32 167#32
  let main_v12 : IVec S1 32 := broadcastInDim S1 ![] bcast_S_S1 main_c_4
  let main_v13 : IVec S1 1 := cmpi .sle main_arg2 main_v12
  let main_v14 : IVec S1 1 := andi main_v11 main_v13
  (main_v4, main_v9, main_v14)
-- ==== Kernel.lean ====
abbrev S1x16384x256 : Shape := ⟨3, ![1, 16384, 256]⟩
abbrev S16384x512 : Shape := ⟨2, ![16384, 512]⟩
abbrev S1x512 : Shape := ⟨2, ![1, 512]⟩
abbrev S2x256x128 : Shape := ⟨3, ![2, 256, 128]⟩
abbrev S8x128x128 : Shape := ⟨3, ![8, 128, 128]⟩
abbrev S128x128 : Shape := ⟨2, ![128, 128]⟩
abbrev S1x128x128x256 : Shape := ⟨4, ![1, 128, 128, 256]⟩
abbrev S1x128x128x512 : Shape := ⟨4, ![1, 128, 128, 512]⟩
abbrev S1x128x16x128 : Shape := ⟨4, ![1, 128, 16, 128]⟩
abbrev S1x128x128 : Shape := ⟨3, ![1, 128, 128]⟩
abbrev S1x128 : Shape := ⟨2, ![1, 128]⟩
abbrev S1x16x128x128 : Shape := ⟨4, ![1, 16, 128, 128]⟩
abbrev S2048x128 : Shape := ⟨2, ![2048, 128]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x1x128x128 : Shape := ⟨4, ![1, 1, 128, 128]⟩

abbrev nBuf : Space → Nat
  | .hbm => 12
  | .vmem => 16
  | .smem => 0
  | _ => 0

abbrev bufTy : (tb : Table) → Fin (tcTables nBuf tb) → BufTy
  | .hbm, ⟨0, _⟩ => ⟨S1x16384x256, .i32⟩
  | .hbm, ⟨1, _⟩ => ⟨S16384x512, .i32⟩
  | .hbm, ⟨2, _⟩ => ⟨S1x512, .f32⟩
  | .hbm, ⟨3, _⟩ => ⟨S2x256x128, .bf16⟩
  | .hbm, ⟨4, _⟩ => ⟨S2x256x128, .bf16⟩
  | .hbm, ⟨5, _⟩ => ⟨S8x128x128, .f32⟩
  | .hbm, ⟨6, _⟩ => ⟨S8x128x128, .f32⟩
  | .hbm, ⟨7, _⟩ => ⟨S128x128, .f32⟩
  | .hbm, ⟨8, _⟩ => ⟨S128x128, .f32⟩
  | .hbm, ⟨9, _⟩ => ⟨S1x128x128x256, .i32⟩
  | .hbm, ⟨10, _⟩ => ⟨S1x128x128x512, .i32⟩
  | .hbm, ⟨11, _⟩ => ⟨S1x128x128x256, .i32⟩
  | .local _ .vmem, ⟨0, _⟩ => ⟨S1x128x16x128, .i32⟩
  | .local _ .vmem, ⟨1, _⟩ => ⟨S1x128x16x128, .i32⟩
  | .local _ .vmem, ⟨2, _⟩ => ⟨S2x256x128, .bf16⟩
  | .local _ .vmem, ⟨3, _⟩ => ⟨S2x256x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | .local _ .vmem, ⟨9, _⟩ => ⟨S128x128, .f32⟩
  | .local _ .vmem, ⟨10, _⟩ => ⟨S1x128x16x128, .i32⟩
  | .local _ .vmem, ⟨11, _⟩ => ⟨S1x128x16x128, .i32⟩
  | .local _ .vmem, ⟨12, _⟩ => ⟨S1x128, .f32⟩
  | .local _ .vmem, ⟨13, _⟩ => ⟨S1x128, .f32⟩
  | .local _ .vmem, ⟨14, _⟩ => ⟨S1x16x128x128, .i32⟩
  | .local _ .vmem, ⟨15, _⟩ => ⟨S1x16x128x128, .i32⟩
  | _, _ => ⟨S1x16384x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨3, ![8, 1, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

abbrev stage0_0 : Fin 2 → Memref sig .tc .vmem S1x128x16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S2x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x16x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x16x128x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference.lean ====
abbrev S1x16384x256 : Shape := ⟨3, ![1, 16384, 256]⟩
abbrev S16384x512 : Shape := ⟨2, ![16384, 512]⟩
abbrev S1x512 : Shape := ⟨2, ![1, 512]⟩
abbrev S2x256x128 : Shape := ⟨3, ![2, 256, 128]⟩
abbrev S8x128x128 : Shape := ⟨3, ![8, 128, 128]⟩
abbrev S128x128 : Shape := ⟨2, ![128, 128]⟩
abbrev S16384x256 : Shape := ⟨2, ![16384, 256]⟩
abbrev S16384x256x2 : Shape := ⟨3, ![16384, 256, 2]⟩
abbrev S1x128x128 : Shape := ⟨3, ![1, 128, 128]⟩
abbrev S8x1x128x128 : Shape := ⟨4, ![8, 1, 128, 128]⟩
abbrev S8x16x128x128 : Shape := ⟨4, ![8, 16, 128, 128]⟩
abbrev S64x2x128x128 : Shape := ⟨4, ![64, 2, 128, 128]⟩
abbrev S64x128x2x128 : Shape := ⟨4, ![64, 128, 2, 128]⟩
abbrev S1x64x128x256 : Shape := ⟨4, ![1, 64, 128, 256]⟩
abbrev S2x64x128x256 : Shape := ⟨4, ![2, 64, 128, 256]⟩
abbrev S128x128x256 : Shape := ⟨3, ![128, 128, 256]⟩
abbrev S1x256 : Shape := ⟨2, ![1, 256]⟩
abbrev S256 : Shape := ⟨1, ![256]⟩
abbrev S2x1x1x1x128 : Shape := ⟨5, ![2, 1, 1, 1, 128]⟩
abbrev S2x64x1x2x128 : Shape := ⟨5, ![2, 64, 1, 2, 128]⟩
abbrev S128x1x256 : Shape := ⟨3, ![128, 1, 256]⟩
abbrev S16384x256x1 : Shape := ⟨3, ![16384, 256, 1]⟩
abbrev S128x64x2x2x128 : Shape := ⟨5, ![128, 64, 2, 2, 128]⟩
abbrev S2x64x128x2x128 : Shape := ⟨5, ![2, 64, 128, 2, 128]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x1x256 : Shape := ⟨3, ![1, 1, 256]⟩
abbrev S128x128x256x1 : Shape := ⟨4, ![128, 128, 256, 1]⟩
abbrev S128x128x256x2 : Shape := ⟨4, ![128, 128, 256, 2]⟩
abbrev S2x64x128x2x128x2 : Shape := ⟨6, ![2, 64, 128, 2, 128, 2]⟩
abbrev S64x2x128x2x128x2 : Shape := ⟨6, ![64, 2, 128, 2, 128, 2]⟩
abbrev S1x128x128x256x2 : Shape := ⟨5, ![1, 128, 128, 256, 2]⟩
abbrev S1x128x128x256 : Shape := ⟨4, ![1, 128, 128, 256]⟩

abbrev nBuf : Space → Nat
  | .hbm => 317
  | .vmem => 11
  | .smem => 0
  | _ => 0

abbrev hbmTy0_0 (i : Nat) : BufTy := match i % 128 with
  | 0 => ⟨S1x16384x256, .i32⟩
  | 1 => ⟨S16384x512, .i32⟩
  | 2 => ⟨S1x512, .f32⟩
  | 3 => ⟨S2x256x128, .bf16⟩
  | 4 => ⟨S2x256x128, .bf16⟩
  | 5 => ⟨S8x128x128, .f32⟩
  | 6 => ⟨S8x128x128, .f32⟩
  | 7 => ⟨S128x128, .f32⟩
  | 8 => ⟨S128x128, .f32⟩
  | 9 => ⟨S16384x256, .i32⟩
  | 10 => ⟨S16384x256x2, .bf16⟩
  | 11 => ⟨S16384x256x2, .f32⟩
  | 12 => ⟨S16384x256, .i32⟩
  | 13 => ⟨S16384x256x2, .bf16⟩
  | 14 => ⟨S16384x256x2, .f32⟩
  | 15 => ⟨S1x128x128, .f32⟩
  | 16 => ⟨S8x128x128, .f32⟩
  | 17 => ⟨S8x128x128, .f32⟩
  | 18 => ⟨S1x128x128, .f32⟩
  | 19 => ⟨S8x128x128, .f32⟩
  | 20 => ⟨S8x128x128, .f32⟩
  | 21 => ⟨S8x128x128, .f32⟩
  | 22 => ⟨S1x128x128, .f32⟩
  | 23 => ⟨S8x128x128, .f32⟩
  | 24 => ⟨S8x128x128, .f32⟩
  | 25 => ⟨S1x128x128, .f32⟩
  | 26 => ⟨S8x128x128, .f32⟩
  | 27 => ⟨S8x128x128, .f32⟩
  | 28 => ⟨S8x128x128, .f32⟩
  | 29 => ⟨S1x128x128, .f32⟩
  | 30 => ⟨S8x128x128, .f32⟩
  | 31 => ⟨S8x128x128, .f32⟩
  | 32 => ⟨S1x128x128, .f32⟩
  | 33 => ⟨S8x128x128, .f32⟩
  | 34 => ⟨S8x128x128, .f32⟩
  | 35 => ⟨S8x128x128, .f32⟩
  | 36 => ⟨S1x128x128, .f32⟩
  | 37 => ⟨S8x128x128, .f32⟩
  | 38 => ⟨S8x128x128, .f32⟩
  | 39 => ⟨S1x128x128, .f32⟩
  | 40 => ⟨S8x128x128, .f32⟩
  | 41 => ⟨S8x128x128, .f32⟩
  | 42 => ⟨S8x128x128, .f32⟩
  | 43 => ⟨S1x128x128, .f32⟩
  | 44 => ⟨S8x128x128, .f32⟩
  | 45 => ⟨S8x128x128, .f32⟩
  | 46 => ⟨S1x128x128, .f32⟩
  | 47 => ⟨S8x128x128, .f32⟩
  | 48 => ⟨S8x128x128, .f32⟩
  | 49 => ⟨S8x128x128, .f32⟩
  | 50 => ⟨S1x128x128, .f32⟩
  | 51 => ⟨S8x128x128, .f32⟩
  | 52 => ⟨S8x128x128, .f32⟩
  | 53 => ⟨S1x128x128, .f32⟩
  | 54 => ⟨S8x128x128, .f32⟩
  | 55 => ⟨S8x128x128, .f32⟩
  | 56 => ⟨S8x128x128, .f32⟩
  | 57 => ⟨S1x128x128, .f32⟩
  | 58 => ⟨S8x128x128, .f32⟩
  | 59 => ⟨S8x128x128, .f32⟩
  | 60 => ⟨S1x128x128, .f32⟩
  | 61 => ⟨S8x128x128, .f32⟩
  | 62 => ⟨S8x128x128, .f32⟩
  | 63 => ⟨S8x128x128, .f32⟩
  | 64 => ⟨S1x128x128, .f32⟩
  | 65 => ⟨S8x128x128, .f32⟩
  | 66 => ⟨S8x128x128, .f32⟩
  | 67 => ⟨S1x128x128, .f32⟩
  | 68 => ⟨S8x128x128, .f32⟩
  | 69 => ⟨S8x128x128, .f32⟩
  | 70 => ⟨S8x128x128, .f32⟩
  | 71 => ⟨S1x128x128, .f32⟩
  | 72 => ⟨S8x128x128, .f32⟩
  | 73 => ⟨S8x128x128, .f32⟩
  | 74 => ⟨S1x128x128, .f32⟩
  | 75 => ⟨S8x128x128, .f32⟩
  | 76 => ⟨S8x128x128, .f32⟩
  | 77 => ⟨S8x128x128, .f32⟩
  | 78 => ⟨S1x128x128, .f32⟩
  | 79 => ⟨S8x128x128, .f32⟩
  | 80 => ⟨S8x128x128, .f32⟩
  | 81 => ⟨S1x128x128, .f32⟩
  | 82 => ⟨S8x128x128, .f32⟩
  | 83 => ⟨S8x128x128, .f32⟩
  | 84 => ⟨S8x128x128, .f32⟩
  | 85 => ⟨S1x128x128, .f32⟩
  | 86 => ⟨S8x128x128, .f32⟩
  | 87 => ⟨S8x128x128, .f32⟩
  | 88 => ⟨S1x128x128, .f32⟩
  | 89 => ⟨S8x128x128, .f32⟩
  | 90 => ⟨S8x128x128, .f32⟩
  | 91 => ⟨S8x128x128, .f32⟩
  | 92 => ⟨S1x128x128, .f32⟩
  | 93 => ⟨S8x128x128, .f32⟩
  | 94 => ⟨S8x128x128, .f32⟩
  | 95 => ⟨S1x128x128, .f32⟩
  | 96 => ⟨S8x128x128, .f32⟩
  | 97 => ⟨S8x128x128, .f32⟩
  | 98 => ⟨S8x128x128, .f32⟩
  | 99 => ⟨S1x128x128, .f32⟩
  | 100 => ⟨S8x128x128, .f32⟩
  | 101 => ⟨S8x128x128, .f32⟩
  | 102 => ⟨S1x128x128, .f32⟩
  | 103 => ⟨S8x128x128, .f32⟩
  | 104 => ⟨S8x128x128, .f32⟩
  | 105 => ⟨S8x128x128, .f32⟩
  | 106 => ⟨S1x128x128, .f32⟩
  | 107 => ⟨S8x128x128, .f32⟩
  | 108 => ⟨S8x128x128, .f32⟩
  | 109 => ⟨S1x128x128, .f32⟩
  | 110 => ⟨S8x128x128, .f32⟩
  | 111 => ⟨S8x128x128, .f32⟩
  | 112 => ⟨S8x128x128, .f32⟩
  | 113 => ⟨S1x128x128, .f32⟩
  | 114 => ⟨S8x128x128, .f32⟩
  | 115 => ⟨S8x128x128, .f32⟩
  | 116 => ⟨S1x128x128, .f32⟩
  | 117 => ⟨S8x128x128, .f32⟩
  | 118 => ⟨S8x128x128, .f32⟩
  | 119 => ⟨S8x128x128, .f32⟩
  | 120 => ⟨S1x128x128, .f32⟩
  | 121 => ⟨S8x128x128, .f32⟩
  | 122 => ⟨S8x128x128, .f32⟩
  | 123 => ⟨S1x128x128, .f32⟩
  | 124 => ⟨S8x128x128, .f32⟩
  | 125 => ⟨S8x128x128, .f32⟩
  | 126 => ⟨S8x128x128, .f32⟩
  | 127 => ⟨S1x128x128, .f32⟩
  | _ => ⟨S1x16384x256, .i32⟩

abbrev hbmTy0_1 (i : Nat) : BufTy := match i % 128 with
  | 0 => ⟨S8x128x128, .f32⟩
  | 1 => ⟨S8x128x128, .f32⟩
  | 2 => ⟨S1x128x128, .f32⟩
  | 3 => ⟨S8x128x128, .f32⟩
  | 4 => ⟨S8x128x128, .f32⟩
  | 5 => ⟨S8x128x128, .f32⟩
  | 6 => ⟨S1x128x128, .f32⟩
  | 7 => ⟨S8x128x128, .f32⟩
  | 8 => ⟨S8x128x128, .f32⟩
  | 9 => ⟨S1x128x128, .f32⟩
  | 10 => ⟨S8x128x128, .f32⟩
  | 11 => ⟨S8x128x128, .f32⟩
  | 12 => ⟨S8x128x128, .f32⟩
  | 13 => ⟨S1x128x128, .f32⟩
  | 14 => ⟨S8x128x128, .f32⟩
  | 15 => ⟨S8x128x128, .f32⟩
  | 16 => ⟨S1x128x128, .f32⟩
  | 17 => ⟨S8x128x128, .f32⟩
  | 18 => ⟨S8x128x128, .f32⟩
  | 19 => ⟨S8x128x128, .f32⟩
  | 20 => ⟨S1x128x128, .f32⟩
  | 21 => ⟨S8x128x128, .f32⟩
  | 22 => ⟨S8x128x128, .f32⟩
  | 23 => ⟨S1x128x128, .f32⟩
  | 24 => ⟨S8x128x128, .f32⟩
  | 25 => ⟨S8x128x128, .f32⟩
  | 26 => ⟨S8x128x128, .f32⟩
  | 27 => ⟨S1x128x128, .f32⟩
  | 28 => ⟨S8x128x128, .f32⟩
  | 29 => ⟨S8x128x128, .f32⟩
  | 30 => ⟨S1x128x128, .f32⟩
  | 31 => ⟨S8x128x128, .f32⟩
  | 32 => ⟨S8x128x128, .f32⟩
  | 33 => ⟨S8x128x128, .f32⟩
  | 34 => ⟨S1x128x128, .f32⟩
  | 35 => ⟨S8x128x128, .f32⟩
  | 36 => ⟨S8x128x128, .f32⟩
  | 37 => ⟨S1x128x128, .f32⟩
  | 38 => ⟨S8x128x128, .f32⟩
  | 39 => ⟨S8x128x128, .f32⟩
  | 40 => ⟨S8x128x128, .f32⟩
  | 41 => ⟨S1x128x128, .f32⟩
  | 42 => ⟨S8x128x128, .f32⟩
  | 43 => ⟨S8x128x128, .f32⟩
  | 44 => ⟨S1x128x128, .f32⟩
  | 45 => ⟨S8x128x128, .f32⟩
  | 46 => ⟨S8x128x128, .f32⟩
  | 47 => ⟨S8x128x128, .f32⟩
  | 48 => ⟨S1x128x128, .f32⟩
  | 49 => ⟨S8x128x128, .f32⟩
  | 50 => ⟨S8x128x128, .f32⟩
  | 51 => ⟨S1x128x128, .f32⟩
  | 52 => ⟨S8x128x128, .f32⟩
  | 53 => ⟨S8x128x128, .f32⟩
  | 54 => ⟨S8x128x128, .f32⟩
  | 55 => ⟨S1x128x128, .f32⟩
  | 56 => ⟨S8x128x128, .f32⟩
  | 57 => ⟨S8x128x128, .f32⟩
  | 58 => ⟨S1x128x128, .f32⟩
  | 59 => ⟨S8x128x128, .f32⟩
  | 60 => ⟨S8x128x128, .f32⟩
  | 61 => ⟨S8x128x128, .f32⟩
  | 62 => ⟨S1x128x128, .f32⟩
  | 63 => ⟨S8x128x128, .f32⟩
  | 64 => ⟨S8x128x128, .f32⟩
  | 65 => ⟨S1x128x128, .f32⟩
  | 66 => ⟨S8x128x128, .f32⟩
  | 67 => ⟨S8x128x128, .f32⟩
  | 68 => ⟨S8x128x128, .f32⟩
  | 69 => ⟨S1x128x128, .f32⟩
  | 70 => ⟨S8x128x128, .f32⟩
  | 71 => ⟨S8x128x128, .f32⟩
  | 72 => ⟨S1x128x128, .f32⟩
  | 73 => ⟨S8x128x128, .f32⟩
  | 74 => ⟨S8x128x128, .f32⟩
  | 75 => ⟨S8x128x128, .f32⟩
  | 76 => ⟨S1x128x128, .f32⟩
  | 77 => ⟨S8x128x128, .f32⟩
  | 78 => ⟨S8x128x128, .f32⟩
  | 79 => ⟨S1x128x128, .f32⟩
  | 80 => ⟨S8x128x128, .f32⟩
  | 81 => ⟨S8x128x128, .f32⟩
  | 82 => ⟨S8x128x128, .f32⟩
  | 83 => ⟨S1x128x128, .f32⟩
  | 84 => ⟨S8x128x128, .f32⟩
  | 85 => ⟨S8x128x128, .f32⟩
  | 86 => ⟨S1x128x128, .f32⟩
  | 87 => ⟨S8x128x128, .f32⟩
  | 88 => ⟨S8x128x128, .f32⟩
  | 89 => ⟨S8x128x128, .f32⟩
  | 90 => ⟨S1x128x128, .f32⟩
  | 91 => ⟨S8x128x128, .f32⟩
  | 92 => ⟨S8x128x128, .f32⟩
  | 93 => ⟨S1x128x128, .f32⟩
  | 94 => ⟨S8x128x128, .f32⟩
  | 95 => ⟨S8x128x128, .f32⟩
  | 96 => ⟨S8x128x128, .f32⟩
  | 97 => ⟨S1x128x128, .f32⟩
  | 98 => ⟨S8x128x128, .f32⟩
  | 99 => ⟨S8x128x128, .f32⟩
  | 100 => ⟨S1x128x128, .f32⟩
  | 101 => ⟨S8x128x128, .f32⟩
  | 102 => ⟨S8x128x128, .f32⟩
  | 103 => ⟨S8x128x128, .f32⟩
  | 104 => ⟨S1x128x128, .f32⟩
  | 105 => ⟨S8x128x128, .f32⟩
  | 106 => ⟨S8x128x128, .f32⟩
  | 107 => ⟨S1x128x128, .f32⟩
  | 108 => ⟨S8x128x128, .f32⟩
  | 109 => ⟨S8x128x128, .f32⟩
  | 110 => ⟨S8x128x128, .f32⟩
  | 111 => ⟨S8x1x128x128, .f32⟩
  | 112 => ⟨S8x1x128x128, .f32⟩
  | 113 => ⟨S8x1x128x128, .f32⟩
  | 114 => ⟨S8x1x128x128, .f32⟩
  | 115 => ⟨S8x1x128x128, .f32⟩
  | 116 => ⟨S8x1x128x128, .f32⟩
  | 117 => ⟨S8x1x128x128, .f32⟩
  | 118 => ⟨S8x1x128x128, .f32⟩
  | 119 => ⟨S8x1x128x128, .f32⟩
  | 120 => ⟨S8x1x128x128, .f32⟩
  | 121 => ⟨S8x1x128x128, .f32⟩
  | 122 => ⟨S8x1x128x128, .f32⟩
  | 123 => ⟨S8x1x128x128, .f32⟩
  | 124 => ⟨S8x1x128x128, .f32⟩
  | 125 => ⟨S8x1x128x128, .f32⟩
  | 126 => ⟨S8x1x128x128, .f32⟩
  | 127 => ⟨S8x16x128x128, .f32⟩
  | _ => ⟨S1x16384x256, .i32⟩

abbrev hbmTy0_2 (i : Nat) : BufTy := match i % 128 with
  | 0 => ⟨S64x2x128x128, .f32⟩
  | 1 => ⟨S8x1x128x128, .f32⟩
  | 2 => ⟨S8x1x128x128, .f32⟩
  | 3 => ⟨S8x1x128x128, .f32⟩
  | 4 => ⟨S8x1x128x128, .f32⟩
  | 5 => ⟨S8x1x128x128, .f32⟩
  | 6 => ⟨S8x1x128x128, .f32⟩
  | 7 => ⟨S8x1x128x128, .f32⟩
  | 8 => ⟨S8x1x128x128, .f32⟩
  | 9 => ⟨S8x1x128x128, .f32⟩
  | 10 => ⟨S8x1x128x128, .f32⟩
  | 11 => ⟨S8x1x128x128, .f32⟩
  | 12 => ⟨S8x1x128x128, .f32⟩
  | 13 => ⟨S8x1x128x128, .f32⟩
  | 14 => ⟨S8x1x128x128, .f32⟩
  | 15 => ⟨S8x1x128x128, .f32⟩
  | 16 => ⟨S8x1x128x128, .f32⟩
  | 17 => ⟨S8x16x128x128, .f32⟩
  | 18 => ⟨S64x2x128x128, .f32⟩
  | 19 => ⟨S64x128x2x128, .f32⟩
  | 20 => ⟨S1x64x128x256, .f32⟩
  | 21 => ⟨S2x64x128x256, .f32⟩
  | 22 => ⟨S128x128x256, .f32⟩
  | 23 => ⟨S64x128x2x128, .f32⟩
  | 24 => ⟨S1x64x128x256, .f32⟩
  | 25 => ⟨S2x64x128x256, .f32⟩
  | 26 => ⟨S128x128x256, .f32⟩
  | 27 => ⟨S1x256, .f32⟩
  | 28 => ⟨S256, .f32⟩
  | 29 => ⟨S2x1x1x1x128, .f32⟩
  | 30 => ⟨S2x64x1x2x128, .f32⟩
  | 31 => ⟨S128x1x256, .f32⟩
  | 32 => ⟨S16384x256x1, .f32⟩
  | 33 => ⟨S16384x256, .f32⟩
  | 34 => ⟨S128x64x2x2x128, .f32⟩
  | 35 => ⟨S2x64x128x2x128, .f32⟩
  | 36 => ⟨S128x128x256, .f32⟩
  | 37 => ⟨S16384x256x1, .f32⟩
  | 38 => ⟨S16384x256, .f32⟩
  | 39 => ⟨S128x64x2x2x128, .f32⟩
  | 40 => ⟨S2x64x128x2x128, .f32⟩
  | 41 => ⟨S128x128x256, .f32⟩
  | 42 => ⟨S16384x256x1, .f32⟩
  | 43 => ⟨S16384x256, .f32⟩
  | 44 => ⟨S128x64x2x2x128, .f32⟩
  | 45 => ⟨S2x64x128x2x128, .f32⟩
  | 46 => ⟨S128x128x256, .f32⟩
  | 47 => ⟨S16384x256x1, .f32⟩
  | 48 => ⟨S16384x256, .f32⟩
  | 49 => ⟨S128x64x2x2x128, .f32⟩
  | 50 => ⟨S2x64x128x2x128, .f32⟩
  | 51 => ⟨S128x128x256, .f32⟩
  | 52 => ⟨S128x128x256, .bf16⟩
  | 53 => ⟨S128x128x256, .bf16⟩
  | 54 => ⟨S128x128x256x1, .bf16⟩
  | 55 => ⟨S128x128x256x1, .bf16⟩
  | 56 => ⟨S128x128x256x2, .bf16⟩
  | 57 => ⟨S2x64x128x2x128x2, .bf16⟩
  | 58 => ⟨S64x2x128x2x128x2, .bf16⟩
  | 59 => ⟨S1x128x128x256x2, .bf16⟩
  | 60 => ⟨S1x128x128x256, .i32⟩
  | _ => ⟨S1x16384x256, .i32⟩

abbrev hbmTy (i : Nat) : BufTy := match i / 128 with
  | 0 => hbmTy0_0 i
  | 1 => hbmTy0_1 i
  | 2 => hbmTy0_2 i
  | _ => ⟨S1x16384x256, .i32⟩

abbrev bufTy : (tb : Table) → Fin (tcTables nBuf tb) → BufTy
  | .hbm, ⟨i, _⟩ => hbmTy i
  | .local _ .vmem, ⟨0, _⟩ => ⟨S128x128x256, .f32⟩
  | .local _ .vmem, ⟨1, _⟩ => ⟨S128x128x256, .f32⟩
  | .local _ .vmem, ⟨2, _⟩ => ⟨S128x128x256, .f32⟩
  | .local _ .vmem, ⟨3, _⟩ => ⟨S128x128x256, .f32⟩
  | .local _ .vmem, ⟨4, _⟩ => ⟨S128x1x256, .f32⟩
  | .local _ .vmem, ⟨5, _⟩ => ⟨S2x256x128, .bf16⟩
  | .local _ .vmem, ⟨6, _⟩ => ⟨S2x256x128, .bf16⟩
  | .local _ .vmem, ⟨7, _⟩ => ⟨S128x128x256, .f32⟩
  | .local _ .vmem, ⟨8, _⟩ => ⟨S128x128x256, .f32⟩
  | .local _ .vmem, ⟨9, _⟩ => ⟨S128x128x256, .bf16⟩
  | .local _ .vmem, ⟨10, _⟩ => ⟨S128x128x256, .bf16⟩
  | _, _ => ⟨S1x16384x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_v283 : Ref sig .tc := ⟨.hbm, 292, rfl⟩
abbrev main_v284 : Ref sig .tc := ⟨.hbm, 293, rfl⟩
abbrev main_v285 : Ref sig .tc := ⟨.hbm, 294, rfl⟩
abbrev main_v286 : Ref sig .tc := ⟨.hbm, 295, rfl⟩
abbrev main_v287 : Ref sig .tc := ⟨.hbm, 296, rfl⟩
abbrev main_v288 : Ref sig .tc := ⟨.hbm, 297, rfl⟩
abbrev main_v289 : Ref sig .tc := ⟨.hbm, 298, rfl⟩
abbrev main_v290 : Ref sig .tc := ⟨.hbm, 299, rfl⟩
abbrev main_v291 : Ref sig .tc := ⟨.hbm, 300, rfl⟩
abbrev main_v292 : Ref sig .tc := ⟨.hbm, 301, rfl⟩
abbrev main_v293 : Ref sig .tc := ⟨.hbm, 302, rfl⟩
abbrev main_v294 : Ref sig .tc := ⟨.hbm, 303, rfl⟩
abbrev main_v295 : Ref sig .tc := ⟨.hbm, 304, rfl⟩
abbrev main_v296 : Ref sig .tc := ⟨.hbm, 305, rfl⟩
abbrev main_v297 : Ref sig .tc := ⟨.hbm, 306, rfl⟩
abbrev main_v298 : Ref sig .tc := ⟨.hbm, 307, rfl⟩
abbrev main_v299_0 : Ref sig .tc := ⟨.hbm, 308, rfl⟩
abbrev main_v299_1 : Ref sig .tc := ⟨.hbm, 309, rfl⟩
abbrev main_v300 : Ref sig .tc := ⟨.hbm, 310, rfl⟩
abbrev main_v301 : Ref sig .tc := ⟨.hbm, 311, rfl⟩
abbrev main_v302 : Ref sig .tc := ⟨.hbm, 312, rfl⟩
abbrev main_v303 : Ref sig .tc := ⟨.hbm, 313, rfl⟩
abbrev main_v304 : Ref sig .tc := ⟨.hbm, 314, rfl⟩
abbrev main_v305 : Ref sig .tc := ⟨.hbm, 315, rfl⟩
abbrev main_v306 : Ref sig .tc := ⟨.hbm, 316, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v1 : Index := Scalar.indexCast arg11
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v18 : Index := Scalar.indexCast arg11
  let c0_10 : Index := 0#32
  let c0_11 : Index := 0#32
  ![v18.toNat, 0, 0]
abbrev stage0_0 : Fin 1 → Memref sig .tc .vmem S128x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel2.lean ====
abbrev S2x8192x1024 : Shape := ⟨3, ![2, 8192, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 14
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_17 : BitVec 32 := 0#32
  let v28 : BitVec 1 := Scalar.cmpi .eq arg1 c0_i32_17
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S2x8192x1024 : Shape := ⟨3, ![2, 8192, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel3.lean ====
abbrev S1336 : Shape := ⟨1, ![1336]⟩
abbrev S167 : Shape := ⟨1, ![167]⟩
abbrev S1 : Shape := ⟨1, ![1]⟩
abbrev S160x256x1024 : Shape := ⟨3, ![160, 256, 1024]⟩
abbrev S160x256x128 : Shape := ⟨3, ![160, 256, 128]⟩
abbrev S8x1024x2816 : Shape := ⟨3, ![8, 1024, 2816]⟩
abbrev S8x2816x1024 : Shape := ⟨3, ![8, 2816, 1024]⟩
abbrev S1280x32x1024 : Shape := ⟨3, ![1280, 32, 1024]⟩
abbrev S1280x32x128 : Shape := ⟨3, ![1280, 32, 128]⟩
abbrev S167x256x1024 : Shape := ⟨3, ![167, 256, 1024]⟩
abbrev S1x32x1024 : Shape := ⟨3, ![1, 32, 1024]⟩
abbrev S1x32x128 : Shape := ⟨3, ![1, 32, 128]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S32x1024 : Shape := ⟨2, ![32, 1024]⟩
abbrev S256x1024 : Shape := ⟨2, ![256, 1024]⟩
abbrev S1024x2816 : Shape := ⟨2, ![1024, 2816]⟩
abbrev S256x2816 : Shape := ⟨2, ![256, 2816]⟩
abbrev S2816x1024 : Shape := ⟨2, ![2816, 1024]⟩
abbrev S32x128 : Shape := ⟨2, ![32, 128]⟩
abbrev S256x128 : Shape := ⟨2, ![256, 128]⟩

abbrev nBuf : Space → Nat
  | .hbm => 11
  | .vmem => 40
  | .smem => 3
  | _ => 0

abbrev bufTy : (tb : Table) → Fin (tcTables nBuf tb) → BufTy
  | .hbm, ⟨0, _⟩ => ⟨S160x256x1024, .bf16⟩
  | .hbm, ⟨1, _⟩ => ⟨S160x256x128, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S8x1024x2816, .bf16⟩
  | .hbm, ⟨6, _⟩ => ⟨S8x1024x2816, .bf16⟩
  | .hbm, ⟨7, _⟩ => ⟨S8x2816x1024, .bf16⟩
  | .hbm, ⟨8, _⟩ => ⟨S1280x32x1024, .bf16⟩
  | .hbm, ⟨9, _⟩ => ⟨S1280x32x128, .f32⟩
  | .hbm, ⟨10, _⟩ => ⟨S167x256x1024, .bf16⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x32x1024, .bf16⟩
  | .local _ .vmem, ⟨9, _⟩ => ⟨S1x32x1024, .bf16⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S1x32x128, .f32⟩
  | .local _ .vmem, ⟨17, _⟩ => ⟨S1x32x128, .f32⟩
  | .local _ .vmem, ⟨18, _⟩ => ⟨S1x32x128, .f32⟩
  | .local _ .vmem, ⟨19, _⟩ => ⟨S1x32x128, .f32⟩
  | .local _ .vmem, ⟨20, _⟩ => ⟨S1x32x128, .f32⟩
  | .local _ .vmem, ⟨21, _⟩ => ⟨S1x32x128, .f32⟩
  | .local _ .vmem, ⟨22, _⟩ => ⟨S1x32x128, .f32⟩
  | .local _ .vmem, ⟨23, _⟩ => ⟨S1x32x128, .f32⟩
  | .local _ .vmem, ⟨24, _⟩ => ⟨S1x32x128, .f32⟩
  | .local _ .vmem, ⟨25, _⟩ => ⟨S1x32x128, .f32⟩
  | .local _ .vmem, ⟨26, _⟩ => ⟨S1x32x128, .f32⟩
  | .local _ .vmem, ⟨27, _⟩ => ⟨S1x32x128, .f32⟩
  | .local _ .vmem, ⟨28, _⟩ => ⟨S1x32x128, .f32⟩
  | .local _ .vmem, ⟨29, _⟩ => ⟨S1x32x128, .f32⟩
  | .local _ .vmem, ⟨30, _⟩ => ⟨S1x32x128, .f32⟩
  | .local _ .vmem, ⟨31, _⟩ => ⟨S1x32x128, .f32⟩
  | .local _ .vmem, ⟨32, _⟩ => ⟨S1x1024x2816, .bf16⟩
  | .local _ .vmem, ⟨33, _⟩ => ⟨S1x1024x2816, .bf16⟩
  | .local _ .vmem, ⟨34, _⟩ => ⟨S1x1024x2816, .bf16⟩
  | .local _ .vmem, ⟨35, _⟩ => ⟨S1x1024x2816, .bf16⟩
  | .local _ .vmem, ⟨36, _⟩ => ⟨S1x2816x1024, .bf16⟩
  | .local _ .vmem, ⟨37, _⟩ => ⟨S1x2816x1024, .bf16⟩
  | .local _ .vmem, ⟨38, _⟩ => ⟨S1x256x1024, .bf16⟩
  | .local _ .vmem, ⟨39, _⟩ => ⟨S1x256x1024, .bf16⟩
  | .local _ .smem, ⟨0, _⟩ => ⟨S1336, .i32⟩
  | .local _ .smem, ⟨1, _⟩ => ⟨S167, .i32⟩
  | .local _ .smem, ⟨2, _⟩ => ⟨S1, .i32⟩
  | _, _ => ⟨S160x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![167], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let v0 : BitVec 32 := Scalar.addi c0_i32 arg0
  let v1 : Index := Scalar.indexCast v0
  ![v1.toNat]
def k0_off2 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S1336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_1 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c167_i32 : BitVec 32 := 167#32
  let v0 : BitVec 32 := Scalar.addi c167_i32 arg0
  let v1 : Index := Scalar.indexCast v0
  let v2 : BitVec 32 := pf.at 0 (Rect.unit (s := S1336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c334_i32 : BitVec 32 := 334#32
  let v0 : BitVec 32 := Scalar.addi c334_i32 arg0
  let v1 : Index := Scalar.indexCast v0
  let v2 : BitVec 32 := pf.at 0 (Rect.unit (s := S1336) ![v1.toNat] S1.size (k0_off1_inb i 2)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c501_i32 : BitVec 32 := 501#32
  let v0 : BitVec 32 := Scalar.addi c501_i32 arg0
  let v1 : Index := Scalar.indexCast v0
  let v2 : BitVec 32 := pf.at 0 (Rect.unit (s := S1336) ![v1.toNat] S1.size (k0_off1_inb i 3)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c668_i32 : BitVec 32 := 668#32
  let v0 : BitVec 32 := Scalar.addi c668_i32 arg0
  let v1 : Index := Scalar.indexCast v0
  let v2 : BitVec 32 := pf.at 0 (Rect.unit (s := S1336) ![v1.toNat] S1.size (k0_off1_inb i 4)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c835_i32 : BitVec 32 := 835#32
  let v0 : BitVec 32 := Scalar.addi c835_i32 arg0
  let v1 : Index := Scalar.indexCast v0
  let v2 : BitVec 32 := pf.at 0 (Rect.unit (s := S1336) ![v1.toNat] S1.size (k0_off1_inb i 5)) numel1_S1
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c1002_i32 : BitVec 32 := 1002#32
  let v0 : BitVec 32 := Scalar.addi c1002_i32 arg0
  let v1 : Index := Scalar.indexCast v0
  let v2 : BitVec 32 := pf.at 0 (Rect.unit (s := S1336) ![v1.toNat] S1.size (k0_off1_inb i 6)) numel1_S1
  let c0_i32 : BitVec 32 := 0#32
  let c0_i32_0 : BitVec 32 := 0#32
  let c0_i32_1 : BitVec 32 := 0#32
  ![v2.toNat, c0_i32.toNat, c0_i32_0.toNat]

def cc0_transform_7 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c1169_i32 : BitVec 32 := 1169#32
  let v0 : BitVec 32 := Scalar.addi c1169_i32 arg0
  let v1 : Index := Scalar.indexCast v0
  let v2 : BitVec 32 := pf.at 0 (Rect.unit (s := S1336) ![v1.toNat] S1.size (k0_off1_inb i 7)) numel1_S1
  let c0_i32 : BitVec 32 := 0#32
  let c0_i32_0 : BitVec 32 := 0#32
  let c0_i32_1 : BitVec 32 := 0#32
  ![v2.toNat, c0_i32.toNat, c0_i32_0.toNat]

def cc0_transform_8 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S1336) ![v1.toNat] S1.size (k0_off1_inb i 0)) numel1_S1
  let c0_i32_0 : BitVec 32 := 0#32
  let c0_i32_1 : BitVec 32 := 0#32
  let c0_i32_2 : BitVec 32 := 0#32
  ![v2.toNat, c0_i32_0.toNat, c0_i32_1.toNat]

def cc0_transform_9 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c167_i32 : BitVec 32 := 167#32
  let v0 : BitVec 32 := Scalar.addi c167_i32 arg0
  let v1 : Index := Scalar.indexCast v0
  let v2 : BitVec 32 := pf.at 0 (Rect.unit (s := S1336) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_10 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c334_i32 : BitVec 32 := 334#32
  let v0 : BitVec 32 := Scalar.addi c334_i32 arg0
  let v1 : Index := Scalar.indexCast v0
  let v2 : BitVec 32 := pf.at 0 (Rect.unit (s := S1336) ![v1.toNat] S1.size (k0_off1_inb i 2)) numel1_S1
  let c0_i32 : BitVec 32 := 0#32
  let c0_i32_0 : BitVec 32 := 0#32
  let c0_i32_1 : BitVec 32 := 0#32
  ![v2.toNat, c0_i32.toNat, c0_i32_0.toNat]

def cc0_transform_11 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c501_i32 : BitVec 32 := 501#32
  let v0 : BitVec 32 := Scalar.addi c501_i32 arg0
  let v1 : Index := Scalar.indexCast v0
  let v2 : BitVec 32 := pf.at 0 (Rect.unit (s := S1336) ![v1.toNat] S1.size (k0_off1_inb i 3)) numel1_S1
  let c0_i32 : BitVec 32 := 0#32
  let c0_i32_0 : BitVec 32 := 0#32
  let c0_i32_1 : BitVec 32 := 0#32
  ![v2.toNat, c0_i32.toNat, c0_i32_0.toNat]

def cc0_transform_12 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c668_i32 : BitVec 32 := 668#32
  let v0 : BitVec 32 := Scalar.addi c668_i32 arg0
  let v1 : Index := Scalar.indexCast v0
  let v2 : BitVec 32 := pf.at 0 (Rect.unit (s := S1336) ![v1.toNat] S1.size (k0_off1_inb i 4)) numel1_S1
  let c0_i32 : BitVec 32 := 0#32
  let c0_i32_0 : BitVec 32 := 0#32
  let c0_i32_1 : BitVec 32 := 0#32
  ![v2.toNat, c0_i32.toNat, c0_i32_0.toNat]

def cc0_transform_13 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c835_i32 : BitVec 32 := 835#32
  let v0 : BitVec 32 := Scalar.addi c835_i32 arg0
  let v1 : Index := Scalar.indexCast v0
  let v2 : BitVec 32 := pf.at 0 (Rect.unit (s := S1336) ![v1.toNat] S1.size (k0_off1_inb i 5)) numel1_S1
  let c0_i32 : BitVec 32 := 0#32
  let c0_i32_0 : BitVec 32 := 0#32
  let c0_i32_1 : BitVec 32 := 0#32
  ![v2.toNat, c0_i32.toNat, c0_i32_0.toNat]

def cc0_transform_14 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c1002_i32 : BitVec 32 := 1002#32
  let v0 : BitVec 32 := Scalar.addi c1002_i32 arg0
  let v1 : Index := Scalar.indexCast v0
  let v2 : BitVec 32 := pf.at 0 (Rect.unit (s := S1336) ![v1.toNat] S1.size (k0_off1_inb i 6)) numel1_S1
  let c0_i32 : BitVec 32 := 0#32
  let c0_i32_0 : BitVec 32 := 0#32
  let c0_i32_1 : BitVec 32 := 0#32
  ![v2.toNat, c0_i32.toNat, c0_i32_0.toNat]

def cc0_transform_15 (k0_off1_inb : ∀ i : grid0.Coords, ∀ (r : Fin 8), ∀ a, (k0_off1 i (BitVec.ofNat 32 (167 * r.val))) a + S1.size a ≤ S1336.size a) (numel1_S1 : S1.numel = 1) (pf : pre0.Contents (Elt F)) (i : grid0.Coords) : Fin 3 → Nat :=
  let arg0 : BitVec 32 := BitVec.ofNat 32 (i 0).val
  let c1169_i32 : BitVec 32 := 1169#32
  let v0 : BitVec 32 := Scalar.addi c1169_i32 arg0
  let v1 : Index := Scalar.indexCast v0
  let v2 : BitVec 32 := pf.at 0 (Rect.unit (s := S1336) ![v1.toNat] S1.size (k0_off1_inb i 7)) numel1_S1
  let c0_i32 : BitVec 32 := 0#32
  let c0_i32_0 : BitVec 32 := 0#32
  let c0_i32_1 : BitVec 32 := 0#32
  ![v2.toNat, c0_i32.toNat, c0_i32_0.toNat]

def cc0_transform_16 (k0_off2_inb : ∀ i : grid0.Coords, ∀ a, (k0_off2 i) a + S1.size a ≤ S167.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S167) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_17 (k0_off2_inb : ∀ i : grid0.Coords, ∀ a, (k0_off2 i) a + S1.size a ≤ S167.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S167) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_18 (k0_off2_inb : ∀ i : grid0.Coords, ∀ a, (k0_off2 i) a + S1.size a ≤ S167.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S167) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_19 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2816x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S1336 : Shape := ⟨1, ![1336]⟩
abbrev S167 : Shape := ⟨1, ![167]⟩
abbrev S1 : Shape := ⟨1, ![1]⟩
abbrev S160x256x1024 : Shape := ⟨3, ![160, 256, 1024]⟩
abbrev S160x256x128 : Shape := ⟨3, ![160, 256, 128]⟩
abbrev S8x1024x2816 : Shape := ⟨3, ![8, 1024, 2816]⟩
abbrev S8x2816x1024 : Shape := ⟨3, ![8, 2816, 1024]⟩
abbrev S8x167 : Shape := ⟨2, ![8, 167]⟩
abbrev S167x8 : Shape := ⟨2, ![167, 8]⟩
abbrev S1280x32x1024 : Shape := ⟨3, ![1280, 32, 1024]⟩
abbrev S_ : Shape := ⟨0, ![]⟩
abbrev S1336x1 : Shape := ⟨2, ![1336, 1]⟩
abbrev S1336x32x1024 : Shape := ⟨3, ![1336, 32, 1024]⟩
abbrev S167x256x1024 : Shape := ⟨3, ![167, 256, 1024]⟩
abbrev S1280x32x128 : Shape := ⟨3, ![1280, 32, 128]⟩
abbrev S1336x32x128 : Shape := ⟨3, ![1336, 32, 128]⟩
abbrev S167x256x128 : Shape := ⟨3, ![167, 256, 128]⟩
abbrev S1x167x1x256x1x128 : Shape := ⟨6, ![1, 167, 1, 256, 1, 128]⟩
abbrev S1x167x1x256x8x128 : Shape := ⟨6, ![1, 167, 1, 256, 8, 128]⟩
abbrev S167x1x1 : Shape := ⟨3, ![167, 1, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S167x256x2816 : Shape := ⟨3, ![167, 256, 2816]⟩

abbrev nBuf : Space → Nat
  | .hbm => 280
  | .vmem => 0
  | .smem => 0
  | _ => 0

abbrev hbmTy0_0 (i : Nat) : BufTy := match i % 128 with
  | 0 => ⟨S1336, .i32⟩
  | 1 => ⟨S167, .i32⟩
  | 2 => ⟨S1, .i32⟩
  | 3 => ⟨S160x256x1024, .bf16⟩
  | 4 => ⟨S160x256x128, .f32⟩
  | 5 => ⟨S8x1024x2816, .f32⟩
  | 6 => ⟨S8x1024x2816, .f32⟩
  | 7 => ⟨S8x2816x1024, .f32⟩
  | 8 => ⟨S8x167, .i32⟩
  | 9 => ⟨S167x8, .i32⟩
  | 10 => ⟨S1336, .i32⟩
  | 11 => ⟨S1280x32x1024, .bf16⟩
  | 12 => ⟨S1280x32x1024, .f32⟩
  | 13 => ⟨S_, .i32⟩
  | 14 => ⟨S1336, .i32⟩
  | 15 => ⟨S1336, .i1⟩
  | 16 => ⟨S_, .i32⟩
  | 17 => ⟨S1336, .i32⟩
  | 18 => ⟨S1336, .i32⟩
  | 19 => ⟨S1336, .i32⟩
  | 20 => ⟨S1336x1, .i32⟩
  | 21 => ⟨S1336x32x1024, .f32⟩
  | 22 => ⟨S167x256x1024, .f32⟩
  | 23 => ⟨S1280x32x128, .f32⟩
  | 24 => ⟨S_, .i32⟩
  | 25 => ⟨S1336, .i32⟩
  | 26 => ⟨S1336, .i1⟩
  | 27 => ⟨S_, .i32⟩
  | 28 => ⟨S1336, .i32⟩
  | 29 => ⟨S1336, .i32⟩
  | 30 => ⟨S1336, .i32⟩
  | 31 => ⟨S1336x1, .i32⟩
  | 32 => ⟨S1336x32x128, .f32⟩
  | 33 => ⟨S167x256x128, .f32⟩
  | 34 => ⟨S1x167x1x256x1x128, .f32⟩
  | 35 => ⟨S1x167x1x256x8x128, .f32⟩
  | 36 => ⟨S167x256x1024, .f32⟩
  | 37 => ⟨S_, .f32⟩
  | 38 => ⟨S167x256x1024, .f32⟩
  | 39 => ⟨S_, .i32⟩
  | 40 => ⟨S167, .i32⟩
  | 41 => ⟨S167, .i1⟩
  | 42 => ⟨S167x1x1, .i1⟩
  | 43 => ⟨S_, .f32⟩
  | 44 => ⟨S_, .f32⟩
  | 45 => ⟨S167x256x1024, .i1⟩
  | 46 => ⟨S167x256x1024, .f32⟩
  | 47 => ⟨S167x256x1024, .f32⟩
  | 48 => ⟨S1x1024x2816, .f32⟩
  | 49 => ⟨S1024x2816, .f32⟩
  | 50 => ⟨S1x1024x2816, .f32⟩
  | 51 => ⟨S1024x2816, .f32⟩
  | 52 => ⟨S1x2816x1024, .f32⟩
  | 53 => ⟨S2816x1024, .f32⟩
  | 54 => ⟨S167x256x2816, .f32⟩
  | 55 => ⟨S167x256x2816, .f32⟩
  | 56 => ⟨S167x256x2816, .f32⟩
  | 57 => ⟨S_, .f32⟩
  | 58 => ⟨S167x256x2816, .f32⟩
  | 59 => ⟨S167x256x2816, .f32⟩
  | 60 => ⟨S_, .f32⟩
  | 61 => ⟨S167x256x2816, .f32⟩
  | 62 => ⟨S167x256x2816, .f32⟩
  | 63 => ⟨S167x256x2816, .f32⟩
  | 64 => ⟨S167x256x2816, .f32⟩
  | 65 => ⟨S167x256x2816, .f32⟩
  | 66 => ⟨S167x256x1024, .f32⟩
  | 67 => ⟨S167x256x1024, .f32⟩
  | 68 => ⟨S167x256x1024, .f32⟩
  | 69 => ⟨S_, .i32⟩
  | 70 => ⟨S167, .i32⟩
  | 71 => ⟨S167, .i1⟩
  | 72 => ⟨S167x1x1, .i1⟩
  | 73 => ⟨S_, .f32⟩
  | 74 => ⟨S_, .f32⟩
  | 75 => ⟨S167x256x1024, .i1⟩
  | 76 => ⟨S167x256x1024, .f32⟩
  | 77 => ⟨S167x256x1024, .f32⟩
  | 78 => ⟨S1x1024x2816, .f32⟩
  | 79 => ⟨S1024x2816, .f32⟩
  | 80 => ⟨S1x1024x2816, .f32⟩
  | 81 => ⟨S1024x2816, .f32⟩
  | 82 => ⟨S1x2816x1024, .f32⟩
  | 83 => ⟨S2816x1024, .f32⟩
  | 84 => ⟨S167x256x2816, .f32⟩
  | 85 => ⟨S167x256x2816, .f32⟩
  | 86 => ⟨S167x256x2816, .f32⟩
  | 87 => ⟨S_, .f32⟩
  | 88 => ⟨S167x256x2816, .f32⟩
  | 89 => ⟨S167x256x2816, .f32⟩
  | 90 => ⟨S_, .f32⟩
  | 91 => ⟨S167x256x2816, .f32⟩
  | 92 => ⟨S167x256x2816, .f32⟩
  | 93 => ⟨S167x256x2816, .f32⟩
  | 94 => ⟨S167x256x2816, .f32⟩
  | 95 => ⟨S167x256x2816, .f32⟩
  | 96 => ⟨S167x256x1024, .f32⟩
  | 97 => ⟨S167x256x1024, .f32⟩
  | 98 => ⟨S167x256x1024, .f32⟩
  | 99 => ⟨S_, .i32⟩
  | 100 => ⟨S167, .i32⟩
  | 101 => ⟨S167, .i1⟩
  | 102 => ⟨S167x1x1, .i1⟩
  | 103 => ⟨S_, .f32⟩
  | 104 => ⟨S_, .f32⟩
  | 105 => ⟨S167x256x1024, .i1⟩
  | 106 => ⟨S167x256x1024, .f32⟩
  | 107 => ⟨S167x256x1024, .f32⟩
  | 108 => ⟨S1x1024x2816, .f32⟩
  | 109 => ⟨S1024x2816, .f32⟩
  | 110 => ⟨S1x1024x2816, .f32⟩
  | 111 => ⟨S1024x2816, .f32⟩
  | 112 => ⟨S1x2816x1024, .f32⟩
  | 113 => ⟨S2816x1024, .f32⟩
  | 114 => ⟨S167x256x2816, .f32⟩
  | 115 => ⟨S167x256x2816, .f32⟩
  | 116 => ⟨S167x256x2816, .f32⟩
  | 117 => ⟨S_, .f32⟩
  | 118 => ⟨S167x256x2816, .f32⟩
  | 119 => ⟨S167x256x2816, .f32⟩
  | 120 => ⟨S_, .f32⟩
  | 121 => ⟨S167x256x2816, .f32⟩
  | 122 => ⟨S167x256x2816, .f32⟩
  | 123 => ⟨S167x256x2816, .f32⟩
  | 124 => ⟨S167x256x2816, .f32⟩
  | 125 => ⟨S167x256x2816, .f32⟩
  | 126 => ⟨S167x256x1024, .f32⟩
  | 127 => ⟨S167x256x1024, .f32⟩
  | _ => ⟨S1336, .i32⟩

abbrev hbmTy0_1 (i : Nat) : BufTy := match i % 128 with
  | 0 => ⟨S167x256x1024, .f32⟩
  | 1 => ⟨S_, .i32⟩
  | 2 => ⟨S167, .i32⟩
  | 3 => ⟨S167, .i1⟩
  | 4 => ⟨S167x1x1, .i1⟩
  | 5 => ⟨S_, .f32⟩
  | 6 => ⟨S_, .f32⟩
  | 7 => ⟨S167x256x1024, .i1⟩
  | 8 => ⟨S167x256x1024, .f32⟩
  | 9 => ⟨S167x256x1024, .f32⟩
  | 10 => ⟨S1x1024x2816, .f32⟩
  | 11 => ⟨S1024x2816, .f32⟩
  | 12 => ⟨S1x1024x2816, .f32⟩
  | 13 => ⟨S1024x2816, .f32⟩
  | 14 => ⟨S1x2816x1024, .f32⟩
  | 15 => ⟨S2816x1024, .f32⟩
  | 16 => ⟨S167x256x2816, .f32⟩
  | 17 => ⟨S167x256x2816, .f32⟩
  | 18 => ⟨S167x256x2816, .f32⟩
  | 19 => ⟨S_, .f32⟩
  | 20 => ⟨S167x256x2816, .f32⟩
  | 21 => ⟨S167x256x2816, .f32⟩
  | 22 => ⟨S_, .f32⟩
  | 23 => ⟨S167x256x2816, .f32⟩
  | 24 => ⟨S167x256x2816, .f32⟩
  | 25 => ⟨S167x256x2816, .f32⟩
  | 26 => ⟨S167x256x2816, .f32⟩
  | 27 => ⟨S167x256x2816, .f32⟩
  | 28 => ⟨S167x256x1024, .f32⟩
  | 29 => ⟨S167x256x1024, .f32⟩
  | 30 => ⟨S167x256x1024, .f32⟩
  | 31 => ⟨S_, .i32⟩
  | 32 => ⟨S167, .i32⟩
  | 33 => ⟨S167, .i1⟩
  | 34 => ⟨S167x1x1, .i1⟩
  | 35 => ⟨S_, .f32⟩
  | 36 => ⟨S_, .f32⟩
  | 37 => ⟨S167x256x1024, .i1⟩
  | 38 => ⟨S167x256x1024, .f32⟩
  | 39 => ⟨S167x256x1024, .f32⟩
  | 40 => ⟨S1x1024x2816, .f32⟩
  | 41 => ⟨S1024x2816, .f32⟩
  | 42 => ⟨S1x1024x2816, .f32⟩
  | 43 => ⟨S1024x2816, .f32⟩
  | 44 => ⟨S1x2816x1024, .f32⟩
  | 45 => ⟨S2816x1024, .f32⟩
  | 46 => ⟨S167x256x2816, .f32⟩
  | 47 => ⟨S167x256x2816, .f32⟩
  | 48 => ⟨S167x256x2816, .f32⟩
  | 49 => ⟨S_, .f32⟩
  | 50 => ⟨S167x256x2816, .f32⟩
  | 51 => ⟨S167x256x2816, .f32⟩
  | 52 => ⟨S_, .f32⟩
  | 53 => ⟨S167x256x2816, .f32⟩
  | 54 => ⟨S167x256x2816, .f32⟩
  | 55 => ⟨S167x256x2816, .f32⟩
  | 56 => ⟨S167x256x2816, .f32⟩
  | 57 => ⟨S167x256x2816, .f32⟩
  | 58 => ⟨S167x256x1024, .f32⟩
  | 59 => ⟨S167x256x1024, .f32⟩
  | 60 => ⟨S167x256x1024, .f32⟩
  | 61 => ⟨S_, .i32⟩
  | 62 => ⟨S167, .i32⟩
  | 63 => ⟨S167, .i1⟩
  | 64 => ⟨S167x1x1, .i1⟩
  | 65 => ⟨S_, .f32⟩
  | 66 => ⟨S_, .f32⟩
  | 67 => ⟨S167x256x1024, .i1⟩
  | 68 => ⟨S167x256x1024, .f32⟩
  | 69 => ⟨S167x256x1024, .f32⟩
  | 70 => ⟨S1x1024x2816, .f32⟩
  | 71 => ⟨S1024x2816, .f32⟩
  | 72 => ⟨S1x1024x2816, .f32⟩
  | 73 => ⟨S1024x2816, .f32⟩
  | 74 => ⟨S1x2816x1024, .f32⟩
  | 75 => ⟨S2816x1024, .f32⟩
  | 76 => ⟨S167x256x2816, .f32⟩
  | 77 => ⟨S167x256x2816, .f32⟩
  | 78 => ⟨S167x256x2816, .f32⟩
  | 79 => ⟨S_, .f32⟩
  | 80 => ⟨S167x256x2816, .f32⟩
  | 81 => ⟨S167x256x2816, .f32⟩
  | 82 => ⟨S_, .f32⟩
  | 83 => ⟨S167x256x2816, .f32⟩
  | 84 => ⟨S167x256x2816, .f32⟩
  | 85 => ⟨S167x256x2816, .f32⟩
  | 86 => ⟨S167x256x2816, .f32⟩
  | 87 => ⟨S167x256x2816, .f32⟩
  | 88 => ⟨S167x256x1024, .f32⟩
  | 89 => ⟨S167x256x1024, .f32⟩
  | 90 => ⟨S167x256x1024, .f32⟩
  | 91 => ⟨S_, .i32⟩
  | 92 => ⟨S167, .i32⟩
  | 93 => ⟨S167, .i1⟩
  | 94 => ⟨S167x1x1, .i1⟩
  | 95 => ⟨S_, .f32⟩
  | 96 => ⟨S_, .f32⟩
  | 97 => ⟨S167x256x1024, .i1⟩
  | 98 => ⟨S167x256x1024, .f32⟩
  | 99 => ⟨S167x256x1024, .f32⟩
  | 100 => ⟨S1x1024x2816, .f32⟩
  | 101 => ⟨S1024x2816, .f32⟩
  | 102 => ⟨S1x1024x2816, .f32⟩
  | 103 => ⟨S1024x2816, .f32⟩
  | 104 => ⟨S1x2816x1024, .f32⟩
  | 105 => ⟨S2816x1024, .f32⟩
  | 106 => ⟨S167x256x2816, .f32⟩
  | 107 => ⟨S167x256x2816, .f32⟩
  | 108 => ⟨S167x256x2816, .f32⟩
  | 109 => ⟨S_, .f32⟩
  | 110 => ⟨S167x256x2816, .f32⟩
  | 111 => ⟨S167x256x2816, .f32⟩
  | 112 => ⟨S_, .f32⟩
  | 113 => ⟨S167x256x2816, .f32⟩
  | 114 => ⟨S167x256x2816, .f32⟩
  | 115 => ⟨S167x256x2816, .f32⟩
  | 116 => ⟨S167x256x2816, .f32⟩
  | 117 => ⟨S167x256x2816, .f32⟩
  | 118 => ⟨S167x256x1024, .f32⟩
  | 119 => ⟨S167x256x1024, .f32⟩
  | 120 => ⟨S167x256x1024, .f32⟩
  | 121 => ⟨S_, .i32⟩
  | 122 => ⟨S167, .i32⟩
  | 123 => ⟨S167, .i1⟩
  | 124 => ⟨S167x1x1, .i1⟩
  | 125 => ⟨S_, .f32⟩
  | 126 => ⟨S_, .f32⟩
  | 127 => ⟨S167x256x1024, .i1⟩
  | _ => ⟨S1336, .i32⟩

abbrev hbmTy0_2 (i : Nat) : BufTy := match i % 128 with
  | 0 => ⟨S167x256x1024, .f32⟩
  | 1 => ⟨S167x256x1024, .f32⟩
  | 2 => ⟨S1x1024x2816, .f32⟩
  | 3 => ⟨S1024x2816, .f32⟩
  | 4 => ⟨S1x1024x2816, .f32⟩
  | 5 => ⟨S1024x2816, .f32⟩
  | 6 => ⟨S1x2816x1024, .f32⟩
  | 7 => ⟨S2816x1024, .f32⟩
  | 8 => ⟨S167x256x2816, .f32⟩
  | 9 => ⟨S167x256x2816, .f32⟩
  | 10 => ⟨S167x256x2816, .f32⟩
  | 11 => ⟨S_, .f32⟩
  | 12 => ⟨S167x256x2816, .f32⟩
  | 13 => ⟨S167x256x2816, .f32⟩
  | 14 => ⟨S_, .f32⟩
  | 15 => ⟨S167x256x2816, .f32⟩
  | 16 => ⟨S167x256x2816, .f32⟩
  | 17 => ⟨S167x256x2816, .f32⟩
  | 18 => ⟨S167x256x2816, .f32⟩
  | 19 => ⟨S167x256x2816, .f32⟩
  | 20 => ⟨S167x256x1024, .f32⟩
  | 21 => ⟨S167x256x1024, .f32⟩
  | 22 => ⟨S167x256x1024, .f32⟩
  | 23 => ⟨S167x256x1024, .bf16⟩
  | _ => ⟨S1336, .i32⟩

abbrev hbmTy (i : Nat) : BufTy := match i / 128 with
  | 0 => hbmTy0_0 i
  | 1 => hbmTy0_1 i
  | 2 => hbmTy0_2 i
  | _ => ⟨S1336, .i32⟩

abbrev bufTy : (tb : Table) → Fin (tcTables nBuf tb) → BufTy
  | .hbm, ⟨i, _⟩ => hbmTy i
  | _, _ => ⟨S1336, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_7 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_8 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_9 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_10 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_11 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_12 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_call9_v0 : Ref sig .tc := ⟨.hbm, 175, rfl⟩
abbrev main_call9_v1 : Ref sig .tc := ⟨.hbm, 176, rfl⟩
abbrev main_call9_cst : Ref sig .tc := ⟨.hbm, 177, rfl⟩
abbrev main_call9_v2 : Ref sig .tc := ⟨.hbm, 178, rfl⟩
abbrev main_call9_v3 : Ref sig .tc := ⟨.hbm, 179, rfl⟩
abbrev main_call9_cst_0 : Ref sig .tc := ⟨.hbm, 180, rfl⟩
abbrev main_call9_v4 : Ref sig .tc := ⟨.hbm, 181, rfl⟩
abbrev main_call9_v5 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_c_13 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_cst_14 : Ref sig .tc := ⟨.hbm, 193, rfl⟩
abbrev main_call10_v0 : Ref sig .tc := ⟨.hbm, 194, rfl⟩
abbrev main_call10_v1 : Ref sig .tc := ⟨.hbm, 195, rfl⟩
abbrev main_call10_v2 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_call11_v0 : Ref sig .tc := ⟨.hbm, 205, rfl⟩
abbrev main_call11_v1 : Ref sig .tc := ⟨.hbm, 206, rfl⟩
abbrev main_call11_cst : Ref sig .tc := ⟨.hbm, 207, rfl⟩
abbrev main_call11_v2 : Ref sig .tc := ⟨.hbm, 208, rfl⟩
abbrev main_call11_v3 : Ref sig .tc := ⟨.hbm, 209, rfl⟩
abbrev main_call11_cst_0 : Ref sig .tc := ⟨.hbm, 210, rfl⟩
abbrev main_call11_v4 : Ref sig .tc := ⟨.hbm, 211, rfl⟩
abbrev main_call11_v5 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_c_15 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_cst_16 : Ref sig .tc := ⟨.hbm, 223, rfl⟩
abbrev main_call12_v0 : Ref sig .tc := ⟨.hbm, 224, rfl⟩
abbrev main_call12_v1 : Ref sig .tc := ⟨.hbm, 225, rfl⟩
abbrev main_call12_v2 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_call13_v0 : Ref sig .tc := ⟨.hbm, 235, rfl⟩
abbrev main_call13_v1 : Ref sig .tc := ⟨.hbm, 236, rfl⟩
abbrev main_call13_cst : Ref sig .tc := ⟨.hbm, 237, rfl⟩
abbrev main_call13_v2 : Ref sig .tc := ⟨.hbm, 238, rfl⟩
abbrev main_call13_v3 : Ref sig .tc := ⟨.hbm, 239, rfl⟩
abbrev main_call13_cst_0 : Ref sig .tc := ⟨.hbm, 240, rfl⟩
abbrev main_call13_v4 : Ref sig .tc := ⟨.hbm, 241, rfl⟩
abbrev main_call13_v5 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_c_17 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_cst_18 : Ref sig .tc := ⟨.hbm, 253, rfl⟩
abbrev main_call14_v0 : Ref sig .tc := ⟨.hbm, 254, rfl⟩
abbrev main_call14_v1 : Ref sig .tc := ⟨.hbm, 255, rfl⟩
abbrev main_call14_v2 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_call15_v0 : Ref sig .tc := ⟨.hbm, 265, rfl⟩
abbrev main_call15_v1 : Ref sig .tc := ⟨.hbm, 266, rfl⟩
abbrev main_call15_cst : Ref sig .tc := ⟨.hbm, 267, rfl⟩
abbrev main_call15_v2 : Ref sig .tc := ⟨.hbm, 268, rfl⟩
abbrev main_call15_v3 : Ref sig .tc := ⟨.hbm, 269, rfl⟩
abbrev main_call15_cst_0 : Ref sig .tc := ⟨.hbm, 270, rfl⟩
abbrev main_call15_v4 : Ref sig .tc := ⟨.hbm, 271, rfl⟩
abbrev main_call15_v5 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩

abbrev nD : Nat := 1
abbrev τ : Topo := Topo.v7x

variable {F : FTy → Type} [FloatOps F]
-- ==== Kernel4.lean ====
abbrev S2x8192x1024 : Shape := ⟨3, ![2, 8192, 1024]⟩
abbrev S8x1x1024 : Shape := ⟨3, ![8, 1, 1024]⟩
abbrev S2x8192x512 : Shape := ⟨3, ![2, 8192, 512]⟩
abbrev S16384x256 : Shape := ⟨2, ![16384, 256]⟩
abbrev S16384x3072 : Shape := ⟨2, ![16384, 3072]⟩
abbrev S512x1024 : Shape := ⟨2, ![512, 1024]⟩
abbrev S256x1024 : Shape := ⟨2, ![256, 1024]⟩
abbrev S1024x1024 : Shape := ⟨2, ![1024, 1024]⟩
abbrev S16384x1024 : Shape := ⟨2, ![16384, 1024]⟩
abbrev S16384x512 : Shape := ⟨2, ![16384, 512]⟩
abbrev S1x1x1024 : Shape := ⟨3, ![1, 1, 1024]⟩
abbrev S1024x512 : Shape := ⟨2, ![1024, 512]⟩
abbrev S1024x256 : Shape := ⟨2, ![1024, 256]⟩
abbrev S1024x3072 : Shape := ⟨2, ![1024, 3072]⟩
abbrev S1x1024 : Shape := ⟨2, ![1, 1024]⟩

abbrev nBuf : Space → Nat
  | .hbm => 17
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S8x1x1024, .f32⟩
  | .hbm, ⟨2, _⟩ => ⟨S2x8192x512, .bf16⟩
  | .hbm, ⟨3, _⟩ => ⟨S16384x256, .f32⟩
  | .hbm, ⟨4, _⟩ => ⟨S16384x256, .f32⟩
  | .hbm, ⟨5, _⟩ => ⟨S16384x3072, .bf16⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S16384x1024, .f32⟩
  | .hbm, ⟨11, _⟩ => ⟨S16384x512, .bf16⟩
  | .hbm, ⟨12, _⟩ => ⟨S512x1024, .bf16⟩
  | .hbm, ⟨13, _⟩ => ⟨S256x1024, .bf16⟩
  | .hbm, ⟨14, _⟩ => ⟨S256x1024, .bf16⟩
  | .hbm, ⟨15, _⟩ => ⟨S1024x1024, .bf16⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x3072, .bf16⟩
  | .local _ .vmem, ⟨11, _⟩ => ⟨S1024x3072, .bf16⟩
  | .local _ .vmem, ⟨12, _⟩ => ⟨S512x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x8192x1024 : Shape := ⟨3, ![2, 8192, 1024]⟩
abbrev S8x1x1024 : Shape := ⟨3, ![8, 1, 1024]⟩
abbrev S2x8192x512 : Shape := ⟨3, ![2, 8192, 512]⟩
abbrev S16384x256 : Shape := ⟨2, ![16384, 256]⟩
abbrev S16384x3072 : Shape := ⟨2, ![16384, 3072]⟩
abbrev S512x1024 : Shape := ⟨2, ![512, 1024]⟩
abbrev S256x1024 : Shape := ⟨2, ![256, 1024]⟩
abbrev S1024x1024 : Shape := ⟨2, ![1024, 1024]⟩
abbrev S2x1x1024 : Shape := ⟨3, ![2, 1, 1024]⟩
abbrev S2x1024 : Shape := ⟨2, ![2, 1024]⟩
abbrev S2x8192x256 : Shape := ⟨3, ![2, 8192, 256]⟩
abbrev S2x8192x3x1024 : Shape := ⟨4, ![2, 8192, 3, 1024]⟩
abbrev S2x8192x1x1024 : Shape := ⟨4, ![2, 8192, 1, 1024]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x1x1024, .f32⟩
  | .hbm, ⟨2, _⟩ => ⟨S2x8192x512, .bf16⟩
  | .hbm, ⟨3, _⟩ => ⟨S16384x256, .f32⟩
  | .hbm, ⟨4, _⟩ => ⟨S16384x256, .f32⟩
  | .hbm, ⟨5, _⟩ => ⟨S16384x3072, .bf16⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S2x1x1024, .f32⟩
  | .hbm, ⟨11, _⟩ => ⟨S2x1024, .f32⟩
  | .hbm, ⟨12, _⟩ => ⟨S2x8192x512, .f32⟩
  | .hbm, ⟨13, _⟩ => ⟨S2x8192x256, .f32⟩
  | .hbm, ⟨14, _⟩ => ⟨S2x8192x256, .f32⟩
  | .hbm, ⟨15, _⟩ => ⟨S16384x3072, .f32⟩
  | .hbm, ⟨16, _⟩ => ⟨S2x8192x3x1024, .f32⟩
  | .hbm, ⟨17, _⟩ => ⟨S2x8192x1x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Stage.lean ====
module

public import proofs.«01_k».proof.Proof.Gen.Kernel.Value

/-! # The kernel's stores, one formula for all sixteen

At a grid point the body writes sixteen rows of packed words, one store each. Here the arithmetic of one row is written once,
over any carrier of floats (two transforms of a pair of rows, the product with the filter's spectrum between them, the twiddle
factor after them), and the list of stores the run finds is shown to be that formula at the sixteen rows. -/

@[expose] public section

noncomputable section

namespace Cert.Kernel.Hand

open Idealize.ShloMosaic Idealize.ShloMosaic.TcCoe Idealize.ShloMosaic.Tactic
open Cert.Kernel Cert.Kernel.Gen

variable {F : FTy → Type} [BitOps F]

/-- The two products of a transform and their sum: the real and the imaginary column block of the matrix. -/
def prods (g0 g1 : Vec F S1x256x128 .bf16) (re im : FVec F S128x256 .bf16) : FVec F S256x256 .f32 :=
  addf (matmul dot_S256x128_S128x256_S256x256_1_0_0_1_n_n none (shapeCast S256x128 g0 shapeCasts_S1x256x128_S256x128) re (constant S256x256 .f32 0x00000000#32))
    (matmul dot_S256x128_S128x256_S256x256_1_0_0_1_n_n none (shapeCast S256x128 g1 shapeCasts_S1x256x128_S256x128) im (constant S256x256 .f32 0x00000000#32))

/-- The left or the right 128 lanes of the products. -/
def lanes : Fin 2 → FVec F S256x256 .f32 → FVec F S256x128 .f32
  | 0, a => extractStridedSlice S256x128 ![0, 0] a slices_S256x256_o0_0_S256x128
  | 1, a => extractStridedSlice S256x128 ![0, 128] a slices_S256x256_o0_128_S256x128

/-- The upper (real) 128 rows of one half of the products, -/
def re (u : Fin 2) (a : FVec F S256x256 .f32) : FVec F S128x128 .f32 :=
  extractStridedSlice S128x128 ![0, 0] (lanes u a) slices_S256x128_o0_0_S128x128

/-- and the lower (imaginary) ones. -/
def im (u : Fin 2) (a : FVec F S256x256 .f32) : FVec F S128x128 .f32 :=
  extractStridedSlice S128x128 ![128, 0] (lanes u a) slices_S256x128_o128_0_S128x128

/-- The kernel's inverse norm. -/
def inv (n : Vec F S1x128 .f32) : FVec F S1x128 .f32 := divf (broadcast S1x128 (Scalar.ofBits .f32 0x3F800000#32)) n

/-- One half of a row of the filter's words, scaled. -/
def scaled (n : FVec F S1x128 .f32) (k : FVec F S128x128 .f32) : FVec F S128x128 .f32 :=
  mulf k (broadcastTo S128x128 n broadcasts_S1x128_S128x128)

/-- The product with the filter's spectrum, real part, -/
def specRe (n : FVec F S1x128 .f32) (u : Fin 2) (a : FVec F S256x256 .f32) (k : IVec S128x128 32) : FVec F S128x128 .f32 :=
  subf (mulf (re u a) (scaled n (unpackElementwise 0 k))) (mulf (im u a) (scaled n (unpackElementwise 1 k)))

/-- and imaginary part. -/
def specIm (n : FVec F S1x128 .f32) (u : Fin 2) (a : FVec F S256x256 .f32) (k : IVec S128x128 32) : FVec F S128x128 .f32 :=
  addf (mulf (re u a) (scaled n (unpackElementwise 1 k))) (mulf (im u a) (scaled n (unpackElementwise 0 k)))

/-- Two rows' values beside one another, rounded. -/
def beside (a b : FVec F S128x128 .f32) : FVec F S128x256 .bf16 :=
  concatenate S128x256 1 [⟨S128x128, truncf .bf16 a bitsLt_bf16_f32⟩, ⟨S128x128, truncf .bf16 b bitsLt_bf16_f32⟩] concatenates_S128x128_S128x128_S128x256_d1

/-- What the two transforms make of two rows of words `a`, `b` under the filter rows `ka`, `kb`. -/
def pair (g0 g1 h0 h1 : Vec F S1x256x128 .bf16) (n : FVec F S1x128 .f32) (a b ka kb : IVec S128x128 32) : FVec F S256x256 .f32 :=
  let s := prods g0 g1 (beside (unpackElementwise 0 a) (unpackElementwise 0 b)) (beside (unpackElementwise 1 a) (unpackElementwise 1 b))
  prods h0 h1 (beside (specRe n 0 s ka) (specRe n 1 s kb)) (beside (specIm n 0 s ka) (specIm n 1 s kb))

/-- One turn of a twiddle factor. -/
def turn (cr ci : FVec F S128x128 .f32) (t : FVec F S128x128 .f32 × FVec F S128x128 .f32) : FVec F S128x128 .f32 × FVec F S128x128 .f32 :=
  (subf (mulf t.1 cr) (mulf t.2 ci), addf (mulf t.1 ci) (mulf t.2 cr))

/-- The twiddle factor of row `j` of a block: the block's own, turned `j` times. -/
def tw (tr ti cr ci : FVec F S128x128 .f32) : ℕ → FVec F S128x128 .f32 × FVec F S128x128 .f32
  | 0 => (tr, ti)
  | j + 1 => turn cr ci (tw tr ti cr ci j)

/-- The words of one row: the turned real part in the low half, the imaginary part in the high one. -/
def packed (t : FVec F S128x128 .f32 × FVec F S128x128 .f32) (u : Fin 2) (a : FVec F S256x256 .f32) : IVec S128x128 32 :=
  packElementwise (subf (mulf (re u a) t.1) (mulf (im u a) t.2)) (addf (mulf (re u a) t.2) (mulf (im u a) t.1))

/-- They as the body stores them. -/
def word (t : FVec F S128x128 .f32 × FVec F S128x128 .f32) (u : Fin 2) (a : FVec F S256x256 .f32) : IVec S1x1x128x128 32 :=
  shapeCast S1x1x128x128 (packed t u a) shapeCasts_S128x128_S1x1x128x128

theorem inb16 (j : Fin 16) : ∀ a : Fin 2, S128x128.size a = 0 ∨ (![j.val, 0] : Fin 2 → ℕ) a + (![16, 1] : Fin 2 → ℕ) a * (S128x128.size a - 1) < S2048x128.size a := by
  intro a; right; fin_cases a
  · show j.val + 16 * 127 < 2048; omega
  · show 0 + 1 * 127 < 128; omega

/-- Row `j` of a staged block of words, as the body loads it: every sixteenth row of the block's 2048. -/
def ld (b : Memref sig .tc .vmem S1x128x16x128 .i32) (h : b.IsWhole) (x : Vec F S1x128x16x128 .i32) (j : Fin 16) : IVec S128x128 32 :=
  shapeCast S128x128 (View.readAt (Elt F) (b.reshape S2048x128 reshapes_S1x128x16x128_S2048x128.1 reshapes_S1x128x16x128_S2048x128.2 h.contiguous).view
    ⟨![j.val, 0], S128x128.size, ![16, 1], inb16 j⟩ (h.unread x)) shapeCasts_S128x128_S128x128

/-- A matrix's column block as the body loads it. -/
def mat (b : Memref sig .tc .vmem S2x256x128 .bf16) (h : b.IsWhole) (x : Vec F S2x256x128 .bf16) : Fin 2 → Vec F S1x256x128 .bf16
  | 0 => View.readAt (Elt F) b.view (Rect.unit (s := S2x256x128) ![0, 0, 0] S1x256x128.size inb_S2x256x128_S1x256x128_0_0_0).toLoadRect (h.unread x)
  | 1 => View.readAt (Elt F) b.view (Rect.unit (s := S2x256x128) ![1, 0, 0] S1x256x128.size inb_S2x256x128_S1x256x128_1_0_0).toLoadRect (h.unread x)

variable (c : Dev nD) (i : grid0.Coords) (arg3 : Memref sig .tc .vmem S1x128x16x128 .i32) (harg3 : arg3.IsWhole) (arg4 : Memref sig .tc .vmem S2x256x128 .bf16) (harg4 : arg4.IsWhole) (arg5 : Memref sig .tc .vmem S2x256x128 .bf16) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x16x128 .i32) (harg10 : arg10.IsWhole) (arg11 : Memref sig .tc .vmem S1x128 .f32) (harg11 : arg11.IsWhole) (arg12 : Memref sig .tc .vmem S1x16x128x128 .i32) (harg12 : arg12.IsWhole)
  (x0 : Vec F S1x128x16x128 .i32) (x1 : Vec F S2x256x128 .bf16) (x2 : Vec F S2x256x128 .bf16) (x3 : Vec F S1x128x128 .f32) (x4 : Vec F S1x128x128 .f32) (x5 : Vec F S128x128 .f32) (x6 : Vec F S128x128 .f32) (x7 : Vec F S1x128x16x128 .i32) (x8 : Vec F S1x128 .f32)

/-- The block's twiddle factors. -/
def twl (j : ℕ) := tw (F := F)
  (shapeCast S128x128 (View.readAt (Elt F) arg6.view (Rect.unit ![0, 0, 0] S1x128x128.size inb_S1x128x128_S1x128x128_0_0_0).toLoadRect (harg6.unread x3)) shapeCasts_S1x128x128_S128x128)
  (shapeCast S128x128 (View.readAt (Elt F) arg7.view (Rect.unit ![0, 0, 0] S1x128x128.size inb_S1x128x128_S1x128x128_0_0_0).toLoadRect (harg7.unread x4)) shapeCasts_S1x128x128_S128x128)
  (View.readAt (Elt F) arg8.view (Rect.unit ![0, 0] S128x128.size inb_S128x128_S128x128_0_0).toLoadRect (harg8.unread x5))
  (View.readAt (Elt F) arg9.view (Rect.unit ![0, 0] S128x128.size inb_S128x128_S128x128_0_0).toLoadRect (harg9.unread x6)) j

/-- The transforms of rows `a` and `b`. -/
def pairl (a b : Fin 16) := pair (F := F) (mat arg4 harg4 x1 0) (mat arg4 harg4 x1 1) (mat arg5 harg5 x2 0) (mat arg5 harg5 x2 1)
  (inv (View.readAt (Elt F) arg11.view (Rect.unit ![0, 0] S1x128.size inb_S1x128_S1x128_0_0).toLoadRect (harg11.unread x8)))
  (ld arg3 harg3 x0 a) (ld arg3 harg3 x0 b) (ld arg10 harg10 x7 a) (ld arg10 harg10 x7 b)

theorem inbRow (j : Fin 16) : ∀ a : Fin 4, (![0, j.val, 0, 0] : Fin 4 → ℕ) a + (![1, 1, 128, 128] : Fin 4 → ℕ) a ≤ S1x16x128x128.size a := by
  intro a; fin_cases a
  · show 0 + 1 ≤ 1; omega
  · show j.val + 1 ≤ 16; omega
  · show 0 + 128 ≤ 128; omega
  · show 0 + 128 ≤ 128; omega

/-- One turn by the loaded factors. -/
def turnl (t : FVec F S128x128 .f32 × FVec F S128x128 .f32) := turn (F := F) (View.readAt (Elt F) arg8.view (Rect.unit ![0, 0] S128x128.size inb_S128x128_S128x128_0_0).toLoadRect (harg8.unread x5)) (View.readAt (Elt F) arg9.view (Rect.unit ![0, 0] S128x128.size inb_S128x128_S128x128_0_0).toLoadRect (harg9.unread x6)) t

theorem twl_succ (j : ℕ) : twl arg6 harg6 arg7 harg7 arg8 harg8 arg9 harg9 x3 x4 x5 x6 (j + 1) = turnl arg8 harg8 arg9 harg9 x5 x6 (twl arg6 harg6 arg7 harg7 arg8 harg8 arg9 harg9 x3 x4 x5 x6 j) := rfl

/-! The factors the body keeps between its parts are turns of the block's. -/

theorem kept2 : (kernelRun0_A.sl.r_8 c arg6 harg6 arg7 harg7 arg8 harg8 arg9 harg9 x3 x4 x5 x6, kernelRun0_A.sl.r_9 c arg6 harg6 arg7 harg7 arg8 harg8 arg9 harg9 x3 x4 x5 x6) = turnl arg8 harg8 arg9 harg9 x5 x6 (turnl arg8 harg8 arg9 harg9 x5 x6 (twl arg6 harg6 arg7 harg7 arg8 harg8 arg9 harg9 x3 x4 x5 x6 0)) := rfl

theorem kept3 : (kernelRun0_A.sl.r_20 c arg6 harg6 arg7 harg7 arg8 harg8 arg9 harg9 x3 x4 x5 x6, kernelRun0_A.sl.r_21 c arg6 harg6 arg7 harg7 arg8 harg8 arg9 harg9 x3 x4 x5 x6) = turnl arg8 harg8 arg9 harg9 x5 x6 (kernelRun0_A.sl.r_8 c arg6 harg6 arg7 harg7 arg8 harg8 arg9 harg9 x3 x4 x5 x6, kernelRun0_A.sl.r_9 c arg6 harg6 arg7 harg7 arg8 harg8 arg9 harg9 x3 x4 x5 x6) := rfl

theorem kept4 : (kernelRun0_A.sl.r_26 c arg6 harg6 arg7 harg7 arg8 harg8 arg9 harg9 x3 x4 x5 x6, kernelRun0_A.sl.r_27 c arg6 harg6 arg7 harg7 arg8 harg8 arg9 harg9 x3 x4 x5 x6) = turnl arg8 harg8 arg9 harg9 x5 x6 (kernelRun0_A.sl.r_20 c arg6 harg6 arg7 harg7 arg8 harg8 arg9 harg9 x3 x4 x5 x6, kernelRun0_A.sl.r_21 c arg6 harg6 arg7 harg7 arg8 harg8 arg9 harg9 x3 x4 x5 x6) := rfl

theorem kept6 : (kernelRun0_A.sl.r_39 c arg6 harg6 arg7 harg7 arg8 harg8 arg9 harg9 x3 x4 x5 x6, kernelRun0_A.sl.r_40 c arg6 harg6 arg7 harg7 arg8 harg8 arg9 harg9 x3 x4 x5 x6) = turnl arg8 harg8 arg9 harg9 x5 x6 (turnl arg8 harg8 arg9 harg9 x5 x6 (kernelRun0_A.sl.r_26 c arg6 harg6 arg7 harg7 arg8 harg8 arg9 harg9 x3 x4 x5 x6, kernelRun0_A.sl.r_27 c arg6 harg6 arg7 harg7 arg8 harg8 arg9 harg9 x3 x4 x5 x6)) := rfl

theorem kept8 : (kernelRun0_A.sl.r_49 c arg6 harg6 arg7 harg7 arg8 harg8 arg9 harg9 x3 x4 x5 x6, kernelRun0_A.sl.r_50 c arg6 harg6 arg7 harg7 arg8 harg8 arg9 harg9 x3 x4 x5 x6) = turnl arg8 harg8 arg9 harg9 x5 x6 (turnl arg8 harg8 arg9 harg9 x5 x6 (kernelRun0_A.sl.r_39 c arg6 harg6 arg7 harg7 arg8 harg8 arg9 harg9 x3 x4 x5 x6, kernelRun0_A.sl.r_40 c arg6 harg6 arg7 harg7 arg8 harg8 arg9 harg9 x3 x4 x5 x6)) := rfl

theorem kept9 : (kernelRun0_A.sl.r_58 c arg6 harg6 arg7 harg7 arg8 harg8 arg9 harg9 x3 x4 x5 x6, kernelRun0_A.sl.r_59 c arg6 harg6 arg7 harg7 arg8 harg8 arg9 harg9 x3 x4 x5 x6) = turnl arg8 harg8 arg9 harg9 x5 x6 (kernelRun0_A.sl.r_49 c arg6 harg6 arg7 harg7 arg8 harg8 arg9 harg9 x3 x4 x5 x6, kernelRun0_A.sl.r_50 c arg6 harg6 arg7 harg7 arg8 harg8 arg9 harg9 x3 x4 x5 x6) := rfl

theorem kept10 : (kernelRun0_A.sl.r_61 c arg6 harg6 arg7 harg7 arg8 harg8 arg9 harg9 x3 x4 x5 x6, kernelRun0_A.sl.r_62 c arg6 harg6 arg7 harg7 arg8 harg8 arg9 harg9 x3 x4 x5 x6) = turnl arg8 harg8 arg9 harg9 x5 x6 (kernelRun0_A.sl.r_58 c arg6 harg6 arg7 harg7 arg8 harg8 arg9 harg9 x3 x4 x5 x6, kernelRun0_A.sl.r_59 c arg6 harg6 arg7 harg7 arg8 harg8 arg9 harg9 x3 x4 x5 x6) := rfl

theorem kept12 : (kernelRun0_A.sl.r_66 c arg6 harg6 arg7 harg7 arg8 harg8 arg9 harg9 x3 x4 x5 x6, kernelRun0_A.sl.r_67 c arg6 harg6 arg7 harg7 arg8 harg8 arg9 harg9 x3 x4 x5 x6) = turnl arg8 harg8 arg9 harg9 x5 x6 (turnl arg8 harg8 arg9 harg9 x5 x6 (kernelRun0_A.sl.r_61 c arg6 harg6 arg7 harg7 arg8 harg8 arg9 harg9 x3 x4 x5 x6, kernelRun0_A.sl.r_62 c arg6 harg6 arg7 harg7 arg8 harg8 arg9 harg9 x3 x4 x5 x6)) := rfl

theorem kept13 : (kernelRun0_A.sl.r_78 c arg6 harg6 arg7 harg7 arg8 harg8 arg9 harg9 x3 x4 x5 x6, kernelRun0_A.sl.r_79 c arg6 harg6 arg7 harg7 arg8 harg8 arg9 harg9 x3 x4 x5 x6) = turnl arg8 harg8 arg9 harg9 x5 x6 (kernelRun0_A.sl.r_66 c arg6 harg6 arg7 harg7 arg8 harg8 arg9 harg9 x3 x4 x5 x6, kernelRun0_A.sl.r_67 c arg6 harg6 arg7 harg7 arg8 harg8 arg9 harg9 x3 x4 x5 x6) := rfl

theorem kept14 : (kernelRun0_A.sl.r_84 c arg6 harg6 arg7 harg7 arg8 harg8 arg9 harg9 x3 x4 x5 x6, kernelRun0_A.sl.r_85 c arg6 harg6 arg7 harg7 arg8 harg8 arg9 harg9 x3 x4 x5 x6) = turnl arg8 harg8 arg9 harg9 x5 x6 (kernelRun0_A.sl.r_78 c arg6 harg6 arg7 harg7 arg8 harg8 arg9 harg9 x3 x4 x5 x6, kernelRun0_A.sl.r_79 c arg6 harg6 arg7 harg7 arg8 harg8 arg9 harg9 x3 x4 x5 x6) := rfl

/-- The store of row `j` with the factor `t`: of its pair of rows, `2 (j / 2)` and the next, the `j % 2`-th. -/
def pieceOf (t : FVec F S128x128 .f32 × FVec F S128x128 .f32) (j : Fin 16) : View.Piece (Elt F) S1x16x128x128 .i32 :=
  ⟨Rect.unit ![0, j.val, 0, 0] ![1, 1, 128, 128] (inbRow j), word t ⟨j.val % 2, Nat.mod_lt _ (by decide)⟩
    (pairl arg3 harg3 arg4 harg4 arg5 harg5 arg10 harg10 arg11 harg11 x0 x1 x2 x7 x8 ⟨2 * (j.val / 2), by omega⟩ ⟨2 * (j.val / 2) + 1, by omega⟩)⟩

set_option maxHeartbeats 4000000 in
/-- The body's stores are the sixteen rows', last first, with the factors it keeps. -/
theorem pieces_kept : (kernelRun0_A c i arg3 harg3 arg4 harg4 arg5 harg5 arg6 harg6 arg7 harg7 arg8 harg8 arg9 harg9 arg10 harg10 arg11 harg11 arg12 harg12 x0 x1 x2 x3 x4 x5 x6 x7 x8).1 = [pieceOf arg3 harg3 arg4 harg4 arg5 harg5 arg10 harg10 arg11 harg11 x0 x1 x2 x7 x8 (turnl arg8 harg8 arg9 harg9 x5 x6 (kernelRun0_A.sl.r_84 c arg6 harg6 arg7 harg7 arg8 harg8 arg9 harg9 x3 x4 x5 x6, kernelRun0_A.sl.r_85 c arg6 harg6 arg7 harg7 arg8 harg8 arg9 harg9 x3 x4 x5 x6)) 15,
      pieceOf arg3 harg3 arg4 harg4 arg5 harg5 arg10 harg10 arg11 harg11 x0 x1 x2 x7 x8 (kernelRun0_A.sl.r_84 c arg6 harg6 arg7 harg7 arg8 harg8 arg9 harg9 x3 x4 x5 x6, kernelRun0_A.sl.r_85 c arg6 harg6 arg7 harg7 arg8 harg8 arg9 harg9 x3 x4 x5 x6) 14,
      pieceOf arg3 harg3 arg4 harg4 arg5 harg5 arg10 harg10 arg11 harg11 x0 x1 x2 x7 x8 (kernelRun0_A.sl.r_78 c arg6 harg6 arg7 harg7 arg8 harg8 arg9 harg9 x3 x4 x5 x6, kernelRun0_A.sl.r_79 c arg6 harg6 arg7 harg7 arg8 harg8 arg9 harg9 x3 x4 x5 x6) 13,
      pieceOf arg3 harg3 arg4 harg4 arg5 harg5 arg10 harg10 arg11 harg11 x0 x1 x2 x7 x8 (kernelRun0_A.sl.r_66 c arg6 harg6 arg7 harg7 arg8 harg8 arg9 harg9 x3 x4 x5 x6, kernelRun0_A.sl.r_67 c arg6 harg6 arg7 harg7 arg8 harg8 arg9 harg9 x3 x4 x5 x6) 12,
      pieceOf arg3 harg3 arg4 harg4 arg5 harg5 arg10 harg10 arg11 harg11 x0 x1 x2 x7 x8 (turnl arg8 harg8 arg9 harg9 x5 x6 (kernelRun0_A.sl.r_61 c arg6 harg6 arg7 harg7 arg8 harg8 arg9 harg9 x3 x4 x5 x6, kernelRun0_A.sl.r_62 c arg6 harg6 arg7 harg7 arg8 harg8 arg9 harg9 x3 x4 x5 x6)) 11,
      pieceOf arg3 harg3 arg4 harg4 arg5 harg5 arg10 harg10 arg11 harg11 x0 x1 x2 x7 x8 (kernelRun0_A.sl.r_61 c arg6 harg6 arg7 harg7 arg8 harg8 arg9 harg9 x3 x4 x5 x6, kernelRun0_A.sl.r_62 c arg6 harg6 arg7 harg7 arg8 harg8 arg9 harg9 x3 x4 x5 x6) 10,
      pieceOf arg3 harg3 arg4 harg4 arg5 harg5 arg10 harg10 arg11 harg11 x0 x1 x2 x7 x8 (kernelRun0_A.sl.r_58 c arg6 harg6 arg7 harg7 arg8 harg8 arg9 harg9 x3 x4 x5 x6, kernelRun0_A.sl.r_59 c arg6 harg6 arg7 harg7 arg8 harg8 arg9 harg9 x3 x4 x5 x6) 9,
      pieceOf arg3 harg3 arg4 harg4 arg5 harg5 arg10 harg10 arg11 harg11 x0 x1 x2 x7 x8 (kernelRun0_A.sl.r_49 c arg6 harg6 arg7 harg7 arg8 harg8 arg9 harg9 x3 x4 x5 x6, kernelRun0_A.sl.r_50 c arg6 harg6 arg7 harg7 arg8 harg8 arg9 harg9 x3 x4 x5 x6) 8,
      pieceOf arg3 harg3 arg4 harg4 arg5 harg5 arg10 harg10 arg11 harg11 x0 x1 x2 x7 x8 (turnl arg8 harg8 arg9 harg9 x5 x6 (kernelRun0_A.sl.r_39 c arg6 harg6 arg7 harg7 arg8 harg8 arg9 harg9 x3 x4 x5 x6, kernelRun0_A.sl.r_40 c arg6 harg6 arg7 harg7 arg8 harg8 arg9 harg9 x3 x4 x5 x6)) 7,
      pieceOf arg3 harg3 arg4 harg4 arg5 harg5 arg10 harg10 arg11 harg11 x0 x1 x2 x7 x8 (kernelRun0_A.sl.r_39 c arg6 harg6 arg7 harg7 arg8 harg8 arg9 harg9 x3 x4 x5 x6, kernelRun0_A.sl.r_40 c arg6 harg6 arg7 harg7 arg8 harg8 arg9 harg9 x3 x4 x5 x6) 6,
      pieceOf arg3 harg3 arg4 harg4 arg5 harg5 arg10 harg10 arg11 harg11 x0 x1 x2 x7 x8 (turnl arg8 harg8 arg9 harg9 x5 x6 (kernelRun0_A.sl.r_26 c arg6 harg6 arg7 harg7 arg8 harg8 arg9 harg9 x3 x4 x5 x6, kernelRun0_A.sl.r_27 c arg6 harg6 arg7 harg7 arg8 harg8 arg9 harg9 x3 x4 x5 x6)) 5,
      pieceOf arg3 harg3 arg4 harg4 arg5 harg5 arg10 harg10 arg11 harg11 x0 x1 x2 x7 x8 (kernelRun0_A.sl.r_26 c arg6 harg6 arg7 harg7 arg8 harg8 arg9 harg9 x3 x4 x5 x6, kernelRun0_A.sl.r_27 c arg6 harg6 arg7 harg7 arg8 harg8 arg9 harg9 x3 x4 x5 x6) 4,
      pieceOf arg3 harg3 arg4 harg4 arg5 harg5 arg10 harg10 arg11 harg11 x0 x1 x2 x7 x8 (kernelRun0_A.sl.r_20 c arg6 harg6 arg7 harg7 arg8 harg8 arg9 harg9 x3 x4 x5 x6, kernelRun0_A.sl.r_21 c arg6 harg6 arg7 harg7 arg8 harg8 arg9 harg9 x3 x4 x5 x6) 3,
      pieceOf arg3 harg3 arg4 harg4 arg5 harg5 arg10 harg10 arg11 harg11 x0 x1 x2 x7 x8 (kernelRun0_A.sl.r_8 c arg6 harg6 arg7 harg7 arg8 harg8 arg9 harg9 x3 x4 x5 x6, kernelRun0_A.sl.r_9 c arg6 harg6 arg7 harg7 arg8 harg8 arg9 harg9 x3 x4 x5 x6) 2,
      pieceOf arg3 harg3 arg4 harg4 arg5 harg5 arg10 harg10 arg11 harg11 x0 x1 x2 x7 x8 (turnl arg8 harg8 arg9 harg9 x5 x6 (twl arg6 harg6 arg7 harg7 arg8 harg8 arg9 harg9 x3 x4 x5 x6 0)) 1,
      pieceOf arg3 harg3 arg4 harg4 arg5 harg5 arg10 harg10 arg11 harg11 x0 x1 x2 x7 x8 (twl arg6 harg6 arg7 harg7 arg8 harg8 arg9 harg9 x3 x4 x5 x6 0) 0] := by
  unfold kernelRun0_A
  dsimp only
  refine congrArg₂ _ ?_ (congrArg₂ _ ?_ (congrArg₂ _ ?_ (congrArg₂ _ ?_ (congrArg₂ _ ?_ (congrArg₂ _ ?_ (congrArg₂ _ ?_ (congrArg₂ _ ?_
    (congrArg₂ _ ?_ (congrArg₂ _ ?_ (congrArg₂ _ ?_ (congrArg₂ _ ?_ (congrArg₂ _ ?_ (congrArg₂ _ ?_ (congrArg₂ _ ?_ (congrArg₂ _ ?_ rfl)))))))))))))))
  all_goals rfl

/-- The store of row `j` in terms of the block's factors. -/
def piece (j : Fin 16) : View.Piece (Elt F) S1x16x128x128 .i32 :=
  pieceOf arg3 harg3 arg4 harg4 arg5 harg5 arg10 harg10 arg11 harg11 x0 x1 x2 x7 x8 (twl arg6 harg6 arg7 harg7 arg8 harg8 arg9 harg9 x3 x4 x5 x6 j.val) j

/-- The body's stores are the sixteen rows', last first. -/
theorem pieces_eq : (kernelRun0_A c i arg3 harg3 arg4 harg4 arg5 harg5 arg6 harg6 arg7 harg7 arg8 harg8 arg9 harg9 arg10 harg10 arg11 harg11 arg12 harg12 x0 x1 x2 x3 x4 x5 x6 x7 x8).1
    = ([15, 14, 13, 12, 11, 10, 9, 8, 7, 6, 5, 4, 3, 2, 1, 0] : List (Fin 16)).map (piece arg3 harg3 arg4 harg4 arg5 harg5 arg6 harg6 arg7 harg7 arg8 harg8 arg9 harg9 arg10 harg10 arg11 harg11 x0 x1 x2 x3 x4 x5 x6 x7 x8) := by
  rw [pieces_kept, kept14, kept13, kept12, kept10, kept9, kept8, kept6, kept4, kept3, kept2]
  rfl

end Cert.Kernel.Hand
-- ==== Proof.Point.lean ====
module

public import proofs.«01_k».proof.Proof.Stage
public import Idealize.ShloMosaic.Lib.WholeRead
public import Idealize.ShloMosaic.Lib.Writes
public import Idealize.ShloMosaic.Lib.Pointwise

/-! # What the body leaves at one place of its output block

The loads are read back to entries of the staged blocks, so that each word stored is a function of the blocks alone. -/

@[expose] public section

noncomputable section

namespace Cert.Kernel.Hand

open Idealize.ShloMosaic Idealize.ShloMosaic.TcCoe Idealize.ShloMosaic.Tactic
open Cert.Kernel Cert.Kernel.Gen

variable {F : FTy → Type} [BitOps F]

/-- Row `j` of a block of words. -/
def rows (x : Vec F S1x128x16x128 .i32) (j : Fin 16) : IVec S128x128 32 := fun y => x (ix4 0 (y 0) j (y 1))

/-- Column block `k` of a matrix. -/
def cols (x : Vec F S2x256x128 .bf16) (k : Fin 2) : Vec F S1x256x128 .bf16 := fun y => x (ix3 k (y 1) (y 2))

/-- A block of twiddle factors without its leading axis. -/
def flat (x : Vec F S1x128x128 .f32) : FVec F S128x128 .f32 := fun y => x (ix3 0 (y 0) (y 1))

theorem ld_eq (b : Memref sig .tc .vmem S1x128x16x128 .i32) (h : b.IsWhole) (x : Vec F S1x128x16x128 .i32) (j : Fin 16) :
    ld b h x j = rows x j := by
  funext y
  obtain ⟨r, l, rfl⟩ : ∃ r l, y = ix2 r l := ⟨y 0, y 1, by ext a; fin_cases a <;> rfl⟩
  unfold ld rows
  pointwise
  refine (congrFun (h.read_unread x) _).trans (congrArg x ?_)
  refine Shape.reshapeEquiv_eq_of_rowMajor _ ?_
  rw [Shape.rowMajor_val_four, Shape.rowMajor_val_two]
  show ((0 * 128 + r.val) * 16 + j.val) * 128 + l.val = (j.val + 16 * r.val) * 128 + (0 + 1 * l.val)
  omega

theorem mat_eq (b : Memref sig .tc .vmem S2x256x128 .bf16) (h : b.IsWhole) (x : Vec F S2x256x128 .bf16) (k : Fin 2) :
    mat b h x k = cols x k := by
  funext y
  match k with
  | 0 =>
    refine (congrFun (h.read_unread x) _).trans (congrArg x ?_)
    ext a; match a with
    | 0 => have := (y 0).isLt; show 0 + 1 * (y 0).val = 0; simp at this; omega
    | 1 => show 0 + 1 * (y 1).val = (y 1).val; omega
    | 2 => show 0 + 1 * (y 2).val = (y 2).val; omega
  | 1 =>
    refine (congrFun (h.read_unread x) _).trans (congrArg x ?_)
    ext a; match a with
    | 0 => have := (y 0).isLt; show 1 + 1 * (y 0).val = 1; simp at this; omega
    | 1 => show 0 + 1 * (y 1).val = (y 1).val; omega
    | 2 => show 0 + 1 * (y 2).val = (y 2).val; omega

theorem flat_eq (b : Memref sig .tc .vmem S1x128x128 .f32) (h : b.IsWhole) (x : Vec F S1x128x128 .f32) :
    shapeCast S128x128 (View.readAt (Elt F) b.view (Rect.unit ![0, 0, 0] S1x128x128.size inb_S1x128x128_S1x128x128_0_0_0).toLoadRect (h.unread x)) shapeCasts_S1x128x128_S128x128 = flat x := by
  funext y
  obtain ⟨r, l, rfl⟩ : ∃ r l, y = ix2 r l := ⟨y 0, y 1, by ext a; fin_cases a <;> rfl⟩
  unfold flat
  pointwise
  refine (congrFun (h.read_unread x) _).trans (congrArg x ?_)
  ext a; match a with
  | 0 => show 0 + 1 * 0 = 0; omega
  | 1 => show 0 + 1 * r.val = r.val; omega
  | 2 => show 0 + 1 * l.val = l.val; omega

theorem word_apply (t : FVec F S128x128 .f32 × FVec F S128x128 .f32) (u : Fin 2) (a : FVec F S256x256 .f32) (x : S1x1x128x128.Idx) :
    word t u a x = packed t u a (ix2 (x 2) (x 3)) := by
  unfold word
  refine shapeCast_apply _ _ _ _ ?_
  rw [Shape.rowMajor_val_four, Shape.rowMajor_val_two]
  have h0 : (x 0).val < 1 := (x 0).isLt
  have h1 : (x 1).val < 1 := (x 1).isLt
  show (x 2).val * 128 + (x 3).val = (((x 0).val * 1 + (x 1).val) * 128 + (x 2).val) * 128 + (x 3).val
  omega

variable (c : Dev nD) (i : grid0.Coords) (arg3 : Memref sig .tc .vmem S1x128x16x128 .i32) (harg3 : arg3.IsWhole) (arg4 : Memref sig .tc .vmem S2x256x128 .bf16) (harg4 : arg4.IsWhole) (arg5 : Memref sig .tc .vmem S2x256x128 .bf16) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128x16x128 .i32) (harg10 : arg10.IsWhole) (arg11 : Memref sig .tc .vmem S1x128 .f32) (harg11 : arg11.IsWhole) (arg12 : Memref sig .tc .vmem S1x16x128x128 .i32) (harg12 : arg12.IsWhole)
  (x0 : Vec F S1x128x16x128 .i32) (x1 : Vec F S2x256x128 .bf16) (x2 : Vec F S2x256x128 .bf16) (x3 : Vec F S1x128x128 .f32) (x4 : Vec F S1x128x128 .f32) (x5 : Vec F S128x128 .f32) (x6 : Vec F S128x128 .f32) (x7 : Vec F S1x128x16x128 .i32) (x8 : Vec F S1x128 .f32)

theorem twl_eq (j : ℕ) : twl arg6 harg6 arg7 harg7 arg8 harg8 arg9 harg9 x3 x4 x5 x6 j = tw (flat x3) (flat x4) x5 x6 j := by
  have h5 : View.readAt (Elt F) arg8.view (Rect.unit ![0, 0] S128x128.size inb_S128x128_S128x128_0_0).toLoadRect (harg8.unread x5) = x5 := by
    funext y
    refine (congrFun (harg8.read_unread x5) _).trans (congrArg x5 ?_)
    ext a; match a with
    | 0 => show 0 + 1 * (y 0).val = (y 0).val; omega
    | 1 => show 0 + 1 * (y 1).val = (y 1).val; omega
  have h6 : View.readAt (Elt F) arg9.view (Rect.unit ![0, 0] S128x128.size inb_S128x128_S128x128_0_0).toLoadRect (harg9.unread x6) = x6 := by
    funext y
    refine (congrFun (harg9.read_unread x6) _).trans (congrArg x6 ?_)
    ext a; match a with
    | 0 => show 0 + 1 * (y 0).val = (y 0).val; omega
    | 1 => show 0 + 1 * (y 1).val = (y 1).val; omega
  unfold twl
  rw [h5, h6, flat_eq, flat_eq]

theorem pairl_eq (a b : Fin 16) : pairl arg3 harg3 arg4 harg4 arg5 harg5 arg10 harg10 arg11 harg11 x0 x1 x2 x7 x8 a b
    = pair (cols x1 0) (cols x1 1) (cols x2 0) (cols x2 1) (inv x8) (rows x0 a) (rows x0 b) (rows x7 a) (rows x7 b) := by
  have h8 : View.readAt (Elt F) arg11.view (Rect.unit ![0, 0] S1x128.size inb_S1x128_S1x128_0_0).toLoadRect (harg11.unread x8) = x8 := by
    funext y
    refine (congrFun (harg11.read_unread x8) _).trans (congrArg x8 ?_)
    ext a; match a with
    | 0 => show 0 + 1 * (y 0).val = (y 0).val; omega
    | 1 => show 0 + 1 * (y 1).val = (y 1).val; omega
  unfold pairl
  rw [h8]
  simp only [ld_eq, mat_eq]

/-- The word of row `j` of the block, place `(r, l)`. -/
def blockWord (j : Fin 16) (r l : Fin 128) : BitVec 32 :=
  packed (tw (flat x3) (flat x4) x5 x6 j.val) ⟨j.val % 2, Nat.mod_lt _ (by decide)⟩
    (pair (cols x1 0) (cols x1 1) (cols x2 0) (cols x2 1) (inv x8) (rows x0 ⟨2 * (j.val / 2), by omega⟩) (rows x0 ⟨2 * (j.val / 2) + 1, by omega⟩)
      (rows x7 ⟨2 * (j.val / 2), by omega⟩) (rows x7 ⟨2 * (j.val / 2) + 1, by omega⟩)) (ix2 r l)

/-- The word the body leaves at row `j` of the block, place `(r, l)`. -/
theorem out_apply (y : S1x16x128x128.Idx) :
    out0_A_9 c i arg3 harg3 arg4 harg4 arg5 harg5 arg6 harg6 arg7 harg7 arg8 harg8 arg9 harg9 arg10 harg10 arg11 harg11 arg12 harg12 x0 x1 x2 x3 x4 x5 x6 x7 x8 y = blockWord x0 x1 x2 x3 x4 x5 x6 x7 x8 (y 1) (y 2) (y 3) := by
  unfold out0_A_9
  refine View.read_writes_apply_of_pieces VO0_9 VO0_9.junk (fun y : S1x16x128x128.Idx => blockWord x0 x1 x2 x3 x4 x5 x6 x7 x8 (y 1) (y 2) (y 3)) _ ?_ y
    (cover0_A_9 c i arg3 harg3 arg4 harg4 arg5 harg5 arg6 harg6 arg7 harg7 arg8 harg8 arg9 harg9 arg10 harg10 arg11 harg11 arg12 harg12 x0 x1 x2 x3 x4 x5 x6 x7 x8 y)
  rw [pieces_eq]
  intro p hp x
  obtain ⟨k, -, rfl⟩ := List.mem_map.mp hp
  have e1 : @Eq (Fin 16) ((Rect.unit (s := S1x16x128x128) ![0, k.val, 0, 0] ![1, 1, 128, 128] (inbRow k)).emb x 1) k := by
    have h : (x 1).val < 1 := (x 1).isLt
    ext; show k.val + 1 * (x 1).val = k.val; omega
  have e2 : @Eq (Fin 128) ((Rect.unit (s := S1x16x128x128) ![0, k.val, 0, 0] ![1, 1, 128, 128] (inbRow k)).emb x 2) (x 2) := by
    ext; show 0 + 1 * (x 2).val = (x 2).val; omega
  have e3 : @Eq (Fin 128) ((Rect.unit (s := S1x16x128x128) ![0, k.val, 0, 0] ![1, 1, 128, 128] (inbRow k)).emb x 3) (x 3) := by
    ext; show 0 + 1 * (x 3).val = (x 3).val; omega
  show _ = blockWord x0 x1 x2 x3 x4 x5 x6 x7 x8 ((Rect.unit (s := S1x16x128x128) ![0, k.val, 0, 0] ![1, 1, 128, 128] (inbRow k)).emb x 1) _ _
  rw [e1]
  refine Eq.trans ?_ (congrArg₂ (blockWord x0 x1 x2 x3 x4 x5 x6 x7 x8 k) e2 e3).symm
  simp only [piece, pieceOf, twl_eq, pairl_eq]
  exact word_apply _ _ _ x

end Cert.Kernel.Hand
-- ==== Proof.Array.lean ====
module

public import proofs.«01_k».proof.Proof.Point
public import Idealize.ShloMosaic.Lib.Pipeline.ValueKit
public import Idealize.ShloMosaic.Lib.Claim

/-! # The kernel's result, entry by entry

Each grid point writes sixteen rows of one half of the lanes. Together the blocks are the whole result, and every word of it is one
function of the arguments. -/

@[expose] public section

noncomputable section

namespace Cert.Kernel.Hand

open Idealize.ShloMosaic Idealize.ShloMosaic.TcCoe Idealize.ShloMosaic.Tactic
open Cert.Kernel Cert.Kernel.Gen

variable {F : FTy → Type} [BitOps F]

/-- Of the sequence read as 128 × 128 places, the places `(·, s)` of one half of the lanes. -/
def rowA (a : Vec F S1x16384x256 .i32) (s : Fin 128) (c : Fin 2) : IVec S128x128 32 := fun y =>
  a (ix3 0 ⟨(y 0).val * 128 + s.val, by have : (y 0).val < 128 := (y 0).isLt; omega⟩ ⟨c.val * 128 + (y 1).val, by have : (y 1).val < 128 := (y 1).isLt; omega⟩)

/-- The same of the filter's spectrum, of which the first 256 lanes are read. -/
def rowK (k : Vec F S16384x512 .i32) (s : Fin 128) (c : Fin 2) : IVec S128x128 32 := fun y =>
  k (ix2 ⟨(y 0).val * 128 + s.val, by have : (y 0).val < 128 := (y 0).isLt; omega⟩ ⟨c.val * 128 + (y 1).val, by have : (y 1).val < 128 := (y 1).isLt; omega⟩)

/-- One half of the norms. -/
def half (n : Vec F S1x512 .f32) (c : Fin 2) : Vec F S1x128 .f32 := fun y =>
  n (ix2 0 ⟨c.val * 128 + (y 1).val, by have : (y 1).val < 128 := (y 1).isLt; omega⟩)

/-- Block `b` of the twiddle factors. -/
def base (t : Vec F S8x128x128 .f32) (b : Fin 8) : FVec F S128x128 .f32 := fun y => t (ix3 b (y 0) (y 1))

variable (a : Vec F S1x16384x256 .i32) (k : Vec F S16384x512 .i32) (n : Vec F S1x512 .f32) (g2 g3 : Vec F S2x256x128 .bf16)
  (t0 t1 : Vec F S8x128x128 .f32) (t2 t3 : Vec F S128x128 .f32)

/-- The products of the rows `2 p` and `2 p + 1`. -/
def pairAt (p : Fin 64) (c : Fin 2) : FVec F S256x256 .f32 :=
  pair (cols g2 0) (cols g2 1) (cols g3 0) (cols g3 1) (inv (half n c))
    (rowA a ⟨2 * p.val, by omega⟩ c) (rowA a ⟨2 * p.val + 1, by omega⟩ c) (rowK k ⟨2 * p.val, by omega⟩ c) (rowK k ⟨2 * p.val + 1, by omega⟩ c)

/-- The twiddle factor of row `s`. -/
def twAt (s : Fin 128) : FVec F S128x128 .f32 × FVec F S128x128 .f32 :=
  tw (base t0 ⟨s.val / 16, by omega⟩) (base t1 ⟨s.val / 16, by omega⟩) t2 t3 (s.val % 16)

/-- The result's word at row `s`, place `r` and lane `c * 128 + l`. -/
def wordAt (s r : Fin 128) (c : Fin 2) (l : Fin 128) : BitVec 32 :=
  packed (twAt t0 t1 t2 t3 s) ⟨s.val % 2, Nat.mod_lt _ (by decide)⟩ (pairAt a k n g2 g3 ⟨s.val / 2, by omega⟩ c) (ix2 r l)

/-- The whole result. -/
def result : Vec F S1x128x128x256 .i32 := fun x =>
  wordAt a k n g2 g3 t0 t1 t2 t3 (x 1) (x 2) ⟨(x 3).val / 128, by have : (x 3).val < 256 := (x 3).isLt; omega⟩ ⟨(x 3).val % 128, Nat.mod_lt _ (by decide)⟩

theorem result_eq (x : S1x128x128x256.Idx) (s r : Fin 128) (c : Fin 2) (l : Fin 128) (h1 : (x 1).val = s.val) (h2 : (x 2).val = r.val)
    (h3 : (x 3).val = c.val * 128 + l.val) : result a k n g2 g3 t0 t1 t2 t3 x = wordAt a k n g2 g3 t0 t1 t2 t3 s r c l := by
  have e1 : @Eq (Fin 128) (x 1) s := Fin.ext h1
  have e2 : @Eq (Fin 128) (x 2) r := Fin.ext h2
  have e3 : (⟨(x 3).val / 128, by have : (x 3).val < 256 := (x 3).isLt; omega⟩ : Fin 2) = c := Fin.ext (by show (x 3).val / 128 = c.val; omega)
  have e4 : (⟨(x 3).val % 128, Nat.mod_lt _ (by decide)⟩ : Fin 128) = l := Fin.ext (by show (x 3).val % 128 = l.val; omega)
  unfold result
  rw [e3, e4]
  exact (congrArg (wordAt a k n g2 g3 t0 t1 t2 t3 · _ _ _) e1).trans (congrArg (wordAt a k n g2 g3 t0 t1 t2 t3 s · _ _) e2)

variable (m : (ℓ : Loc nD τ sig) → Buf (Elt F) ℓ) (ρ : Dev nD → PrngReg)

theorem idx9 : ∀ t : Fin grid0.N, win0_9.index t = ![0, (grid0.coords t 0).val, 0, (grid0.coords t 2).val] := by decide +kernel
theorem idx0 : ∀ t : Fin grid0.N, win0_0.index t = ![0, 0, (grid0.coords t 0).val, (grid0.coords t 2).val] := by decide +kernel
theorem idx7 : ∀ t : Fin grid0.N, win0_7.index t = ![0, 0, (grid0.coords t 0).val, (grid0.coords t 2).val] := by decide +kernel
theorem idx8 : ∀ t : Fin grid0.N, win0_8.index t = ![0, (grid0.coords t 2).val] := by decide +kernel
theorem idx3 : ∀ t : Fin grid0.N, win0_3.index t = ![(grid0.coords t 0).val, 0, 0] := by decide +kernel
theorem idx4 : ∀ t : Fin grid0.N, win0_4.index t = ![(grid0.coords t 0).val, 0, 0] := by decide +kernel
theorem idx1 : ∀ t : Fin grid0.N, win0_1.index t = ![0, 0, 0] := by decide +kernel
theorem idx2 : ∀ t : Fin grid0.N, win0_2.index t = ![0, 0, 0] := by decide +kernel
theorem idx5 : ∀ t : Fin grid0.N, win0_5.index t = ![0, 0] := by decide +kernel
theorem idx6 : ∀ t : Fin grid0.N, win0_6.index t = ![0, 0] := by decide +kernel

/-- A place's row coordinate and half. -/
def blk (t : Fin cfg0.N) : Fin 8 := grid0.coords t 0
def hlf (t : Fin cfg0.N) : Fin 2 := grid0.coords t 2

theorem rows0 (c : Dev nD) (t : Fin cfg0.N) (j : Fin 16) :
    rows (F := F) (iblk m c 0 t) j = rowA (m ((c : Thread nD τ).loc main_arg0)) ⟨(blk t).val * 16 + j.val, by have := (blk t).isLt; omega⟩ (hlf t) := by
  funext y
  unfold rows rowA blk hlf
  blk_ext! [iblk, V, idx0 t]

theorem rows7 (c : Dev nD) (t : Fin cfg0.N) (j : Fin 16) :
    rows (F := F) (iblk m c 7 t) j = rowK (m ((c : Thread nD τ).loc main_arg1)) ⟨(blk t).val * 16 + j.val, by have := (blk t).isLt; omega⟩ (hlf t) := by
  funext y
  unfold rows rowK blk hlf
  blk_ext! [iblk, V, idx7 t]

theorem cols1 (c : Dev nD) (t : Fin cfg0.N) (j : Fin 2) : cols (F := F) (iblk m c 1 t) j = cols (m ((c : Thread nD τ).loc main_arg3)) j := by
  funext y
  unfold cols
  blk_ext! [iblk, V, idx1 t]

theorem cols2 (c : Dev nD) (t : Fin cfg0.N) (j : Fin 2) : cols (F := F) (iblk m c 2 t) j = cols (m ((c : Thread nD τ).loc main_arg4)) j := by
  funext y
  unfold cols
  blk_ext! [iblk, V, idx2 t]

theorem flat3 (c : Dev nD) (t : Fin cfg0.N) : flat (F := F) (iblk m c 3 t) = base (m ((c : Thread nD τ).loc main_arg5)) (blk t) := by
  funext y
  unfold flat base blk
  blk_ext! [iblk, V, idx3 t]

theorem flat4 (c : Dev nD) (t : Fin cfg0.N) : flat (F := F) (iblk m c 4 t) = base (m ((c : Thread nD τ).loc main_arg6)) (blk t) := by
  funext y
  unfold flat base blk
  blk_ext! [iblk, V, idx4 t]

theorem whole5 (c : Dev nD) (t : Fin cfg0.N) : (iblk m c 5 t : Vec F S128x128 .f32) = m ((c : Thread nD τ).loc main_arg7) := by
  funext y
  blk_ext! [iblk, V, idx5 t]

theorem whole6 (c : Dev nD) (t : Fin cfg0.N) : (iblk m c 6 t : Vec F S128x128 .f32) = m ((c : Thread nD τ).loc main_arg8) := by
  funext y
  blk_ext! [iblk, V, idx6 t]

theorem half8 (c : Dev nD) (t : Fin cfg0.N) : (iblk m c 8 t : Vec F S1x128 .f32) = half (m ((c : Thread nD τ).loc main_arg2)) (hlf t) := by
  funext y
  unfold half hlf
  blk_ext! [iblk, V, idx8 t]

/-- What point `t` leaves at an index of its block is the result's word there. -/
theorem block_word (c : Dev nD) (t : Fin cfg0.N) (j : Fin 16) (r l : Fin 128) :
    blockWord (F := F) (iblk m c 0 t) (iblk m c 1 t) (iblk m c 2 t) (iblk m c 3 t) (iblk m c 4 t) (iblk m c 5 t) (iblk m c 6 t) (iblk m c 7 t) (iblk m c 8 t) j r l
    = wordAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) ⟨(blk t).val * 16 + j.val, by have := (blk t).isLt; omega⟩ r (hlf t) l := by
  have hb := (blk t).isLt
  unfold blockWord wordAt twAt pairAt
  rw [rows0, rows0, rows7, rows7, cols1, cols1, cols2, cols2, flat3, flat4, whole5, whole6, half8]
  have e1 : ((blk t).val * 16 + j.val) / 16 = (blk t).val := by omega
  have e2 : ((blk t).val * 16 + j.val) % 16 = j.val := by omega
  have e3 : ((blk t).val * 16 + j.val) % 2 = j.val % 2 := by omega
  have e4 : 2 * (((blk t).val * 16 + j.val) / 2) = (blk t).val * 16 + 2 * (j.val / 2) := by omega
  simp only [e1, e2, e3, e4, Nat.add_assoc]

/-- The kernel's result after the run. -/
theorem final (c : Dev nD) : (dats m 0 c).arrAt 9 cfg0.N
    = result (F := F) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t hf y => ?_
  rw [after0_9]
  blk_simp
  unfold outsAt0
  refine (out_apply c _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _).trans ?_
  refine (block_word m c t _ _ _).trans (result_eq _ _ _ _ _ _ _ _ _ _ _ _ _ _ ?_ ?_ ?_).symm
  · blk_simp [idx9 t]
    rfl
  · blk_simp [idx9 t]
  · blk_simp [idx9 t]
    rfl

end Cert.Kernel.Hand
-- ==== Proof.ExpKit.lean ====
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! # What the frame of the expert call is stated over: the arrays and tables at the region, the windows' blocks -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations before the region leave `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host operations before the region leave `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1336 .i32 := Memref.whole main_arg0
abbrev htbM0_0 : tbM0_0.IsWhole := Memref.isWhole_whole _
abbrev tbM0_1 : Memref sig .tc .smem S167 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point, fetched there or kept. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, fetched there or kept. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, fetched there or kept. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point, fetched there or kept. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point, fetched there or kept. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point, fetched there or kept. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point, fetched there or kept. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block at every point, fetched there or kept. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 holds its block at every point, fetched there or kept. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9 holds its block at every point, fetched there or kept. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10 holds its block at every point, fetched there or kept. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11 holds its block at every point, fetched there or kept. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12 holds its block at every point, fetched there or kept. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13 holds its block at every point, fetched there or kept. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14 holds its block at every point, fetched there or kept. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15 holds its block at every point, fetched there or kept. -/
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16 holds its block at every point, fetched there or kept. -/
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17 holds its block at every point, fetched there or kept. -/
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18 holds its block at every point, fetched there or kept. -/
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- One staging buffer of output window 19, through which its contents are stated (`View.read_writes_of_cover`: the
    choice does not matter). -/
abbrev VO0_19 : View sig .tc .vmem S1x256x1024 .bf16 := (Memref.whole cc0_stg19_0 : Memref sig .tc .vmem S1x256x1024 .bf16).view
/-- Each window's current staging memref at point `t`, spelled as the pipeline passes it (`bodyAt0`), and its wholeness. -/
abbrev ms0_0 (hO : Ok m) (t : Fin (cfgM m hO).N) : Memref sig .tc .vmem S1x32x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x32x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x32x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x32x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x32x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x32x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x32x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x32x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x32x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x32x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x32x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x32x128 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x32x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x32x128 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x32x128 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1024x2816 .bf16 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x1024x2816 .bf16 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x2816x1024 .bf16 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x256x1024 .bf16 := spec0_19.stage ((cfgM m hO).slots t 19)
abbrev hs0_19 (hO : Ok m) (t : Fin (cfgM m hO).N) : (ms0_19 m hO t).IsWhole := hstage0_19 (((cfgM m hO).slots t 19).cast nbuf0_19)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19))

end Cert.Kernel3Ideal.Hand

end
-- ==== Proof.ExpRun.lean ====
module

public import proofs.«01_k».proof.Proof.ExpKit

/-! # The body of the expert call at one grid point: where the schedule has a step it stores its block, past the end it touches nothing -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (c : Dev nD) (i : grid0.Coords)
variable (arg4 : Memref sig .tc .vmem S1x32x1024 .bf16) (harg4 : arg4.IsWhole)
variable (arg5 : Memref sig .tc .vmem S1x32x1024 .bf16) (harg5 : arg5.IsWhole)
variable (arg6 : Memref sig .tc .vmem S1x32x1024 .bf16) (harg6 : arg6.IsWhole)
variable (arg7 : Memref sig .tc .vmem S1x32x1024 .bf16) (harg7 : arg7.IsWhole)
variable (arg8 : Memref sig .tc .vmem S1x32x1024 .bf16) (harg8 : arg8.IsWhole)
variable (arg9 : Memref sig .tc .vmem S1x32x1024 .bf16) (harg9 : arg9.IsWhole)
variable (arg10 : Memref sig .tc .vmem S1x32x1024 .bf16) (harg10 : arg10.IsWhole)
variable (arg11 : Memref sig .tc .vmem S1x32x1024 .bf16) (harg11 : arg11.IsWhole)
variable (arg12 : Memref sig .tc .vmem S1x32x128 .f32) (harg12 : arg12.IsWhole)
variable (arg13 : Memref sig .tc .vmem S1x32x128 .f32) (harg13 : arg13.IsWhole)
variable (arg14 : Memref sig .tc .vmem S1x32x128 .f32) (harg14 : arg14.IsWhole)
variable (arg15 : Memref sig .tc .vmem S1x32x128 .f32) (harg15 : arg15.IsWhole)
variable (arg16 : Memref sig .tc .vmem S1x32x128 .f32) (harg16 : arg16.IsWhole)
variable (arg17 : Memref sig .tc .vmem S1x32x128 .f32) (harg17 : arg17.IsWhole)
variable (arg18 : Memref sig .tc .vmem S1x32x128 .f32) (harg18 : arg18.IsWhole)
variable (arg19 : Memref sig .tc .vmem S1x32x128 .f32) (harg19 : arg19.IsWhole)
variable (arg20 : Memref sig .tc .vmem S1x1024x2816 .bf16) (harg20 : arg20.IsWhole)
variable (arg21 : Memref sig .tc .vmem S1x1024x2816 .bf16) (harg21 : arg21.IsWhole)
variable (arg22 : Memref sig .tc .vmem S1x2816x1024 .bf16) (harg22 : arg22.IsWhole)
variable (arg23 : Memref sig .tc .vmem S1x256x1024 .bf16) (harg23 : arg23.IsWhole)
variable (x0 : Vec F S1x32x1024 .bf16) (x1 : Vec F S1x32x1024 .bf16) (x2 : Vec F S1x32x1024 .bf16) (x3 : Vec F S1x32x1024 .bf16) (x4 : Vec F S1x32x1024 .bf16) (x5 : Vec F S1x32x1024 .bf16) (x6 : Vec F S1x32x1024 .bf16) (x7 : Vec F S1x32x1024 .bf16) (x8 : Vec F S1x32x128 .f32) (x9 : Vec F S1x32x128 .f32) (x10 : Vec F S1x32x128 .f32) (x11 : Vec F S1x32x128 .f32) (x12 : Vec F S1x32x128 .f32) (x13 : Vec F S1x32x128 .f32) (x14 : Vec F S1x32x128 .f32) (x15 : Vec F S1x32x128 .f32) (x16 : Vec F S1x1024x2816 .bf16) (x17 : Vec F S1x1024x2816 .bf16) (x18 : Vec F S1x2816x1024 .bf16)
variable (xt0 : TbBuf0 (F := F) c tbM0_0) (xt1 : TbBuf0 (F := F) c tbM0_1) (xt2 : TbBuf0 (F := F) c tbM0_2)

set_option maxHeartbeats 2000000 in
/-- Where the schedule has a step, the pieces the body stores in its output block, with the proof that it does. -/
noncomputable def runLive (hc : k0_cond1 i ((xt2 ((Rect.unit (s := S1) ![0] S1.size inb_S1_S1_0).point numel1_S1))) = 1#1) :
    { L19 : List (View.Piece (Elt F) S1x256x1024 .bf16) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ (∃ d, owns (c : Thread nD τ) arg23 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ (∃ f, arg23.view.loc (c : Thread nD τ) ↦[arg23.view.set]{fullShare} arg23.view.writes (Elt F) f L19) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16; obtain rfl := harg21.eq_unread hf17; obtain rfl := harg22.eq_unread hf18
    sl_exec (disch := sl_exact hc)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]
    · iexists _; isplitr; · ipureintro; exact harg16.read_unread _
      iexact H12
    isplitl [H13]
    · iexists _; isplitr; · ipureintro; exact harg17.read_unread _
      iexact H13
    isplitl [H14]
    · iexists _; isplitr; · ipureintro; exact harg18.read_unread _
      iexact H14
    isplitl [H15]
    · iexists _; isplitr; · ipureintro; exact harg19.read_unread _
      iexact H15
    isplitl [H16]
    · iexists _; isplitr; · ipureintro; exact harg20.read_unread _
      iexact H16
    isplitl [H17]
    · iexists _; isplitr; · ipureintro; exact harg21.read_unread _
      iexact H17
    isplitl [H18]
    · iexists _; isplitr; · ipureintro; exact harg22.read_unread _
      iexact H18
    isplitl [H19]; · iexists _; iexact H19
    isplitl [HT0]; · iexact HT0
    isplitl [HT1]; · iexact HT1
    iexact HT2

/-- Past the schedule's end the body leaves every buffer as it found it. -/
theorem runIdle (hc : ¬ k0_cond1 i ((xt2 ((Rect.unit (s := S1) ![0] S1.size inb_S1_S1_0).point numel1_S1))) = 1#1) (E : Set ℕ) (K : PUnit → sProp (MT nD τ sig Unit (Elt F) ℕ (UR sig nD τ) ℕ)) (R : sProp (MT nD τ sig Unit (Elt F) ℕ (UR sig nD τ) ℕ)) :
    iprop(R ∗ tbPt0 c tbM0_0 xt0 ∗ tbPt0 c tbM0_1 xt1 ∗ tbPt0 c tbM0_2 xt2 ∗ (iprop(R ∗ tbPt0 c tbM0_0 xt0 ∗ tbPt0 c tbM0_1 xt1 ∗ tbPt0 c tbM0_2 xt2) -∗ K ⟨⟩))
      ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp only [cc0_moe_experts_eq_skeleton]; unfold cc0_moe_experts_skel
    iintro ⟨HR, HT0, HT1, HT2, Hk⟩
    sl_exec (disch := sl_exact hc)
    sl_step
    iapply Hk
    isplitl [HR]; · iexact HR
    isplitl [HT0]; · iexact HT0
    isplitl [HT1]; · iexact HT1
    iexact HT2

end Cert.Kernel3Ideal.Hand

end
-- ==== Proof.Whole.lean ====
module

public import Idealize.ShloMosaic.Lib.WholeRead
public import Idealize.ShloMosaic.Lib.Pipeline.ValueKit
public import Idealize.ShloMosaic.Lib.Writes

/-! # Loads and stores of a whole buffer, for any program -/

@[expose] public section

noncomputable section

namespace Cert.Whole

open Idealize.ShloMosaic Idealize.ShloMosaic.TcCoe

variable {sig : RefSig} {F : FTy → Type} [FloatOps F]

/-- Loading a whole buffer gives its contents. -/
theorem load_whole {s : Shape} {e : EltTy} (b : Memref sig .tc .vmem s e) (h : b.IsWhole) (x : Vec F s e) (off : Fin s.rank → ℕ)
    (inb : ∀ a, off a + s.size a ≤ s.size a) (h0 : ∀ a, off a = 0) :
    View.readAt (Elt F) b.view (Rect.unit off s.size inb).toLoadRect (h.unread x) = x := by
  funext y
  refine (congrFun (h.read_unread x) _).trans (congrArg x ?_)
  ext a
  show off a + 1 * (y a).val = (y a).val
  rw [h0 a]; omega

/-- Storing a whole block leaves it. -/
theorem store_whole {κ : Kind} {sp : Space} {s : Shape} {e : EltTy} (v : View sig κ sp s e) (f : v.ty.Contents (Elt F)) (off : Fin s.rank → ℕ)
    (inb : ∀ a, off a + s.size a ≤ s.size a) (h0 : ∀ a, off a = 0) (w : Vec F s e) :
    v.read (Elt F) (v.writes (Elt F) f [⟨Rect.unit off s.size inb, w⟩]) = w := by
  funext y
  refine View.read_writes_cons_hit_of_coords v f (Rect.unit off s.size inb) w [] y y ?_
  intro a
  show (y a).val = off a + 1 * (y a).val
  rw [h0 a]; omega

end Cert.Whole

end
-- ==== Proof.ExpBlock.lean ====
module

public import proofs.«01_k».proof.Proof.ExpRun
public import proofs.«01_k».proof.Proof.Whole

/-! # What a step of the expert call leaves in its output block -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (c : Dev nD) (i : grid0.Coords)
variable (arg4 : Memref sig .tc .vmem S1x32x1024 .bf16) (harg4 : arg4.IsWhole)
variable (arg5 : Memref sig .tc .vmem S1x32x1024 .bf16) (harg5 : arg5.IsWhole)
variable (arg6 : Memref sig .tc .vmem S1x32x1024 .bf16) (harg6 : arg6.IsWhole)
variable (arg7 : Memref sig .tc .vmem S1x32x1024 .bf16) (harg7 : arg7.IsWhole)
variable (arg8 : Memref sig .tc .vmem S1x32x1024 .bf16) (harg8 : arg8.IsWhole)
variable (arg9 : Memref sig .tc .vmem S1x32x1024 .bf16) (harg9 : arg9.IsWhole)
variable (arg10 : Memref sig .tc .vmem S1x32x1024 .bf16) (harg10 : arg10.IsWhole)
variable (arg11 : Memref sig .tc .vmem S1x32x1024 .bf16) (harg11 : arg11.IsWhole)
variable (arg12 : Memref sig .tc .vmem S1x32x128 .f32) (harg12 : arg12.IsWhole)
variable (arg13 : Memref sig .tc .vmem S1x32x128 .f32) (harg13 : arg13.IsWhole)
variable (arg14 : Memref sig .tc .vmem S1x32x128 .f32) (harg14 : arg14.IsWhole)
variable (arg15 : Memref sig .tc .vmem S1x32x128 .f32) (harg15 : arg15.IsWhole)
variable (arg16 : Memref sig .tc .vmem S1x32x128 .f32) (harg16 : arg16.IsWhole)
variable (arg17 : Memref sig .tc .vmem S1x32x128 .f32) (harg17 : arg17.IsWhole)
variable (arg18 : Memref sig .tc .vmem S1x32x128 .f32) (harg18 : arg18.IsWhole)
variable (arg19 : Memref sig .tc .vmem S1x32x128 .f32) (harg19 : arg19.IsWhole)
variable (arg20 : Memref sig .tc .vmem S1x1024x2816 .bf16) (harg20 : arg20.IsWhole)
variable (arg21 : Memref sig .tc .vmem S1x1024x2816 .bf16) (harg21 : arg21.IsWhole)
variable (arg22 : Memref sig .tc .vmem S1x2816x1024 .bf16) (harg22 : arg22.IsWhole)
variable (arg23 : Memref sig .tc .vmem S1x256x1024 .bf16) (harg23 : arg23.IsWhole)
variable (x0 : Vec F S1x32x1024 .bf16) (x1 : Vec F S1x32x1024 .bf16) (x2 : Vec F S1x32x1024 .bf16) (x3 : Vec F S1x32x1024 .bf16) (x4 : Vec F S1x32x1024 .bf16) (x5 : Vec F S1x32x1024 .bf16) (x6 : Vec F S1x32x1024 .bf16) (x7 : Vec F S1x32x1024 .bf16) (x8 : Vec F S1x32x128 .f32) (x9 : Vec F S1x32x128 .f32) (x10 : Vec F S1x32x128 .f32) (x11 : Vec F S1x32x128 .f32) (x12 : Vec F S1x32x128 .f32) (x13 : Vec F S1x32x128 .f32) (x14 : Vec F S1x32x128 .f32) (x15 : Vec F S1x32x128 .f32) (x16 : Vec F S1x1024x2816 .bf16) (x17 : Vec F S1x1024x2816 .bf16) (x18 : Vec F S1x2816x1024 .bf16)
variable (xt0 : TbBuf0 (F := F) c tbM0_0) (xt1 : TbBuf0 (F := F) c tbM0_1) (xt2 : TbBuf0 (F := F) c tbM0_2)

/-- The block as a function of the staged blocks: the gathered rows through the expert's products, times their weights. -/
def block (x0 : Vec F S1x32x1024 .bf16) (x1 : Vec F S1x32x1024 .bf16) (x2 : Vec F S1x32x1024 .bf16) (x3 : Vec F S1x32x1024 .bf16) (x4 : Vec F S1x32x1024 .bf16) (x5 : Vec F S1x32x1024 .bf16) (x6 : Vec F S1x32x1024 .bf16) (x7 : Vec F S1x32x1024 .bf16) (x8 : Vec F S1x32x128 .f32) (x9 : Vec F S1x32x128 .f32) (x10 : Vec F S1x32x128 .f32) (x11 : Vec F S1x32x128 .f32) (x12 : Vec F S1x32x128 .f32) (x13 : Vec F S1x32x128 .f32) (x14 : Vec F S1x32x128 .f32) (x15 : Vec F S1x32x128 .f32) (x16 : Vec F S1x1024x2816 .bf16) (x17 : Vec F S1x1024x2816 .bf16) (x18 : Vec F S1x2816x1024 .bf16) : FVec F S1x256x1024 .bf16 :=
  k0_pay1 (k0_pay4 (k0_pay2 x0 x1 x2 x3 x4 x5 x6 x7) (k0_pay3 x0 x1 x2 x3 x4 x5 x6 x7 x16) x17 x18 x8 x9 x10 x11 x12 x13 x14 x15)

theorem z3 : ∀ a : Fin 3, (![0, 0, 0] : Fin 3 → ℕ) a = 0 := by decide

theorem read_live (hc : k0_cond1 i (xt2 ((Rect.unit (s := S1) ![0] S1.size inb_S1_S1_0).point numel1_S1)) = 1#1) (f : arg23.view.ty.Contents (Elt F)) :
    arg23.view.read (Elt F) (arg23.view.writes (Elt F) f (runLive c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 xt0 xt1 xt2 hc).1) = block x0 x1 x2 x3 x4 x5 x6 x7 x8 x9 x10 x11 x12 x13 x14 x15 x16 x17 x18 := by
  dsimp only [runLive]
  refine (Cert.Whole.store_whole arg23.view f ![0, 0, 0] inb_S1x256x1024_S1x256x1024_0_0_0 z3 _).trans ?_
  unfold block
  refine congrArg k0_pay1 ?_
  unfold runLive.sl.r_3 runLive.sl.r_1 runLive.sl.r_2
  rw [Cert.Whole.load_whole arg4 harg4 x0 ![0, 0, 0] _ z3, Cert.Whole.load_whole arg5 harg5 x1 ![0, 0, 0] _ z3, Cert.Whole.load_whole arg6 harg6 x2 ![0, 0, 0] _ z3, Cert.Whole.load_whole arg7 harg7 x3 ![0, 0, 0] _ z3, Cert.Whole.load_whole arg8 harg8 x4 ![0, 0, 0] _ z3, Cert.Whole.load_whole arg9 harg9 x5 ![0, 0, 0] _ z3, Cert.Whole.load_whole arg10 harg10 x6 ![0, 0, 0] _ z3, Cert.Whole.load_whole arg11 harg11 x7 ![0, 0, 0] _ z3, Cert.Whole.load_whole arg12 harg12 x8 ![0, 0, 0] _ z3, Cert.Whole.load_whole arg13 harg13 x9 ![0, 0, 0] _ z3, Cert.Whole.load_whole arg14 harg14 x10 ![0, 0, 0] _ z3, Cert.Whole.load_whole arg15 harg15 x11 ![0, 0, 0] _ z3, Cert.Whole.load_whole arg16 harg16 x12 ![0, 0, 0] _ z3, Cert.Whole.load_whole arg17 harg17 x13 ![0, 0, 0] _ z3, Cert.Whole.load_whole arg18 harg18 x14 ![0, 0, 0] _ z3, Cert.Whole.load_whole arg19 harg19 x15 ![0, 0, 0] _ z3, Cert.Whole.load_whole arg20 harg20 x16 ![0, 0, 0] _ z3, Cert.Whole.load_whole arg21 harg21 x17 ![0, 0, 0] _ z3, Cert.Whole.load_whole arg22 harg22 x18 ![0, 0, 0] _ z3]

end Cert.Kernel3Ideal.Hand

end
-- ==== Proof.Leaves.lean ====
module

public import Idealize.ShloMosaic.Lib.Pipeline.ValueKit

/-! # The body's obligation with each window's buffer left as the point leaves it -/

@[expose] public section

noncomputable section

namespace Cert.Whole

open Idealize.ShloMosaic Idealize.ShloMosaic.TcCoe Idealize.ShloMosaic.Pipeline
open Idealize.SL Idealize.SL.BI Idealize.SL.BI.BIBase Idealize.SL.BI.Laws Idealize.SL.Sem Idealize.SL.ProofMode Idealize.SL.RA
open scoped Idealize.SL.BI

variable {nD : ℕ} {τ : Topo} {sig : RefSig} {Val : EltTy → Type} {Λ₀ : Idealize.SL.Sem.Labels}
variable {Ix : Type} [DecidableEq Ix] {Name : Type} [DecidableEq Name] {U : Type} [URA U] {Lvl : Type} [Preorder Lvl]
variable {cfg : Cfg sig Λ₀} {c : Dev nD} (dat : Dat τ Val Ix Name U Lvl cfg c)

/-- A window's buffer as a point leaves it. -/
@[irreducible] def leavesAt (w : Fin cfg.W) (t : Fin cfg.N) : sProp (MT nD τ sig Ix Val Name U Lvl) := dat.leavesExact w t

theorem leavesAt_eq (w : Fin cfg.W) (t : Fin cfg.N) : leavesAt dat w t = dat.leavesExact w t := by unfold leavesAt; rfl

/-- A triple that leaves every window's buffer as the point leaves it is the body's obligation. -/
theorem obligation_of_leaves (defs₀ : Defs nD τ sig Val Λ₀) (𝒱₀ : Variants) (ι : Ix) (E : Set Name)
    (h : ∀ t : Fin cfg.N,
      iprop(dat.Φ t.castSucc ∗ dat.owesAt ι t.castSucc
          ∗ bigSep Finset.univ fun w : Fin cfg.W => iprop(∃ d, owns c ((cfg.win w).stage (cfg.slots t w)) fullShare (dat.before w t d)))
        ⊢ wp frame (wpE defs₀ 𝒱₀ c none) E (defs₀ .tc cfg.body (cfg.bodyArgs t (cfg.slots t))) fun _ =>
            iprop(dat.Φ t.succ ∗ dat.owesAt ι t.succ ∗ bigSep Finset.univ fun w : Fin cfg.W => leavesAt dat w t)) :
    BodyObligation dat defs₀ 𝒱₀ ι E := by
  simp only [leavesAt_eq] at h
  exact h

end Cert.Whole

end
-- ==== Proof.ExpSched.lean ====
module

public import proofs.«01_k».proof.Proof.ExpKit

/-! # The schedule read off the table: which grid points have a step, and which block the output window is on -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (m : (ℓ : Loc nD τ sig) → Buf (Elt F) ℓ) (ρ : Dev nD → PrngReg)

/-- The table's one word: the number of steps the schedule holds. -/
abbrev word : BitVec 32 := tbl m 2 ((Rect.unit (s := S1) ![0] S1.size inb_S1_S1_0).point numel1_S1)
/-- The number of steps as a natural number. -/
abbrev used : ℕ := BitVec.toNat (w := 32) (word m)
/-- The schedule holds at least one step and at most as many as the grid has points. -/
def Used : Prop := 1 ≤ used m ∧ used m ≤ 167

theorem coord_val (t : Fin grid0.N) : (grid0.coords t 0).val = t.val := by
  have h : t.val < 167 := lt_of_lt_of_eq t.isLt N_0
  rw [Pipeline.Grid.coords_val t (0 : Fin 1) (S := 1) (B := 167) (by decide) (by decide), Nat.div_one, Nat.mod_eq_of_lt h]

/-- The body's condition at a point is that the schedule has a step there. -/
theorem cond_iff (t : Fin grid0.N) (w : BitVec 32) (hw : w.toNat ≤ 167) : k0_cond1 (grid0.coords t) w = 1#1 ↔ t.val < w.toNat := by
  have h : t.val < 167 := lt_of_lt_of_eq t.isLt N_0
  have e : (BitVec.ofNat 32 (grid0.coords t 0).val).toNat = t.val := by
    rw [coord_val, BitVec.toNat_ofNat]; omega
  have c : IntOp.cmpi .slt (BitVec.ofNat 32 (grid0.coords t 0).val) w = BitVec.ofBool (decide (t.val < w.toNat)) := by
    rw [WordCmp.cmpi_slt_of_lt (by rw [e]; omega) (by omega), e]
  unfold k0_cond1
  dsimp only
  rw [show Scalar.cmpi .slt (BitVec.ofNat 32 (grid0.coords t 0).val) w = _ from c]
  by_cases hl : t.val < w.toNat
  · simp only [hl, decide_true]; decide
  · simp only [hl, decide_false]; decide

/-- The idle table's word is the same word. -/
theorem atD_eq : Pipeline.Prefetch.Contents.atD (pre := pre0) (Val := Elt F) (tbl m) 2 ![0] = word m := by
  unfold Pipeline.Prefetch.Contents.atD
  refine (dif_pos (show ∀ a : Fin 1, (![0] : Fin 1 → ℕ) a + 1 ≤ S1.size a by decide)).trans ?_
  refine congrArg (tbl m 2) (funext fun (a : Fin 1) => Fin.ext ?_)
  match a with
  | 0 => rfl

theorem idle_eq (pf : pre0.Contents (Elt F)) (i : grid0.Coords) : idle0 pf 19 i = !(k0_cond1 i (pf.atD 2 ![0]) == 1#1) := rfl

theorem idle_cfg (a : (pcfg0 (F := F)).Adm) : (cfg0 a).idle = idle0 a.1 := by with_reducible rfl

theorem idle_at (hO : Ok m) (i : grid0.Coords) : (cfgM m hO).idle 19 i = idle0 (tbl m) 19 i := congrFun (congrFun (idle_cfg (adm m hO)) 19) i

theorem idle_iff (hO : Ok m) (hU : Used m) (t : Fin (cfgM m hO).N) : (cfgM m hO).idle 19 ((cfgM m hO).grid.coords t) = true ↔ used m ≤ t.val := by
  refine (Eq.to_iff (congrArg (· = true) ((idle_at m hO (grid0.coords t)).trans (idle_eq (tbl m) (grid0.coords t))))).trans ?_
  have e := atD_eq m
  have c := cond_iff t (word m) hU.2
  rw [← e] at c
  rw [Bool.not_eq_true', beq_eq_false_iff_ne, ne_eq, c, e]
  exact not_lt

/-- The output window is on the block of the step, and past the end it stays on the last step's. -/
theorem index19 (hU : Used m) (t : Fin grid0.N) :
    cc0_transform_19 (F := F) inb_S1_S1_0 numel1_S1 (tbl m) (grid0.coords t) = ![min t.val (used m - 1), 0, 0] := by
  have h : t.val < 167 := lt_of_lt_of_eq t.isLt N_0
  obtain ⟨h1, h2⟩ := hU
  have hw : (Scalar.subi (word m) 1#32).toNat = used m - 1 := by
    show (word m - 1#32 : BitVec 32).toNat = _
    rw [BitVec.toNat_sub, BitVec.toNat_ofNat]
    show (2 ^ 32 - 1 % 2 ^ 32 + used m) % 2 ^ 32 = used m - 1
    omega
  have e : (BitVec.ofNat 32 (grid0.coords t 0).val).toNat = t.val := by
    rw [coord_val, BitVec.toNat_ofNat]; omega
  unfold cc0_transform_19
  dsimp only
  refine congrArg (fun z => ![z, 0, 0]) ?_
  show (IntOp.minsi (BitVec.ofNat 32 (grid0.coords t 0).val) (Scalar.subi (word m) 1#32)).toNat = _
  unfold IntOp.minsi
  rw [BitVec.slt, WordCmp.toInt_eq_toNat_of_lt_half (by rw [e]; omega), WordCmp.toInt_eq_toNat_of_lt_half (by rw [hw]; omega), e, hw]
  by_cases hl : t.val < used m - 1
  · rw [if_pos (by simpa using hl), e]; omega
  · rw [if_neg (by simpa using hl), hw]; omega

/-- Past the end nothing is written back before the last point. -/
theorem flush_false (hO : Ok m) (hU : Used m) (t : Fin (cfgM m hO).N) (ht : used m ≤ t.val + 1) (hN : t.val + 1 < (cfgM m hO).N) :
    ((cfgM m hO).win 19).flush t = false := by
  unfold Pipeline.Window.flush
  rw [Bool.and_eq_false_iff]
  refine .inr ?_
  rw [Bool.or_eq_false_iff]
  refine ⟨decide_eq_false (Nat.ne_of_lt hN), decide_eq_false ?_⟩
  rintro ⟨h, hne⟩
  refine hne ?_
  refine (index19 m hU ⟨t.val + 1, h⟩).trans (Eq.trans ?_ (index19 m hU t).symm)
  rw [show min (t.val + 1) (used m - 1) = min t.val (used m - 1) by omega]

end Cert.Kernel3Ideal.Hand

end
-- ==== Proof.ExpFrame.lean ====
module

public import proofs.«01_k».proof.Proof.ExpBlock
public import proofs.«01_k».proof.Proof.Leaves
public import proofs.«01_k».proof.Proof.ExpSched
public import Idealize.ShloMosaic.Lib.Claim

/-! # The frame of the expert call: every execution terminates and the arguments end as they were -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (m : (ℓ : Loc nD τ sig) → Buf (Elt F) ℓ) (ρ : Dev nD → PrngReg)

/-- What a step leaves in the output block: the function of the blocks staged at its point. -/
def stepBlock (hO : Ok m) (c : Dev nD) (t : Fin (cfgM m hO).N) : Vec F S1x256x1024 .bf16 :=
  block (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t)

/-- The last step at or before a point. -/
def lastStep (hO : Ok m) (t : Fin (cfgM m hO).N) : Fin (cfgM m hO).N :=
  ⟨min t.val (used m - 1), lt_of_le_of_lt (Nat.min_le_left _ _) t.isLt⟩

/-- The proof data: the arrays as the region finds them, each input's buffer at its block, the output's at the last step's block. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => stepBlock m hO c (lastStep m hO t)
    | ⟨_ + 20, h⟩ => absurd h (Nat.not_lt.2 (Nat.le_add_left _ _))
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; rfl
theorem after0_1 (hO : Ok m) (c : Dev nD) (t : Fin (cfgM m hO).N) : (dats m hO 0 c).after 1 t = iblk m hO c 1 t := by dsimp only [dats]; rfl
theorem after0_2 (hO : Ok m) (c : Dev nD) (t : Fin (cfgM m hO).N) : (dats m hO 0 c).after 2 t = iblk m hO c 2 t := by dsimp only [dats]; rfl
theorem after0_3 (hO : Ok m) (c : Dev nD) (t : Fin (cfgM m hO).N) : (dats m hO 0 c).after 3 t = iblk m hO c 3 t := by dsimp only [dats]; rfl
theorem after0_4 (hO : Ok m) (c : Dev nD) (t : Fin (cfgM m hO).N) : (dats m hO 0 c).after 4 t = iblk m hO c 4 t := by dsimp only [dats]; rfl
theorem after0_5 (hO : Ok m) (c : Dev nD) (t : Fin (cfgM m hO).N) : (dats m hO 0 c).after 5 t = iblk m hO c 5 t := by dsimp only [dats]; rfl
theorem after0_6 (hO : Ok m) (c : Dev nD) (t : Fin (cfgM m hO).N) : (dats m hO 0 c).after 6 t = iblk m hO c 6 t := by dsimp only [dats]; rfl
theorem after0_7 (hO : Ok m) (c : Dev nD) (t : Fin (cfgM m hO).N) : (dats m hO 0 c).after 7 t = iblk m hO c 7 t := by dsimp only [dats]; rfl
theorem after0_8 (hO : Ok m) (c : Dev nD) (t : Fin (cfgM m hO).N) : (dats m hO 0 c).after 8 t = iblk m hO c 8 t := by dsimp only [dats]; rfl
theorem after0_9 (hO : Ok m) (c : Dev nD) (t : Fin (cfgM m hO).N) : (dats m hO 0 c).after 9 t = iblk m hO c 9 t := by dsimp only [dats]; rfl
theorem after0_10 (hO : Ok m) (c : Dev nD) (t : Fin (cfgM m hO).N) : (dats m hO 0 c).after 10 t = iblk m hO c 10 t := by dsimp only [dats]; rfl
theorem after0_11 (hO : Ok m) (c : Dev nD) (t : Fin (cfgM m hO).N) : (dats m hO 0 c).after 11 t = iblk m hO c 11 t := by dsimp only [dats]; rfl
theorem after0_12 (hO : Ok m) (c : Dev nD) (t : Fin (cfgM m hO).N) : (dats m hO 0 c).after 12 t = iblk m hO c 12 t := by dsimp only [dats]; rfl
theorem after0_13 (hO : Ok m) (c : Dev nD) (t : Fin (cfgM m hO).N) : (dats m hO 0 c).after 13 t = iblk m hO c 13 t := by dsimp only [dats]; rfl
theorem after0_14 (hO : Ok m) (c : Dev nD) (t : Fin (cfgM m hO).N) : (dats m hO 0 c).after 14 t = iblk m hO c 14 t := by dsimp only [dats]; rfl
theorem after0_15 (hO : Ok m) (c : Dev nD) (t : Fin (cfgM m hO).N) : (dats m hO 0 c).after 15 t = iblk m hO c 15 t := by dsimp only [dats]; rfl
theorem after0_16 (hO : Ok m) (c : Dev nD) (t : Fin (cfgM m hO).N) : (dats m hO 0 c).after 16 t = iblk m hO c 16 t := by dsimp only [dats]; rfl
theorem after0_17 (hO : Ok m) (c : Dev nD) (t : Fin (cfgM m hO).N) : (dats m hO 0 c).after 17 t = iblk m hO c 17 t := by dsimp only [dats]; rfl
theorem after0_18 (hO : Ok m) (c : Dev nD) (t : Fin (cfgM m hO).N) : (dats m hO 0 c).after 18 t = iblk m hO c 18 t := by dsimp only [dats]; rfl
theorem after0_19 (hO : Ok m) (c : Dev nD) (t : Fin (cfgM m hO).N) : (dats m hO 0 c).after 19 t = stepBlock m hO c (lastStep m hO t) := by dsimp only [dats]; rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d

theorem idle_false (hO : Ok m) (hU : Used m) (t : Fin (cfgM m hO).N) (h : t.val < used m) : (cfgM m hO).idle 19 ((cfgM m hO).grid.coords t) = false :=
  Bool.eq_false_iff.mpr fun e => absurd ((idle_iff m hO hU t).mp e) (Nat.not_le.mpr h)

/-- Past the end the output's buffer still holds the last step's block. -/
theorem before_idle (hO : Ok m) (hU : Used m) (c : Dev nD) (d) : ∀ (n : ℕ) (t : Fin (cfgM m hO).N), t.val = n → used m ≤ t.val →
    (dats m hO 0 c).before 19 t d = (dats m hO 0 c).after 19 t
  | 0, t, h0, h => absurd hU.1 (by omega)
  | n + 1, t, h0, h => by
    have hlt : n < (cfgM m hO).N := by have := t.isLt; omega
    have hp : (⟨t.val - 1, Nat.lt_of_le_of_lt (Nat.sub_le _ _) t.isLt⟩ : Fin (cfgM m hO).N) = ⟨n, hlt⟩ := Fin.ext (by show t.val - 1 = n; omega)
    have hl : lastStep m hO t = lastStep m hO ⟨n, hlt⟩ := Fin.ext (by
      show min t.val (used m - 1) = min n (used m - 1); have := hU.1; omega)
    rw [(dats m hO 0 c).before_of_pos 19 t (by omega) (((cfgM m hO).win 19).fetch_out rfl t) d, hp,
      flush_false m hO hU ⟨n, hlt⟩ (by show used m ≤ n + 1; omega) (by show n + 1 < _; have := t.isLt; omega), if_neg Bool.false_ne_true]
    unfold Dat.left
    by_cases hi : used m ≤ n
    · rw [(idle_iff m hO hU ⟨n, hlt⟩).mpr hi]
      dsimp only
      rw [before_idle hO hU c d n ⟨n, hlt⟩ rfl hi, after0_19, after0_19, hl]
    · rw [idle_false m hO hU ⟨n, hlt⟩ (Nat.lt_of_not_le hi)]
      dsimp only
      unfold Dat.kept
      rw [after0_19, after0_19, hl]
      rfl

/-- What the body is called with at a point, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ Cert.Whole.leavesAt (dats m hO 0 c) 0 t
    ∗ Cert.Whole.leavesAt (dats m hO 0 c) 1 t
    ∗ Cert.Whole.leavesAt (dats m hO 0 c) 2 t
    ∗ Cert.Whole.leavesAt (dats m hO 0 c) 3 t
    ∗ Cert.Whole.leavesAt (dats m hO 0 c) 4 t
    ∗ Cert.Whole.leavesAt (dats m hO 0 c) 5 t
    ∗ Cert.Whole.leavesAt (dats m hO 0 c) 6 t
    ∗ Cert.Whole.leavesAt (dats m hO 0 c) 7 t
    ∗ Cert.Whole.leavesAt (dats m hO 0 c) 8 t
    ∗ Cert.Whole.leavesAt (dats m hO 0 c) 9 t
    ∗ Cert.Whole.leavesAt (dats m hO 0 c) 10 t
    ∗ Cert.Whole.leavesAt (dats m hO 0 c) 11 t
    ∗ Cert.Whole.leavesAt (dats m hO 0 c) 12 t
    ∗ Cert.Whole.leavesAt (dats m hO 0 c) 13 t
    ∗ Cert.Whole.leavesAt (dats m hO 0 c) 14 t
    ∗ Cert.Whole.leavesAt (dats m hO 0 c) 15 t
    ∗ Cert.Whole.leavesAt (dats m hO 0 c) 16 t
    ∗ Cert.Whole.leavesAt (dats m hO 0 c) 17 t
    ∗ Cert.Whole.leavesAt (dats m hO 0 c) 18 t
    ∗ Cert.Whole.leavesAt (dats m hO 0 c) 19 t)

/-- No input is at rest at any point: its buffer is left at its block. -/
theorem busy (pf : pre0.Contents (Elt F)) (i : grid0.Coords) (w : Fin 20) (h : w.val < 19) : idle0 pf w i = false := by
  match w, h with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨n + 19, _⟩, h => exact absurd h (Nat.not_lt.mpr (Nat.le_add_left 19 n))

theorem leaves0_0 (hO : Ok m) (c : Dev nD) (t : Fin (cfgM m hO).N) :
    Cert.Whole.leavesAt (dats m hO 0 c) 0 t = owns (c : Thread nD τ) (ms0_0 m hO t) fullShare (iblk m hO c 0 t) := by
  rw [Cert.Whole.leavesAt_eq]; unfold Dat.leavesExact
  rw [(congrFun (congrFun (idle_cfg (adm m hO)) 0) ((cfgM m hO).grid.coords t)).trans (busy (tbl m) (grid0.coords t) 0 (by decide))]
  dsimp only
  rw [after0_0]
  rfl

theorem leaves0_1 (hO : Ok m) (c : Dev nD) (t : Fin (cfgM m hO).N) :
    Cert.Whole.leavesAt (dats m hO 0 c) 1 t = owns (c : Thread nD τ) (ms0_1 m hO t) fullShare (iblk m hO c 1 t) := by
  rw [Cert.Whole.leavesAt_eq]; unfold Dat.leavesExact
  rw [(congrFun (congrFun (idle_cfg (adm m hO)) 1) ((cfgM m hO).grid.coords t)).trans (busy (tbl m) (grid0.coords t) 1 (by decide))]
  dsimp only
  rw [after0_1]
  rfl

theorem leaves0_2 (hO : Ok m) (c : Dev nD) (t : Fin (cfgM m hO).N) :
    Cert.Whole.leavesAt (dats m hO 0 c) 2 t = owns (c : Thread nD τ) (ms0_2 m hO t) fullShare (iblk m hO c 2 t) := by
  rw [Cert.Whole.leavesAt_eq]; unfold Dat.leavesExact
  rw [(congrFun (congrFun (idle_cfg (adm m hO)) 2) ((cfgM m hO).grid.coords t)).trans (busy (tbl m) (grid0.coords t) 2 (by decide))]
  dsimp only
  rw [after0_2]
  rfl

theorem leaves0_3 (hO : Ok m) (c : Dev nD) (t : Fin (cfgM m hO).N) :
    Cert.Whole.leavesAt (dats m hO 0 c) 3 t = owns (c : Thread nD τ) (ms0_3 m hO t) fullShare (iblk m hO c 3 t) := by
  rw [Cert.Whole.leavesAt_eq]; unfold Dat.leavesExact
  rw [(congrFun (congrFun (idle_cfg (adm m hO)) 3) ((cfgM m hO).grid.coords t)).trans (busy (tbl m) (grid0.coords t) 3 (by decide))]
  dsimp only
  rw [after0_3]
  rfl

theorem leaves0_4 (hO : Ok m) (c : Dev nD) (t : Fin (cfgM m hO).N) :
    Cert.Whole.leavesAt (dats m hO 0 c) 4 t = owns (c : Thread nD τ) (ms0_4 m hO t) fullShare (iblk m hO c 4 t) := by
  rw [Cert.Whole.leavesAt_eq]; unfold Dat.leavesExact
  rw [(congrFun (congrFun (idle_cfg (adm m hO)) 4) ((cfgM m hO).grid.coords t)).trans (busy (tbl m) (grid0.coords t) 4 (by decide))]
  dsimp only
  rw [after0_4]
  rfl

theorem leaves0_5 (hO : Ok m) (c : Dev nD) (t : Fin (cfgM m hO).N) :
    Cert.Whole.leavesAt (dats m hO 0 c) 5 t = owns (c : Thread nD τ) (ms0_5 m hO t) fullShare (iblk m hO c 5 t) := by
  rw [Cert.Whole.leavesAt_eq]; unfold Dat.leavesExact
  rw [(congrFun (congrFun (idle_cfg (adm m hO)) 5) ((cfgM m hO).grid.coords t)).trans (busy (tbl m) (grid0.coords t) 5 (by decide))]
  dsimp only
  rw [after0_5]
  rfl

theorem leaves0_6 (hO : Ok m) (c : Dev nD) (t : Fin (cfgM m hO).N) :
    Cert.Whole.leavesAt (dats m hO 0 c) 6 t = owns (c : Thread nD τ) (ms0_6 m hO t) fullShare (iblk m hO c 6 t) := by
  rw [Cert.Whole.leavesAt_eq]; unfold Dat.leavesExact
  rw [(congrFun (congrFun (idle_cfg (adm m hO)) 6) ((cfgM m hO).grid.coords t)).trans (busy (tbl m) (grid0.coords t) 6 (by decide))]
  dsimp only
  rw [after0_6]
  rfl

theorem leaves0_7 (hO : Ok m) (c : Dev nD) (t : Fin (cfgM m hO).N) :
    Cert.Whole.leavesAt (dats m hO 0 c) 7 t = owns (c : Thread nD τ) (ms0_7 m hO t) fullShare (iblk m hO c 7 t) := by
  rw [Cert.Whole.leavesAt_eq]; unfold Dat.leavesExact
  rw [(congrFun (congrFun (idle_cfg (adm m hO)) 7) ((cfgM m hO).grid.coords t)).trans (busy (tbl m) (grid0.coords t) 7 (by decide))]
  dsimp only
  rw [after0_7]
  rfl

theorem leaves0_8 (hO : Ok m) (c : Dev nD) (t : Fin (cfgM m hO).N) :
    Cert.Whole.leavesAt (dats m hO 0 c) 8 t = owns (c : Thread nD τ) (ms0_8 m hO t) fullShare (iblk m hO c 8 t) := by
  rw [Cert.Whole.leavesAt_eq]; unfold Dat.leavesExact
  rw [(congrFun (congrFun (idle_cfg (adm m hO)) 8) ((cfgM m hO).grid.coords t)).trans (busy (tbl m) (grid0.coords t) 8 (by decide))]
  dsimp only
  rw [after0_8]
  rfl

theorem leaves0_9 (hO : Ok m) (c : Dev nD) (t : Fin (cfgM m hO).N) :
    Cert.Whole.leavesAt (dats m hO 0 c) 9 t = owns (c : Thread nD τ) (ms0_9 m hO t) fullShare (iblk m hO c 9 t) := by
  rw [Cert.Whole.leavesAt_eq]; unfold Dat.leavesExact
  rw [(congrFun (congrFun (idle_cfg (adm m hO)) 9) ((cfgM m hO).grid.coords t)).trans (busy (tbl m) (grid0.coords t) 9 (by decide))]
  dsimp only
  rw [after0_9]
  rfl

theorem leaves0_10 (hO : Ok m) (c : Dev nD) (t : Fin (cfgM m hO).N) :
    Cert.Whole.leavesAt (dats m hO 0 c) 10 t = owns (c : Thread nD τ) (ms0_10 m hO t) fullShare (iblk m hO c 10 t) := by
  rw [Cert.Whole.leavesAt_eq]; unfold Dat.leavesExact
  rw [(congrFun (congrFun (idle_cfg (adm m hO)) 10) ((cfgM m hO).grid.coords t)).trans (busy (tbl m) (grid0.coords t) 10 (by decide))]
  dsimp only
  rw [after0_10]
  rfl

theorem leaves0_11 (hO : Ok m) (c : Dev nD) (t : Fin (cfgM m hO).N) :
    Cert.Whole.leavesAt (dats m hO 0 c) 11 t = owns (c : Thread nD τ) (ms0_11 m hO t) fullShare (iblk m hO c 11 t) := by
  rw [Cert.Whole.leavesAt_eq]; unfold Dat.leavesExact
  rw [(congrFun (congrFun (idle_cfg (adm m hO)) 11) ((cfgM m hO).grid.coords t)).trans (busy (tbl m) (grid0.coords t) 11 (by decide))]
  dsimp only
  rw [after0_11]
  rfl

theorem leaves0_12 (hO : Ok m) (c : Dev nD) (t : Fin (cfgM m hO).N) :
    Cert.Whole.leavesAt (dats m hO 0 c) 12 t = owns (c : Thread nD τ) (ms0_12 m hO t) fullShare (iblk m hO c 12 t) := by
  rw [Cert.Whole.leavesAt_eq]; unfold Dat.leavesExact
  rw [(congrFun (congrFun (idle_cfg (adm m hO)) 12) ((cfgM m hO).grid.coords t)).trans (busy (tbl m) (grid0.coords t) 12 (by decide))]
  dsimp only
  rw [after0_12]
  rfl

theorem leaves0_13 (hO : Ok m) (c : Dev nD) (t : Fin (cfgM m hO).N) :
    Cert.Whole.leavesAt (dats m hO 0 c) 13 t = owns (c : Thread nD τ) (ms0_13 m hO t) fullShare (iblk m hO c 13 t) := by
  rw [Cert.Whole.leavesAt_eq]; unfold Dat.leavesExact
  rw [(congrFun (congrFun (idle_cfg (adm m hO)) 13) ((cfgM m hO).grid.coords t)).trans (busy (tbl m) (grid0.coords t) 13 (by decide))]
  dsimp only
  rw [after0_13]
  rfl

theorem leaves0_14 (hO : Ok m) (c : Dev nD) (t : Fin (cfgM m hO).N) :
    Cert.Whole.leavesAt (dats m hO 0 c) 14 t = owns (c : Thread nD τ) (ms0_14 m hO t) fullShare (iblk m hO c 14 t) := by
  rw [Cert.Whole.leavesAt_eq]; unfold Dat.leavesExact
  rw [(congrFun (congrFun (idle_cfg (adm m hO)) 14) ((cfgM m hO).grid.coords t)).trans (busy (tbl m) (grid0.coords t) 14 (by decide))]
  dsimp only
  rw [after0_14]
  rfl

theorem leaves0_15 (hO : Ok m) (c : Dev nD) (t : Fin (cfgM m hO).N) :
    Cert.Whole.leavesAt (dats m hO 0 c) 15 t = owns (c : Thread nD τ) (ms0_15 m hO t) fullShare (iblk m hO c 15 t) := by
  rw [Cert.Whole.leavesAt_eq]; unfold Dat.leavesExact
  rw [(congrFun (congrFun (idle_cfg (adm m hO)) 15) ((cfgM m hO).grid.coords t)).trans (busy (tbl m) (grid0.coords t) 15 (by decide))]
  dsimp only
  rw [after0_15]
  rfl

theorem leaves0_16 (hO : Ok m) (c : Dev nD) (t : Fin (cfgM m hO).N) :
    Cert.Whole.leavesAt (dats m hO 0 c) 16 t = owns (c : Thread nD τ) (ms0_16 m hO t) fullShare (iblk m hO c 16 t) := by
  rw [Cert.Whole.leavesAt_eq]; unfold Dat.leavesExact
  rw [(congrFun (congrFun (idle_cfg (adm m hO)) 16) ((cfgM m hO).grid.coords t)).trans (busy (tbl m) (grid0.coords t) 16 (by decide))]
  dsimp only
  rw [after0_16]
  rfl

theorem leaves0_17 (hO : Ok m) (c : Dev nD) (t : Fin (cfgM m hO).N) :
    Cert.Whole.leavesAt (dats m hO 0 c) 17 t = owns (c : Thread nD τ) (ms0_17 m hO t) fullShare (iblk m hO c 17 t) := by
  rw [Cert.Whole.leavesAt_eq]; unfold Dat.leavesExact
  rw [(congrFun (congrFun (idle_cfg (adm m hO)) 17) ((cfgM m hO).grid.coords t)).trans (busy (tbl m) (grid0.coords t) 17 (by decide))]
  dsimp only
  rw [after0_17]
  rfl

theorem leaves0_18 (hO : Ok m) (c : Dev nD) (t : Fin (cfgM m hO).N) :
    Cert.Whole.leavesAt (dats m hO 0 c) 18 t = owns (c : Thread nD τ) (ms0_18 m hO t) fullShare (iblk m hO c 18 t) := by
  rw [Cert.Whole.leavesAt_eq]; unfold Dat.leavesExact
  rw [(congrFun (congrFun (idle_cfg (adm m hO)) 18) ((cfgM m hO).grid.coords t)).trans (busy (tbl m) (grid0.coords t) 18 (by decide))]
  dsimp only
  rw [after0_18]
  rfl

theorem leaves_live (hO : Ok m) (hU : Used m) (c : Dev nD) (t : Fin (cfgM m hO).N) (h : t.val < used m) :
    Cert.Whole.leavesAt (dats m hO 0 c) 19 t = owns (c : Thread nD τ) (ms0_19 m hO t) fullShare (stepBlock m hO c t) := by
  rw [Cert.Whole.leavesAt_eq]; unfold Dat.leavesExact
  rw [idle_false m hO hU t h]
  dsimp only
  rw [after0_19, show lastStep m hO t = t from Fin.ext (by show min t.val (used m - 1) = t.val; omega)]
  rfl

theorem leaves_idle (hO : Ok m) (hU : Used m) (c : Dev nD) (t : Fin (cfgM m hO).N) (h : used m ≤ t.val) (d) :
    (owns (c : Thread nD τ) (ms0_19 m hO t) fullShare ((dats m hO 0 c).before 19 t d) : sProp (MT nD τ sig Unit (Elt F) ℕ (UR sig nD τ) ℕ)) ⊢ Cert.Whole.leavesAt (dats m hO 0 c) 19 t := by
  cases hf : ((cfgM m hO).win 19).flush t
  · rw [Cert.Whole.leavesAt_eq, (dats m hO 0 c).leavesExact_idle 19 t ((idle_iff m hO hU t).mpr h) hf]
    iintro H; iexists d; iexact H
  · rw [Cert.Whole.leavesAt_eq]; unfold Dat.leavesExact
    rw [(idle_iff m hO hU t).mpr h, hf]
    dsimp only
    rw [before_idle m hO hU c d t.val t rfl h]
    iintro H; iexact H

set_option maxHeartbeats 2000000 in
/-- The body at any point: a step stores its block, a point past the end leaves every buffer as it was. -/
theorem sound_body (hO : Ok m) (hU : Used m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m hO 0 c).Φ t.succ = (dats m hO 0 c).Φ t.castSucc from rfl,
    show (dats m hO 0 c).owesAt () t.succ = (dats m hO 0 c).owesAt () t.castSucc from rfl,
    leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [show (dats m hO 0 c).Φ t.castSucc = iprop(Pipeline.ΦA spec0 c ∗ Pipeline.ΦT pre0 (tbl m) c) from rfl, PhiT0_eq]
  by_cases h : t.val < used m
  · have hc := (cond_iff t (word m) hU.2).mpr h
    rw [leaves_live m hO hU c t h]
    unfold stepBlock
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((runLive c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) (tbl m 1) (tbl m 2) hc).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [HT0]; · iexact HT0
    isplitl [HT1]; · iexact HT1
    isplitl [HT2]; · iexact HT2
    iintro ⟨H0, H1, H2, H3, H4, H5, H6, H7, H8, H9, H10, H11, H12, H13, H14, H15, H16, H17, H18, ⟨%e19, H19⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    unfold owns; iexists _; isplitr
    swap; · iexact H19
    ipureintro; exact read_live c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) (tbl m 1) (tbl m 2) hc _
  · have hc : ¬ _ := fun e => h ((cond_iff t (word m) hU.2).mp e)
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    ihave HL := (leaves_idle m hO hU c t (Nat.le_of_not_lt h) d19) $$ H19
    iapply (runIdle c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (tbl m 0) (tbl m 1) (tbl m 2) hc Set.univ _ iprop(Pipeline.ΦA spec0 c ∗ (dats m hO 0 c).owesAt () t.castSucc ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ owns (c : Thread nD τ) (ms0_11 m hO t) fullShare (iblk m hO c 11 t) ∗ owns (c : Thread nD τ) (ms0_12 m hO t) fullShare (iblk m hO c 12 t) ∗ owns (c : Thread nD τ) (ms0_13 m hO t) fullShare (iblk m hO c 13 t) ∗ owns (c : Thread nD τ) (ms0_14 m hO t) fullShare (iblk m hO c 14 t) ∗ owns (c : Thread nD τ) (ms0_15 m hO t) fullShare (iblk m hO c 15 t) ∗ owns (c : Thread nD τ) (ms0_16 m hO t) fullShare (iblk m hO c 16 t) ∗ owns (c : Thread nD τ) (ms0_17 m hO t) fullShare (iblk m hO c 17 t) ∗ owns (c : Thread nD τ) (ms0_18 m hO t) fullShare (iblk m hO c 18 t) ∗ Cert.Whole.leavesAt (dats m hO 0 c) 19 t))
    isplitl [HΦ Ho H0 H1 H2 H3 H4 H5 H6 H7 H8 H9 H10 H11 H12 H13 H14 H15 H16 H17 H18 HL]
    · isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact HL
    isplitl [HT0]; · iexact HT0
    isplitl [HT1]; · iexact HT1
    isplitl [HT2]; · iexact HT2
    iintro ⟨⟨HΦ, Ho, HX⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    iexact HX

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hU : Used m) (c : Dev nD) : BodyObligation (dats (F := F) m hO 0 c) (defs₀ (F := F)) Variants.none () Set.univ := by
  refine Cert.Whole.obligation_of_leaves _ _ _ _ _ fun t => ?_
  rw [bigSep_W0, bigSep_W0, defs₀_row m hO]
  exact triple_restated (sound_body m hO hU c t) rfl .rfl fun _ => .rfl

set_option backward.isDefEq.respectTransparency.types false in
/-- The launch: every execution ends in the state the proof data gives, with every semaphore counter at zero. -/
theorem run_main_quiescent (hO : Ok m) (hU : Used m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO hU c).loose) (hq := fun _ _ _ => rfl)
    (howed := fun _ _ => rfl) (V := V m) (hmain := hmain m Variants.none) (hA := A_eq m hO) (hpf := V_pre m)
    (hΦ := fun _ _ => rfl)

theorem run_main (hO : Ok m) (hU : Used m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hU)

/-- The frame: the arguments end as launched and every counter at zero. -/
theorem frame (hO : Ok m) (hU : Used m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ hO (dats m hO) (A_eq m hO) (run_main m ρ hO hU)) ((θ_run defs _ _).mono (fun _ h => h.2) (run_main_quiescent m ρ hO hU))

end Cert.Kernel3Ideal.Hand

end
-- ==== Proof.FfnMath.lean ====
module

public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Pointwise
public import Mathlib.Analysis.SpecialFunctions.Trigonometric.Basic

/-! # The dense feed-forward layer of one token, over the extended reals

The token's row is divided by its root mean square, scaled and shifted; two products with the weights give a gate and a value, the
gate passes through `v / (1 + e⁻ᵛ)`, and the product of the two goes back through the third matrix. -/

@[expose] public section

noncomputable section

namespace Cert.Ffn

open Idealize.ShloMosaic
open scoped BigOperators

/-- One half, one, the row's length and the small number under the root, as the programs write them. -/
def half : EReal := Ideal.ofBits .f32 0x3F000000#32
def unit : EReal := Ideal.ofBits .f32 0x3F800000#32
def len : EReal := Ideal.ofBits .f32 0x44800000#32
def eps : EReal := Ideal.ofBits .f32 0x358637BD#32

/-- One half. -/
theorem half_eq : half = ((1 / 2 : ℝ) : EReal) := by
  unfold half
  simp [Ideal.ofBits, Ideal.ieee, -EReal.coe_mul]; norm_num

/-- One. -/
theorem unit_eq : unit = 1 := Ideal.ofBits_one_f32

/-- The gate's function. -/
def silu (v : EReal) : EReal := v * Ideal.div unit (unit + Ideal.exp (-v))

/-- The logistic function written with the hyperbolic tangent. -/
theorem sigmoid_eq (v : EReal) : half * Ideal.tanh (half * v) + half = Ideal.div unit (unit + Ideal.exp (-v)) := by
  have e : Ideal.div unit (unit + Ideal.exp (-v)) = Ideal.logistic v := by rw [unit_eq]; rfl
  rw [e, half_eq]
  induction v with
  | bot =>
    rw [EReal.coe_mul_bot_of_pos (by norm_num), Ideal.tanh_bot, Ideal.logistic_bot, show (-1 : EReal) = ((-1 : ℝ) : EReal) by rw [EReal.coe_neg, EReal.coe_one]]
    norm_cast; norm_num
  | top =>
    rw [EReal.coe_mul_top_of_pos (by norm_num), Ideal.tanh_top, Ideal.logistic_top, mul_one]
    norm_cast; norm_num
  | coe r =>
    rw [← EReal.coe_mul, Ideal.tanh_coe, Ideal.logistic_coe]
    norm_cast
    have h : (0 : ℝ) < Real.exp (1 / 2 * r) := Real.exp_pos _
    have h2 : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, Real.exp_neg, h2]
    have h3 : Real.exp (1 / 2 * r) * Real.exp (1 / 2 * r) + 1 ≠ 0 := by positivity
    field_simp
    ring

/-- The gate, written the kernel's way. -/
theorem silu_eq (v : EReal) : v * (half * Ideal.tanh (half * v) + half) = silu v := by
  unfold silu; rw [sigmoid_eq]

variable (x sh sc gt g : Fin 1024 → EReal) (wg wu : Fin 1024 → Fin 2816 → EReal) (wd : Fin 2816 → Fin 1024 → EReal)

/-- The normalised row, scaled and shifted. -/
def hidden (d : Fin 1024) : EReal :=
  x d * Ideal.rsqrt (Ideal.div (∑ k, x k * x k) len + eps) * g d * (unit + sc d) + sh d

/-- The gated product at one of the inner columns. -/
def inner (f : Fin 2816) : EReal :=
  silu (∑ d, hidden x sh sc g d * wg d f) * ∑ d, hidden x sh sc g d * wu d f

/-- The token's new row. -/
def token (c : Fin 1024) : EReal := x c + gt c * ∑ f, inner x sh sc g wg wu f * wd f c

/-- The layer: row `R` of the result is token `R % 8192` of sequence `R / 8192`, each sequence with its own modulation. -/
def answer (x : FVec Ideal ⟨3, ![2, 8192, 1024]⟩ .f32) (sh sc gt : FVec Ideal ⟨3, ![8, 1, 1024]⟩ .f32) (g : FVec Ideal ⟨1, ![1024]⟩ .f32)
    (wg wu : FVec Ideal ⟨2, ![1024, 2816]⟩ .f32) (wd : FVec Ideal ⟨2, ![2816, 1024]⟩ .f32) (R : Fin 16384) (d : Fin 1024) : EReal :=
  token (fun k => x (ix3 ⟨R.val / 8192, by omega⟩ ⟨R.val % 8192, by omega⟩ k)) (fun k => sh (ix3 ⟨R.val / 8192, by omega⟩ 0 k))
    (fun k => sc (ix3 ⟨R.val / 8192, by omega⟩ 0 k)) (fun k => gt (ix3 ⟨R.val / 8192, by omega⟩ 0 k)) (fun k => g (ix1 k))
    (fun d f => wg (ix2 d f)) (fun d f => wu (ix2 d f)) (fun f d => wd (ix2 f d)) d

end Cert.Ffn

end
-- ==== Proof.ExpMath.lean ====
module

public import proofs.«01_k».proof.Proof.FfnMath

/-! # The experts' feed-forward layer, over the extended reals

A step of the schedule has 256 rows in eight pieces of 32. The table of pieces tells for each which 32 rows of the grouped tokens it is, the
table of experts whose three matrices the step goes through. Each row's result is scaled by its router weight. -/

@[expose] public section

noncomputable section

namespace Cert.Exp

open Idealize.ShloMosaic
open scoped BigOperators

/-- A row through an expert's three matrices. -/
def value (h : Fin 1024 → EReal) (wg wu : Fin 1024 → Fin 2816 → EReal) (wd : Fin 2816 → Fin 1024 → EReal) (c : Fin 1024) : EReal :=
  ∑ f, (Cert.Ffn.silu (∑ d, h d * wg d f) * ∑ d, h d * wu d f) * wd f c

/-- The piece a word names, and the expert. -/
def piece (w : BitVec 32) : Fin 1280 := ⟨min w.toNat 1279, by omega⟩
def expert (w : BitVec 32) : Fin 8 := ⟨min w.toNat 7, by omega⟩

/-- Piece `s / 32` of step `t`. -/
def pieceOf (p : IVec ⟨1, ![1336]⟩ 32) (t : Fin 167) (s : Fin 256) : Fin 1280 :=
  piece (p (ix1 ⟨167 * (s.val / 32) + t.val, by omega⟩))

/-- Row `q` of piece `P` among all rows of width `n`, which lie in blocks of 256. -/
def rowOf {φ : FTy} {n : ℕ} (x : FVec Ideal ⟨3, ![160, 256, n]⟩ φ) (P : Fin 1280) (q : Fin 32) (k : Fin n) : EReal :=
  x (ix3 ⟨(P.val * 32 + q.val) / 256, by omega⟩ ⟨(P.val * 32 + q.val) % 256, by omega⟩ k)

/-- The result at row `s` of step `t`. -/
def answer (p : IVec ⟨1, ![1336]⟩ 32) (e : IVec ⟨1, ![167]⟩ 32) (x : FVec Ideal ⟨3, ![160, 256, 1024]⟩ .bf16) (u : FVec Ideal ⟨3, ![160, 256, 128]⟩ .f32)
    (wg wu : FVec Ideal ⟨3, ![8, 1024, 2816]⟩ .f32) (wd : FVec Ideal ⟨3, ![8, 2816, 1024]⟩ .f32) (t : Fin 167) (s : Fin 256) (c : Fin 1024) : EReal :=
  rowOf u (pieceOf p t s) ⟨s.val % 32, by omega⟩ ⟨c.val % 128, by omega⟩
    * value (fun d => rowOf x (pieceOf p t s) ⟨s.val % 32, by omega⟩ d)
        (fun d f => wg (ix3 (expert (e (ix1 t))) d f)) (fun d f => wu (ix3 (expert (e (ix1 t))) d f)) (fun f d => wd (ix3 (expert (e (ix1 t))) f d)) c

end Cert.Exp

end
-- ==== Proof.ExpPoint.lean ====
module

public import proofs.«01_k».proof.Proof.ExpBlock
public import proofs.«01_k».proof.Proof.ExpMath
public import Idealize.ShloMosaic.Lib.IdealHost
public import Idealize.ShloMosaic.Lib.MatmulPlain
public import Idealize.ShloMosaic.Lib.Pointwise
public import Idealize.ShloMosaic.Lib.Pipeline.Value

/-! # One entry of a step's block, over the extended reals -/

@[expose] public section

noncomputable section

namespace Cert.Kernel3Ideal.Hand

open Idealize.ShloMosaic Idealize.ShloMosaic.TcCoe Idealize.ShloMosaic.Tactic
open Cert.Kernel3Ideal Cert.Kernel3Ideal.Gen

/-- Eight pieces of 32 rows put below one another. -/
theorem below {α : Type} (n : ℕ) (x : Fin 8 → ((⟨2, ![32, n]⟩ : Shape).Idx → α))
    (h : Shape.Concatenates [⟨2, ![32, n]⟩, ⟨2, ![32, n]⟩, ⟨2, ![32, n]⟩, ⟨2, ![32, n]⟩, ⟨2, ![32, n]⟩, ⟨2, ![32, n]⟩, ⟨2, ![32, n]⟩, ⟨2, ![32, n]⟩] ⟨2, ![256, n]⟩ 0)
    (s : Fin 256) (k : Fin n) :
    concatenate ⟨2, ![256, n]⟩ 0 [⟨⟨2, ![32, n]⟩, x 0⟩, ⟨⟨2, ![32, n]⟩, x 1⟩, ⟨⟨2, ![32, n]⟩, x 2⟩, ⟨⟨2, ![32, n]⟩, x 3⟩, ⟨⟨2, ![32, n]⟩, x 4⟩, ⟨⟨2, ![32, n]⟩, x 5⟩, ⟨⟨2, ![32, n]⟩, x 6⟩, ⟨⟨2, ![32, n]⟩, x 7⟩] h (ix2 s k)
      = x ⟨s.val / 32, by omega⟩ (ix2 ⟨s.val % 32, by omega⟩ k) := by
  obtain ⟨r, hr⟩ : ∃ r : Fin 8, r = ⟨s.val / 32, by omega⟩ := ⟨_, rfl⟩
  rw [← hr]
  have hv : r.val = s.val / 32 := by rw [hr]
  refine concatenate_apply_piece (s₁ := ⟨2, ![32, n]⟩) (t := ⟨2, ![256, n]⟩) 0 [⟨⟨2, ![32, n]⟩, x 0⟩, ⟨⟨2, ![32, n]⟩, x 1⟩, ⟨⟨2, ![32, n]⟩, x 2⟩, ⟨⟨2, ![32, n]⟩, x 3⟩, ⟨⟨2, ![32, n]⟩, x 4⟩, ⟨⟨2, ![32, n]⟩, x 5⟩, ⟨⟨2, ![32, n]⟩, x 6⟩, ⟨⟨2, ![32, n]⟩, x 7⟩] h (ix2 s k) r.val (by simpa using r.isLt) (x₁ := x r) (hxk := ?_) (hr := rfl) (pre := 32 * r.val) (hpre := ?_) (i := ix2 ⟨s.val % 32, by omega⟩ k) (hi := ?_) (ha := ?_)
  · fin_cases r <;> rfl
  · fin_cases r <;> rfl
  · intro b hb
    match b with
    | ⟨0, _⟩ => exact absurd rfl hb
    | ⟨1, _⟩ => rfl
  · show 32 * r.val + s.val % 32 = s.val
    omega

/-- Eight copies of 128 columns put beside one another. -/
theorem beside {α : Type} (x : (⟨2, ![256, 128]⟩ : Shape).Idx → α)
    (h : Shape.Concatenates [⟨2, ![256, 128]⟩, ⟨2, ![256, 128]⟩, ⟨2, ![256, 128]⟩, ⟨2, ![256, 128]⟩, ⟨2, ![256, 128]⟩, ⟨2, ![256, 128]⟩, ⟨2, ![256, 128]⟩, ⟨2, ![256, 128]⟩] ⟨2, ![256, 1024]⟩ 1)
    (s : Fin 256) (k : Fin 1024) :
    concatenate ⟨2, ![256, 1024]⟩ 1 [⟨⟨2, ![256, 128]⟩, x⟩, ⟨⟨2, ![256, 128]⟩, x⟩, ⟨⟨2, ![256, 128]⟩, x⟩, ⟨⟨2, ![256, 128]⟩, x⟩, ⟨⟨2, ![256, 128]⟩, x⟩, ⟨⟨2, ![256, 128]⟩, x⟩, ⟨⟨2, ![256, 128]⟩, x⟩, ⟨⟨2, ![256, 128]⟩, x⟩] h (ix2 s k)
      = x (ix2 s ⟨k.val % 128, by omega⟩) := by
  obtain ⟨r, hr⟩ : ∃ r : Fin 8, r = ⟨k.val / 128, by omega⟩ := ⟨_, rfl⟩
  have hv : r.val = k.val / 128 := by rw [hr]
  refine concatenate_apply_piece (s₁ := ⟨2, ![256, 128]⟩) (t := ⟨2, ![256, 1024]⟩) 1 [⟨⟨2, ![256, 128]⟩, x⟩, ⟨⟨2, ![256, 128]⟩, x⟩, ⟨⟨2, ![256, 128]⟩, x⟩, ⟨⟨2, ![256, 128]⟩, x⟩, ⟨⟨2, ![256, 128]⟩, x⟩, ⟨⟨2, ![256, 128]⟩, x⟩, ⟨⟨2, ![256, 128]⟩, x⟩, ⟨⟨2, ![256, 128]⟩, x⟩] h (ix2 s k) r.val (by simpa using r.isLt) (x₁ := x) (hxk := ?_) (hr := rfl) (pre := 128 * r.val) (hpre := ?_) (i := ix2 s ⟨k.val % 128, by omega⟩) (hi := ?_) (ha := ?_)
  · fin_cases r <;> rfl
  · fin_cases r <;> rfl
  · intro b hb
    match b with
    | ⟨0, _⟩ => rfl
    | ⟨1, _⟩ => exact absurd rfl hb
  · show 128 * r.val + k.val % 128 = k.val
    omega

variable (x : Fin 8 → Vec Ideal S1x32x1024 .bf16) (u : Fin 8 → Vec Ideal S1x32x128 .f32)

/-- The rows of a step. -/
theorem rows_apply (s : Fin 256) (k : Fin 1024) :
    k0_pay2 (x 0) (x 1) (x 2) (x 3) (x 4) (x 5) (x 6) (x 7) (ix2 s k) = x ⟨s.val / 32, by omega⟩ (ix3 0 ⟨s.val % 32, by omega⟩ k) := by
  unfold k0_pay2
  refine (below 1024 (fun r => shapeCast S32x1024 (x r) shapeCasts_S1x32x1024_S32x1024) _ s k).trans ?_
  refine shapeCast_apply _ _ _ _ ?_
  rw [Shape.rowMajor_val_three, Shape.rowMajor_val_two]
  show (0 * 32 + s.val % 32) * 1024 + k.val = s.val % 32 * 1024 + k.val
  omega

/-- The router weights of a step, one row each, as wide as the result. -/
def wide (v0 v1 v2 v3 v4 v5 v6 v7 : Vec Ideal S1x32x128 .f32) : FVec Ideal S256x1024 .f32 :=
  have y : FVec Ideal S256x128 .f32 := concatenate S256x128 0 [⟨S32x128, shapeCast S32x128 v0 shapeCasts_S1x32x128_S32x128⟩, ⟨S32x128, shapeCast S32x128 v1 shapeCasts_S1x32x128_S32x128⟩, ⟨S32x128, shapeCast S32x128 v2 shapeCasts_S1x32x128_S32x128⟩, ⟨S32x128, shapeCast S32x128 v3 shapeCasts_S1x32x128_S32x128⟩, ⟨S32x128, shapeCast S32x128 v4 shapeCasts_S1x32x128_S32x128⟩, ⟨S32x128, shapeCast S32x128 v5 shapeCasts_S1x32x128_S32x128⟩, ⟨S32x128, shapeCast S32x128 v6 shapeCasts_S1x32x128_S32x128⟩, ⟨S32x128, shapeCast S32x128 v7 shapeCasts_S1x32x128_S32x128⟩] concatenates_S32x128_S32x128_S32x128_S32x128_S32x128_S32x128_S32x128_S32x128_S256x128_d0
  concatenate S256x1024 1 [⟨S256x128, y⟩, ⟨S256x128, y⟩, ⟨S256x128, y⟩, ⟨S256x128, y⟩, ⟨S256x128, y⟩, ⟨S256x128, y⟩, ⟨S256x128, y⟩, ⟨S256x128, y⟩] concatenates_S256x128_S256x128_S256x128_S256x128_S256x128_S256x128_S256x128_S256x128_S256x1024_d1

/-- Each is the weight of its row. -/
theorem wide_apply (s : Fin 256) (c : Fin 1024) :
    wide (u 0) (u 1) (u 2) (u 3) (u 4) (u 5) (u 6) (u 7) (ix2 s c) = u ⟨s.val / 32, by omega⟩ (ix3 0 ⟨s.val % 32, by omega⟩ ⟨c.val % 128, by omega⟩) := by
  unfold wide
  refine (beside _ _ s c).trans ?_
  refine (below 128 (fun r => shapeCast S32x128 (u r) shapeCasts_S1x32x128_S32x128) _ s ⟨c.val % 128, by omega⟩).trans ?_
  refine shapeCast_apply _ _ _ _ ?_
  rw [Shape.rowMajor_val_three, Shape.rowMajor_val_two]
  show (0 * 32 + s.val % 32) * 128 + c.val % 128 = s.val % 32 * 128 + c.val % 128
  omega

/-- The gate of a row. -/
theorem gate_apply (v4 v6 v8 v10 v12 v14 v16 v18 : Vec Ideal S1x32x1024 .bf16) (w : Vec Ideal S1x1024x2816 .bf16) (s : Fin 256) (f : Fin 2816) :
    k0_pay3 v4 v6 v8 v10 v12 v14 v16 v18 w (ix2 s f) = Cert.Ffn.silu (∑ d, k0_pay2 v4 v6 v8 v10 v12 v14 v16 v18 (ix2 s d) * w (ix3 0 d f)) := by
  unfold k0_pay3
  pointwise
  rw [← Cert.Ffn.silu_eq]
  rfl

/-- The product back. -/
def back (v20 : FVec Ideal S256x1024 .bf16) (v31 : FVec Ideal S256x2816 .f32) (v32 : Vec Ideal S1x1024x2816 .bf16) (v37 : Vec Ideal S1x2816x1024 .bf16) : FVec Ideal S256x1024 .f32 :=
  matmul dot_S256x2816_S2816x1024_S256x1024_1_0_0_1_n_n none (truncf .bf16 (mulf v31 (matmul dot_S256x1024_S1024x2816_S256x2816_1_0_0_1_n_n none v20 (shapeCast S1024x2816 v32 shapeCasts_S1x1024x2816_S1024x2816 : FVec Ideal S1024x2816 .bf16) (constant S256x2816 .f32 0x00000000#32 : FVec Ideal S256x2816 .f32) : FVec Ideal S256x2816 .f32)) bitsLt_bf16_f32 : FVec Ideal S256x2816 .bf16)
    (shapeCast S2816x1024 v37 shapeCasts_S1x2816x1024_S2816x1024 : FVec Ideal S2816x1024 .bf16) (constant S256x1024 .f32 0x00000000#32 : FVec Ideal S256x1024 .f32)

/-- The product back, entry by entry. -/
theorem back_apply (h : FVec Ideal S256x1024 .bf16) (g : FVec Ideal S256x2816 .f32) (wu : Vec Ideal S1x1024x2816 .bf16) (wd : Vec Ideal S1x2816x1024 .bf16) (s : Fin 256) (c : Fin 1024) :
    back h g wu wd (ix2 s c) = ∑ f, (g (ix2 s f) * ∑ d, h (ix2 s d) * wu (ix3 0 d f)) * wd (ix3 0 f c) := by
  unfold back
  pointwise

/-- The last payload is the product back times the weight. -/
theorem last_eq (h : FVec Ideal S256x1024 .bf16) (g : FVec Ideal S256x2816 .f32) (wu : Vec Ideal S1x1024x2816 .bf16) (wd : Vec Ideal S1x2816x1024 .bf16)
    (v0 v1 v2 v3 v4 v5 v6 v7 : Vec Ideal S1x32x128 .f32) :
    k0_pay4 h g wu wd v0 v1 v2 v3 v4 v5 v6 v7 = truncf .bf16 (mulf (back h g wu wd) (wide v0 v1 v2 v3 v4 v5 v6 v7)) bitsLt_bf16_f32 := rfl

/-- An entry of the block a step stores. -/
theorem block_apply (wg wu : Vec Ideal S1x1024x2816 .bf16) (wd : Vec Ideal S1x2816x1024 .bf16) (s : Fin 256) (c : Fin 1024) :
    block (x 0) (x 1) (x 2) (x 3) (x 4) (x 5) (x 6) (x 7) (u 0) (u 1) (u 2) (u 3) (u 4) (u 5) (u 6) (u 7) wg wu wd (ix3 0 s c)
      = u ⟨s.val / 32, by omega⟩ (ix3 0 ⟨s.val % 32, by omega⟩ ⟨c.val % 128, by omega⟩)
        * Cert.Exp.value (fun d => x ⟨s.val / 32, by omega⟩ (ix3 0 ⟨s.val % 32, by omega⟩ d)) (fun d f => wg (ix3 0 d f)) (fun d f => wu (ix3 0 d f)) (fun f d => wd (ix3 0 f d)) c := by
  unfold block k0_pay1
  refine (shapeCast_apply _ _ _ (ix2 s c) ?_).trans ?_
  · rw [Shape.rowMajor_val_three, Shape.rowMajor_val_two]
    show s.val * 1024 + c.val = (0 * 256 + s.val) * 1024 + c.val
    omega
  rw [last_eq]
  refine (show _ = back _ _ wu wd (ix2 s c) * wide (u 0) (u 1) (u 2) (u 3) (u 4) (u 5) (u 6) (u 7) (ix2 s c) from rfl).trans ?_
  rw [back_apply, wide_apply, mul_comm]
  unfold Cert.Exp.value
  simp only [gate_apply, rows_apply]

end Cert.Kernel3Ideal.Hand

end
-- ==== Proof.TablesNamed.lean ====
module

public import proofs.«01_k».proof.Pre_tables_named
public import Idealize.ShloMosaic.Lib.StableHlo.Predicate

/-! # What the precondition says of the tables: every piece and expert is one of those there are, and there is a step -/

@[expose] public section

namespace Cert.TablesNamed

open Idealize.ShloMosaic

theorem andi_one (a b : BitVec 1) : IntOp.andi a b = 1#1 ↔ a = 1#1 ∧ b = 1#1 := by revert a b; decide

/-- A word at least 0 and below a bound, as signed numbers, is below it as a natural number. -/
theorem lt_of_cmp {a b : BitVec 32} (hb : b.toNat < 2 ^ 31) (h0 : IntOp.cmpi .sge a 0#32 = 1#1) (h1 : IntOp.cmpi .slt a b = 1#1) :
    a.toNat < b.toNat := by
  simp only [IntOp.cmpi, StableHlo.Predicate.ofBool_eq_one_iff, BitVec.sle, BitVec.slt, decide_eq_true_eq, BitVec.toInt_eq_toNat_cond] at h0 h1
  have := a.isLt
  simp only [BitVec.toNat_ofNat] at h0
  split at h0 <;> split at h1 <;> split at h1 <;> omega

/-- The same between two bounds. -/
theorem le_of_cmp {a : BitVec 32} (h0 : IntOp.cmpi .sge a 1#32 = 1#1) (h1 : IntOp.cmpi .sle a 167#32 = 1#1) :
    1 ≤ a.toNat ∧ a.toNat ≤ 167 := by
  simp only [IntOp.cmpi, StableHlo.Predicate.ofBool_eq_one_iff, BitVec.sle, BitVec.slt, decide_eq_true_eq, BitVec.toInt_eq_toNat_cond] at h0 h1
  have := a.isLt
  simp only [BitVec.toNat_ofNat] at h0 h1
  split at h0 <;> omega

open Cert.Pre_tables_named

variable [Facts] {F : FTy → Type} [FloatOps F]
variable (p : IVec S1336 32) (s : IVec S167 32) (n : IVec S1 32) (x : FVec F S160x256x1024 .bf16) (w : FVec F S160x256x128 .f32)
  (g u : FVec F S8x1024x2816 .f32) (d : FVec F S8x2816x1024 .f32)

theorem piece_lt (h : (fn p s n x w g u d).1 = fun _ => 1#1) (i : S1336.Idx) : (p i).toNat < 1280 := by
  have e := congrFun h i
  simp only [fn, constantI, broadcastInDim, cmpi, andi, andi_one] at e
  exact lt_of_cmp (b := 1280#32) (by decide) e.1 e.2

theorem expert_lt (h : (fn p s n x w g u d).2.1 = fun _ => 1#1) (i : S167.Idx) : (s i).toNat < 8 := by
  have e := congrFun h i
  simp only [fn, constantI, broadcastInDim, cmpi, andi, andi_one] at e
  exact lt_of_cmp (b := 8#32) (by decide) e.1 e.2

theorem used_le (h : (fn p s n x w g u d).2.2 = fun _ => 1#1) (i : S1.Idx) : 1 ≤ (n i).toNat ∧ (n i).toNat ≤ 167 := by
  have e := congrFun h i
  simp only [fn, constantI, broadcastInDim, cmpi, andi, andi_one] at e
  exact le_of_cmp e.1 e.2

end Cert.TablesNamed
-- ==== Proof.ExpPre.lean ====
module

public import proofs.«01_k».proof.Proof.ExpSched
public import proofs.«01_k».proof.Proof.TablesNamed

/-! # The blocks the tables name, and that all are inside their arrays -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

variable (m : (ℓ : Loc nD τ sig) → Buf (Elt F) ℓ) (ρ : Dev nD → PrngReg)

theorem lt_167 (i : grid0.Coords) : (i 0).val < 167 := (i 0).isLt

/-- The place of a word in the table of pieces, -/
def at0 (r : Fin 8) (i : grid0.Coords) : S1336.Idx := Shape.Idx.ofFin (n := 1336) ⟨167 * r.val + (i 0).val, by have := lt_167 i; have := r.isLt; omega⟩
/-- and in the table of experts. -/
def at1 (i : grid0.Coords) : S167.Idx := Shape.Idx.ofFin (n := 167) ⟨(i 0).val, lt_167 i⟩

/-- The block of pieces a point's window is on, -/
def pieceAt (pf : pre0.Contents (Elt F)) (r : Fin 8) (i : grid0.Coords) : ℕ := BitVec.toNat (w := 32) (pf 0 (at0 r i))
/-- and the expert. -/
def expertAt (pf : pre0.Contents (Elt F)) (i : grid0.Coords) : ℕ := BitVec.toNat (w := 32) (pf 1 (at1 i))

theorem at_piece (pf : pre0.Contents (Elt F)) (i : grid0.Coords) (r : Fin 8) (off : Fin 1 → ℕ) (inb : ∀ a, off a + S1.size a ≤ S1336.size a)
    (h : off 0 = 167 * r.val + (i 0).val) : pf.at 0 (Rect.unit (s := S1336) off S1.size inb) numel1_S1 = pf 0 (at0 r i) := by
  refine congrArg (pf 0) (funext fun (a : Fin 1) => Fin.ext ?_)
  match a with
  | 0 => exact h

theorem at_expert (pf : pre0.Contents (Elt F)) (i : grid0.Coords) (off : Fin 1 → ℕ) (inb : ∀ a, off a + S1.size a ≤ S167.size a)
    (h : off 0 = (i 0).val) : pf.at 1 (Rect.unit (s := S167) off S1.size inb) numel1_S1 = pf 1 (at1 i) := by
  refine congrArg (pf 1) (funext fun (a : Fin 1) => Fin.ext ?_)
  match a with
  | 0 => exact h

theorem off_piece (i : grid0.Coords) (b : BitVec 32) (r : Fin 8) (hb : b.toNat = 167 * r.val) :
    (Scalar.indexCast (Scalar.addi b (BitVec.ofNat 32 (i 0).val))).toNat = 167 * r.val + (i 0).val := by
  have := lt_167 i
  have := r.isLt
  show (b + BitVec.ofNat 32 (i 0).val).toNat = _
  rw [BitVec.toNat_add, BitVec.toNat_ofNat, hb]; omega

theorem off_expert (i : grid0.Coords) : (Scalar.indexCast (BitVec.ofNat 32 (i 0).val)).toNat = (i 0).val := by
  have := lt_167 i
  show (BitVec.ofNat 32 (i 0).val).toNat = _
  rw [BitVec.toNat_ofNat]; omega

theorem index0_0 (pf : pre0.Contents (Elt F)) (i : grid0.Coords) : cc0_transform_0 (F := F) k0_off1_inb numel1_S1 pf i = ![pieceAt pf 0 i, 0, 0] := by
  unfold cc0_transform_0 pieceAt
  exact congrArg (fun z : BitVec 32 => ![z.toNat, 0, 0]) (at_piece pf i 0 _ _ (off_piece i _ 0 rfl))
theorem index0_1 (pf : pre0.Contents (Elt F)) (i : grid0.Coords) : cc0_transform_1 (F := F) k0_off1_inb numel1_S1 pf i = ![pieceAt pf 1 i, 0, 0] := by
  unfold cc0_transform_1 pieceAt
  exact congrArg (fun z : BitVec 32 => ![z.toNat, 0, 0]) (at_piece pf i 1 _ _ (off_piece i _ 1 rfl))
theorem index0_2 (pf : pre0.Contents (Elt F)) (i : grid0.Coords) : cc0_transform_2 (F := F) k0_off1_inb numel1_S1 pf i = ![pieceAt pf 2 i, 0, 0] := by
  unfold cc0_transform_2 pieceAt
  exact congrArg (fun z : BitVec 32 => ![z.toNat, 0, 0]) (at_piece pf i 2 _ _ (off_piece i _ 2 rfl))
theorem index0_3 (pf : pre0.Contents (Elt F)) (i : grid0.Coords) : cc0_transform_3 (F := F) k0_off1_inb numel1_S1 pf i = ![pieceAt pf 3 i, 0, 0] := by
  unfold cc0_transform_3 pieceAt
  exact congrArg (fun z : BitVec 32 => ![z.toNat, 0, 0]) (at_piece pf i 3 _ _ (off_piece i _ 3 rfl))
theorem index0_4 (pf : pre0.Contents (Elt F)) (i : grid0.Coords) : cc0_transform_4 (F := F) k0_off1_inb numel1_S1 pf i = ![pieceAt pf 4 i, 0, 0] := by
  unfold cc0_transform_4 pieceAt
  exact congrArg (fun z : BitVec 32 => ![z.toNat, 0, 0]) (at_piece pf i 4 _ _ (off_piece i _ 4 rfl))
theorem index0_5 (pf : pre0.Contents (Elt F)) (i : grid0.Coords) : cc0_transform_5 (F := F) k0_off1_inb numel1_S1 pf i = ![pieceAt pf 5 i, 0, 0] := by
  unfold cc0_transform_5 pieceAt
  exact congrArg (fun z : BitVec 32 => ![z.toNat, 0, 0]) (at_piece pf i 5 _ _ (off_piece i _ 5 rfl))
theorem index0_6 (pf : pre0.Contents (Elt F)) (i : grid0.Coords) : cc0_transform_6 (F := F) k0_off1_inb numel1_S1 pf i = ![pieceAt pf 6 i, 0, 0] := by
  unfold cc0_transform_6 pieceAt
  exact congrArg (fun z : BitVec 32 => ![z.toNat, 0, 0]) (at_piece pf i 6 _ _ (off_piece i _ 6 rfl))
theorem index0_7 (pf : pre0.Contents (Elt F)) (i : grid0.Coords) : cc0_transform_7 (F := F) k0_off1_inb numel1_S1 pf i = ![pieceAt pf 7 i, 0, 0] := by
  unfold cc0_transform_7 pieceAt
  exact congrArg (fun z : BitVec 32 => ![z.toNat, 0, 0]) (at_piece pf i 7 _ _ (off_piece i _ 7 rfl))
theorem index0_8 (pf : pre0.Contents (Elt F)) (i : grid0.Coords) : cc0_transform_8 (F := F) k0_off1_inb numel1_S1 pf i = ![pieceAt pf 0 i, 0, 0] := by
  unfold cc0_transform_8 pieceAt
  exact congrArg (fun z : BitVec 32 => ![z.toNat, 0, 0]) (at_piece pf i 0 _ _ (off_piece i _ 0 rfl))
theorem index0_9 (pf : pre0.Contents (Elt F)) (i : grid0.Coords) : cc0_transform_9 (F := F) k0_off1_inb numel1_S1 pf i = ![pieceAt pf 1 i, 0, 0] := by
  unfold cc0_transform_9 pieceAt
  exact congrArg (fun z : BitVec 32 => ![z.toNat, 0, 0]) (at_piece pf i 1 _ _ (off_piece i _ 1 rfl))
theorem index0_10 (pf : pre0.Contents (Elt F)) (i : grid0.Coords) : cc0_transform_10 (F := F) k0_off1_inb numel1_S1 pf i = ![pieceAt pf 2 i, 0, 0] := by
  unfold cc0_transform_10 pieceAt
  exact congrArg (fun z : BitVec 32 => ![z.toNat, 0, 0]) (at_piece pf i 2 _ _ (off_piece i _ 2 rfl))
theorem index0_11 (pf : pre0.Contents (Elt F)) (i : grid0.Coords) : cc0_transform_11 (F := F) k0_off1_inb numel1_S1 pf i = ![pieceAt pf 3 i, 0, 0] := by
  unfold cc0_transform_11 pieceAt
  exact congrArg (fun z : BitVec 32 => ![z.toNat, 0, 0]) (at_piece pf i 3 _ _ (off_piece i _ 3 rfl))
theorem index0_12 (pf : pre0.Contents (Elt F)) (i : grid0.Coords) : cc0_transform_12 (F := F) k0_off1_inb numel1_S1 pf i = ![pieceAt pf 4 i, 0, 0] := by
  unfold cc0_transform_12 pieceAt
  exact congrArg (fun z : BitVec 32 => ![z.toNat, 0, 0]) (at_piece pf i 4 _ _ (off_piece i _ 4 rfl))
theorem index0_13 (pf : pre0.Contents (Elt F)) (i : grid0.Coords) : cc0_transform_13 (F := F) k0_off1_inb numel1_S1 pf i = ![pieceAt pf 5 i, 0, 0] := by
  unfold cc0_transform_13 pieceAt
  exact congrArg (fun z : BitVec 32 => ![z.toNat, 0, 0]) (at_piece pf i 5 _ _ (off_piece i _ 5 rfl))
theorem index0_14 (pf : pre0.Contents (Elt F)) (i : grid0.Coords) : cc0_transform_14 (F := F) k0_off1_inb numel1_S1 pf i = ![pieceAt pf 6 i, 0, 0] := by
  unfold cc0_transform_14 pieceAt
  exact congrArg (fun z : BitVec 32 => ![z.toNat, 0, 0]) (at_piece pf i 6 _ _ (off_piece i _ 6 rfl))
theorem index0_15 (pf : pre0.Contents (Elt F)) (i : grid0.Coords) : cc0_transform_15 (F := F) k0_off1_inb numel1_S1 pf i = ![pieceAt pf 7 i, 0, 0] := by
  unfold cc0_transform_15 pieceAt
  exact congrArg (fun z : BitVec 32 => ![z.toNat, 0, 0]) (at_piece pf i 7 _ _ (off_piece i _ 7 rfl))
theorem index0_16 (pf : pre0.Contents (Elt F)) (i : grid0.Coords) : cc0_transform_16 (F := F) k0_off2_inb numel1_S1 pf i = ![expertAt pf i, 0, 0] := by
  unfold cc0_transform_16 expertAt
  exact congrArg (fun z : BitVec 32 => ![z.toNat, 0, 0]) (at_expert pf i _ _ (off_expert i))
theorem index0_17 (pf : pre0.Contents (Elt F)) (i : grid0.Coords) : cc0_transform_17 (F := F) k0_off2_inb numel1_S1 pf i = ![expertAt pf i, 0, 0] := by
  unfold cc0_transform_17 expertAt
  exact congrArg (fun z : BitVec 32 => ![z.toNat, 0, 0]) (at_expert pf i _ _ (off_expert i))
theorem index0_18 (pf : pre0.Contents (Elt F)) (i : grid0.Coords) : cc0_transform_18 (F := F) k0_off2_inb numel1_S1 pf i = ![expertAt pf i, 0, 0] := by
  unfold cc0_transform_18 expertAt
  exact congrArg (fun z : BitVec 32 => ![z.toNat, 0, 0]) (at_expert pf i _ _ (off_expert i))

/-- The tables name pieces and experts that there are. -/
structure Named (pf : pre0.Contents (Elt F)) : Prop where
  piece : ∀ r i, pieceAt pf r i < 1280
  expert : ∀ i, expertAt pf i < 8

/-- A block whose index is inside the leading axis and 0 on the others is inside its array, -/
theorem inside {s : Shape} (hr : s.rank = 3) (size idx : Fin s.rank → ℕ) (n : ℕ) (e : ∀ a : Fin s.rank, idx a = ![n, 0, 0] (a.cast hr))
    (h0 : (n + 1) * size (Fin.cast hr.symm 0) ≤ s.size (Fin.cast hr.symm 0)) (h1 : size (Fin.cast hr.symm 1) = s.size (Fin.cast hr.symm 1)) (h2 : size (Fin.cast hr.symm 2) = s.size (Fin.cast hr.symm 2)) :
    ∀ a, (idx a + 1) * size a ≤ s.size a := by
  intro a
  obtain ⟨b, rfl⟩ : ∃ b : Fin 3, a = Fin.cast hr.symm b := ⟨Fin.cast hr a, rfl⟩
  rw [e]
  match b with
  | 0 => exact h0
  | 1 => show (0 + 1) * _ ≤ _; omega
  | 2 => show (0 + 1) * _ ≤ _; omega

theorem ok0_0 (pf : pre0.Contents (Elt F)) (h : Named pf) (i : grid0.Coords) : ∃ h : (∀ a, (cc0_transform_0 (F := F) k0_off1_inb numel1_S1 pf i a + 1) * S1x32x1024.size a ≤ S1280x32x1024.size a), EltTy.bits .bf16 = 32 ∨ (Rect.block (s := S1280x32x1024) S1x32x1024.size (cc0_transform_0 k0_off1_inb numel1_S1 pf i) h).WholeWords (EltTy.packing .bf16) :=
  ⟨inside (s := S1280x32x1024) rfl _ _ _ (congrFun (index0_0 pf i)) ((Nat.mul_one _).le.trans (h.piece 0 i)) rfl rfl, .inr (.inr ⟨by decide, rfl, (congrArg (· * S1x32x1024.size 1) (congrFun (index0_0 pf i) 1)).trans (Nat.zero_mul _), rfl⟩)⟩
theorem ok0_1 (pf : pre0.Contents (Elt F)) (h : Named pf) (i : grid0.Coords) : ∃ h : (∀ a, (cc0_transform_1 (F := F) k0_off1_inb numel1_S1 pf i a + 1) * S1x32x1024.size a ≤ S1280x32x1024.size a), EltTy.bits .bf16 = 32 ∨ (Rect.block (s := S1280x32x1024) S1x32x1024.size (cc0_transform_1 k0_off1_inb numel1_S1 pf i) h).WholeWords (EltTy.packing .bf16) :=
  ⟨inside (s := S1280x32x1024) rfl _ _ _ (congrFun (index0_1 pf i)) ((Nat.mul_one _).le.trans (h.piece 1 i)) rfl rfl, .inr (.inr ⟨by decide, rfl, (congrArg (· * S1x32x1024.size 1) (congrFun (index0_1 pf i) 1)).trans (Nat.zero_mul _), rfl⟩)⟩
theorem ok0_2 (pf : pre0.Contents (Elt F)) (h : Named pf) (i : grid0.Coords) : ∃ h : (∀ a, (cc0_transform_2 (F := F) k0_off1_inb numel1_S1 pf i a + 1) * S1x32x1024.size a ≤ S1280x32x1024.size a), EltTy.bits .bf16 = 32 ∨ (Rect.block (s := S1280x32x1024) S1x32x1024.size (cc0_transform_2 k0_off1_inb numel1_S1 pf i) h).WholeWords (EltTy.packing .bf16) :=
  ⟨inside (s := S1280x32x1024) rfl _ _ _ (congrFun (index0_2 pf i)) ((Nat.mul_one _).le.trans (h.piece 2 i)) rfl rfl, .inr (.inr ⟨by decide, rfl, (congrArg (· * S1x32x1024.size 1) (congrFun (index0_2 pf i) 1)).trans (Nat.zero_mul _), rfl⟩)⟩
theorem ok0_3 (pf : pre0.Contents (Elt F)) (h : Named pf) (i : grid0.Coords) : ∃ h : (∀ a, (cc0_transform_3 (F := F) k0_off1_inb numel1_S1 pf i a + 1) * S1x32x1024.size a ≤ S1280x32x1024.size a), EltTy.bits .bf16 = 32 ∨ (Rect.block (s := S1280x32x1024) S1x32x1024.size (cc0_transform_3 k0_off1_inb numel1_S1 pf i) h).WholeWords (EltTy.packing .bf16) :=
  ⟨inside (s := S1280x32x1024) rfl _ _ _ (congrFun (index0_3 pf i)) ((Nat.mul_one _).le.trans (h.piece 3 i)) rfl rfl, .inr (.inr ⟨by decide, rfl, (congrArg (· * S1x32x1024.size 1) (congrFun (index0_3 pf i) 1)).trans (Nat.zero_mul _), rfl⟩)⟩
theorem ok0_4 (pf : pre0.Contents (Elt F)) (h : Named pf) (i : grid0.Coords) : ∃ h : (∀ a, (cc0_transform_4 (F := F) k0_off1_inb numel1_S1 pf i a + 1) * S1x32x1024.size a ≤ S1280x32x1024.size a), EltTy.bits .bf16 = 32 ∨ (Rect.block (s := S1280x32x1024) S1x32x1024.size (cc0_transform_4 k0_off1_inb numel1_S1 pf i) h).WholeWords (EltTy.packing .bf16) :=
  ⟨inside (s := S1280x32x1024) rfl _ _ _ (congrFun (index0_4 pf i)) ((Nat.mul_one _).le.trans (h.piece 4 i)) rfl rfl, .inr (.inr ⟨by decide, rfl, (congrArg (· * S1x32x1024.size 1) (congrFun (index0_4 pf i) 1)).trans (Nat.zero_mul _), rfl⟩)⟩
theorem ok0_5 (pf : pre0.Contents (Elt F)) (h : Named pf) (i : grid0.Coords) : ∃ h : (∀ a, (cc0_transform_5 (F := F) k0_off1_inb numel1_S1 pf i a + 1) * S1x32x1024.size a ≤ S1280x32x1024.size a), EltTy.bits .bf16 = 32 ∨ (Rect.block (s := S1280x32x1024) S1x32x1024.size (cc0_transform_5 k0_off1_inb numel1_S1 pf i) h).WholeWords (EltTy.packing .bf16) :=
  ⟨inside (s := S1280x32x1024) rfl _ _ _ (congrFun (index0_5 pf i)) ((Nat.mul_one _).le.trans (h.piece 5 i)) rfl rfl, .inr (.inr ⟨by decide, rfl, (congrArg (· * S1x32x1024.size 1) (congrFun (index0_5 pf i) 1)).trans (Nat.zero_mul _), rfl⟩)⟩
theorem ok0_6 (pf : pre0.Contents (Elt F)) (h : Named pf) (i : grid0.Coords) : ∃ h : (∀ a, (cc0_transform_6 (F := F) k0_off1_inb numel1_S1 pf i a + 1) * S1x32x1024.size a ≤ S1280x32x1024.size a), EltTy.bits .bf16 = 32 ∨ (Rect.block (s := S1280x32x1024) S1x32x1024.size (cc0_transform_6 k0_off1_inb numel1_S1 pf i) h).WholeWords (EltTy.packing .bf16) :=
  ⟨inside (s := S1280x32x1024) rfl _ _ _ (congrFun (index0_6 pf i)) ((Nat.mul_one _).le.trans (h.piece 6 i)) rfl rfl, .inr (.inr ⟨by decide, rfl, (congrArg (· * S1x32x1024.size 1) (congrFun (index0_6 pf i) 1)).trans (Nat.zero_mul _), rfl⟩)⟩
theorem ok0_7 (pf : pre0.Contents (Elt F)) (h : Named pf) (i : grid0.Coords) : ∃ h : (∀ a, (cc0_transform_7 (F := F) k0_off1_inb numel1_S1 pf i a + 1) * S1x32x1024.size a ≤ S1280x32x1024.size a), EltTy.bits .bf16 = 32 ∨ (Rect.block (s := S1280x32x1024) S1x32x1024.size (cc0_transform_7 k0_off1_inb numel1_S1 pf i) h).WholeWords (EltTy.packing .bf16) :=
  ⟨inside (s := S1280x32x1024) rfl _ _ _ (congrFun (index0_7 pf i)) ((Nat.mul_one _).le.trans (h.piece 7 i)) rfl rfl, .inr (.inr ⟨by decide, rfl, (congrArg (· * S1x32x1024.size 1) (congrFun (index0_7 pf i) 1)).trans (Nat.zero_mul _), rfl⟩)⟩
theorem ok0_8 (pf : pre0.Contents (Elt F)) (h : Named pf) (i : grid0.Coords) : ∃ h : (∀ a, (cc0_transform_8 (F := F) k0_off1_inb numel1_S1 pf i a + 1) * S1x32x128.size a ≤ S1280x32x128.size a), EltTy.bits .f32 = 32 ∨ (Rect.block (s := S1280x32x128) S1x32x128.size (cc0_transform_8 k0_off1_inb numel1_S1 pf i) h).WholeWords (EltTy.packing .f32) :=
  ⟨inside (s := S1280x32x128) rfl _ _ _ (congrFun (index0_8 pf i)) ((Nat.mul_one _).le.trans (h.piece 0 i)) rfl rfl, .inl rfl⟩
theorem ok0_9 (pf : pre0.Contents (Elt F)) (h : Named pf) (i : grid0.Coords) : ∃ h : (∀ a, (cc0_transform_9 (F := F) k0_off1_inb numel1_S1 pf i a + 1) * S1x32x128.size a ≤ S1280x32x128.size a), EltTy.bits .f32 = 32 ∨ (Rect.block (s := S1280x32x128) S1x32x128.size (cc0_transform_9 k0_off1_inb numel1_S1 pf i) h).WholeWords (EltTy.packing .f32) :=
  ⟨inside (s := S1280x32x128) rfl _ _ _ (congrFun (index0_9 pf i)) ((Nat.mul_one _).le.trans (h.piece 1 i)) rfl rfl, .inl rfl⟩
theorem ok0_10 (pf : pre0.Contents (Elt F)) (h : Named pf) (i : grid0.Coords) : ∃ h : (∀ a, (cc0_transform_10 (F := F) k0_off1_inb numel1_S1 pf i a + 1) * S1x32x128.size a ≤ S1280x32x128.size a), EltTy.bits .f32 = 32 ∨ (Rect.block (s := S1280x32x128) S1x32x128.size (cc0_transform_10 k0_off1_inb numel1_S1 pf i) h).WholeWords (EltTy.packing .f32) :=
  ⟨inside (s := S1280x32x128) rfl _ _ _ (congrFun (index0_10 pf i)) ((Nat.mul_one _).le.trans (h.piece 2 i)) rfl rfl, .inl rfl⟩
theorem ok0_11 (pf : pre0.Contents (Elt F)) (h : Named pf) (i : grid0.Coords) : ∃ h : (∀ a, (cc0_transform_11 (F := F) k0_off1_inb numel1_S1 pf i a + 1) * S1x32x128.size a ≤ S1280x32x128.size a), EltTy.bits .f32 = 32 ∨ (Rect.block (s := S1280x32x128) S1x32x128.size (cc0_transform_11 k0_off1_inb numel1_S1 pf i) h).WholeWords (EltTy.packing .f32) :=
  ⟨inside (s := S1280x32x128) rfl _ _ _ (congrFun (index0_11 pf i)) ((Nat.mul_one _).le.trans (h.piece 3 i)) rfl rfl, .inl rfl⟩
theorem ok0_12 (pf : pre0.Contents (Elt F)) (h : Named pf) (i : grid0.Coords) : ∃ h : (∀ a, (cc0_transform_12 (F := F) k0_off1_inb numel1_S1 pf i a + 1) * S1x32x128.size a ≤ S1280x32x128.size a), EltTy.bits .f32 = 32 ∨ (Rect.block (s := S1280x32x128) S1x32x128.size (cc0_transform_12 k0_off1_inb numel1_S1 pf i) h).WholeWords (EltTy.packing .f32) :=
  ⟨inside (s := S1280x32x128) rfl _ _ _ (congrFun (index0_12 pf i)) ((Nat.mul_one _).le.trans (h.piece 4 i)) rfl rfl, .inl rfl⟩
theorem ok0_13 (pf : pre0.Contents (Elt F)) (h : Named pf) (i : grid0.Coords) : ∃ h : (∀ a, (cc0_transform_13 (F := F) k0_off1_inb numel1_S1 pf i a + 1) * S1x32x128.size a ≤ S1280x32x128.size a), EltTy.bits .f32 = 32 ∨ (Rect.block (s := S1280x32x128) S1x32x128.size (cc0_transform_13 k0_off1_inb numel1_S1 pf i) h).WholeWords (EltTy.packing .f32) :=
  ⟨inside (s := S1280x32x128) rfl _ _ _ (congrFun (index0_13 pf i)) ((Nat.mul_one _).le.trans (h.piece 5 i)) rfl rfl, .inl rfl⟩
theorem ok0_14 (pf : pre0.Contents (Elt F)) (h : Named pf) (i : grid0.Coords) : ∃ h : (∀ a, (cc0_transform_14 (F := F) k0_off1_inb numel1_S1 pf i a + 1) * S1x32x128.size a ≤ S1280x32x128.size a), EltTy.bits .f32 = 32 ∨ (Rect.block (s := S1280x32x128) S1x32x128.size (cc0_transform_14 k0_off1_inb numel1_S1 pf i) h).WholeWords (EltTy.packing .f32) :=
  ⟨inside (s := S1280x32x128) rfl _ _ _ (congrFun (index0_14 pf i)) ((Nat.mul_one _).le.trans (h.piece 6 i)) rfl rfl, .inl rfl⟩
theorem ok0_15 (pf : pre0.Contents (Elt F)) (h : Named pf) (i : grid0.Coords) : ∃ h : (∀ a, (cc0_transform_15 (F := F) k0_off1_inb numel1_S1 pf i a + 1) * S1x32x128.size a ≤ S1280x32x128.size a), EltTy.bits .f32 = 32 ∨ (Rect.block (s := S1280x32x128) S1x32x128.size (cc0_transform_15 k0_off1_inb numel1_S1 pf i) h).WholeWords (EltTy.packing .f32) :=
  ⟨inside (s := S1280x32x128) rfl _ _ _ (congrFun (index0_15 pf i)) ((Nat.mul_one _).le.trans (h.piece 7 i)) rfl rfl, .inl rfl⟩
theorem ok0_16 (pf : pre0.Contents (Elt F)) (h : Named pf) (i : grid0.Coords) : ∃ h : (∀ a, (cc0_transform_16 (F := F) k0_off2_inb numel1_S1 pf i a + 1) * S1x1024x2816.size a ≤ S8x1024x2816.size a), EltTy.bits .bf16 = 32 ∨ (Rect.block (s := S8x1024x2816) S1x1024x2816.size (cc0_transform_16 k0_off2_inb numel1_S1 pf i) h).WholeWords (EltTy.packing .bf16) :=
  ⟨inside (s := S8x1024x2816) rfl _ _ _ (congrFun (index0_16 pf i)) ((Nat.mul_one _).le.trans (h.expert i)) rfl rfl, .inr (.inr ⟨by decide, rfl, (congrArg (· * S1x1024x2816.size 1) (congrFun (index0_16 pf i) 1)).trans (Nat.zero_mul _), rfl⟩)⟩
theorem ok0_17 (pf : pre0.Contents (Elt F)) (h : Named pf) (i : grid0.Coords) : ∃ h : (∀ a, (cc0_transform_17 (F := F) k0_off2_inb numel1_S1 pf i a + 1) * S1x1024x2816.size a ≤ S8x1024x2816.size a), EltTy.bits .bf16 = 32 ∨ (Rect.block (s := S8x1024x2816) S1x1024x2816.size (cc0_transform_17 k0_off2_inb numel1_S1 pf i) h).WholeWords (EltTy.packing .bf16) :=
  ⟨inside (s := S8x1024x2816) rfl _ _ _ (congrFun (index0_17 pf i)) ((Nat.mul_one _).le.trans (h.expert i)) rfl rfl, .inr (.inr ⟨by decide, rfl, (congrArg (· * S1x1024x2816.size 1) (congrFun (index0_17 pf i) 1)).trans (Nat.zero_mul _), rfl⟩)⟩
theorem ok0_18 (pf : pre0.Contents (Elt F)) (h : Named pf) (i : grid0.Coords) : ∃ h : (∀ a, (cc0_transform_18 (F := F) k0_off2_inb numel1_S1 pf i a + 1) * S1x2816x1024.size a ≤ S8x2816x1024.size a), EltTy.bits .bf16 = 32 ∨ (Rect.block (s := S8x2816x1024) S1x2816x1024.size (cc0_transform_18 k0_off2_inb numel1_S1 pf i) h).WholeWords (EltTy.packing .bf16) :=
  ⟨inside (s := S8x2816x1024) rfl _ _ _ (congrFun (index0_18 pf i)) ((Nat.mul_one _).le.trans (h.expert i)) rfl rfl, .inr (.inr ⟨by decide, rfl, (congrArg (· * S1x2816x1024.size 1) (congrFun (index0_18 pf i) 1)).trans (Nat.zero_mul _), rfl⟩)⟩

theorem index_out (hU : Used m) (i : grid0.Coords) :
    cc0_transform_19 (F := F) inb_S1_S1_0 numel1_S1 (tbl m) i = ![min (i 0).val (used m - 1), 0, 0] := by
  have e : i = grid0.coords ⟨(i 0).val, lt_of_lt_of_eq (lt_167 i) N_0.symm⟩ := by
    funext (a : Fin 1)
    match a with
    | 0 => exact Fin.ext (coord_val ⟨(i 0).val, lt_of_lt_of_eq (lt_167 i) N_0.symm⟩).symm
  refine (congrArg (cc0_transform_19 (F := F) inb_S1_S1_0 numel1_S1 (tbl m)) e).trans ?_
  exact index19 m hU _

theorem ok0_19 (hU : Used m) (i : grid0.Coords) : ∃ h : (∀ a, (cc0_transform_19 (F := F) inb_S1_S1_0 numel1_S1 (tbl m) i a + 1) * S1x256x1024.size a ≤ S167x256x1024.size a), EltTy.bits .bf16 = 32 ∨ (Rect.block (s := S167x256x1024) S1x256x1024.size (cc0_transform_19 inb_S1_S1_0 numel1_S1 (tbl m) i) h).WholeWords (EltTy.packing .bf16) :=
  ⟨inside (s := S167x256x1024) rfl _ _ _ (congrFun (index_out m hU i)) ((Nat.mul_one _).le.trans (lt_of_le_of_lt (Nat.min_le_left _ _) (lt_167 i))) rfl rfl,
    .inr (.inr ⟨by decide, rfl, (congrArg (· * S1x256x1024.size 1) (congrFun (index_out m hU i) 1)).trans (Nat.zero_mul _), rfl⟩)⟩

/-- So under tables that name what there is every block is inside its array. -/
theorem ok_of_named (h : Named (tbl m)) (hU : Used m) : Ok m := by
  unfold Ok ok0
  exact ⟨ok0_0 _ h, ok0_1 _ h, ok0_2 _ h, ok0_3 _ h, ok0_4 _ h, ok0_5 _ h, ok0_6 _ h, ok0_7 _ h, ok0_8 _ h, ok0_9 _ h, ok0_10 _ h, ok0_11 _ h, ok0_12 _ h, ok0_13 _ h, ok0_14 _ h, ok0_15 _ h, ok0_16 _ h, ok0_17 _ h, ok0_18 _ h, ok0_19 m hU⟩

variable [Cert.Pre_tables_named.Facts]

/-- The precondition, decoded. -/
theorem named_of_pre (h : (Cert.Pre_tables_named.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (m (((0 : Dev nD) : Thread nD τ).loc main_arg7))).1 = (fun _ => 1#1))
    (h' : (Cert.Pre_tables_named.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (m (((0 : Dev nD) : Thread nD τ).loc main_arg7))).2.1 = (fun _ => 1#1)) : Named (tbl m) where
  piece r i := by
    unfold pieceAt
    rw [show tbl m 0 = m (((0 : Dev nD) : Thread nD τ).loc main_arg0) from V_main_arg0 m 0]
    exact Cert.TablesNamed.piece_lt _ _ _ _ _ _ _ _ h _
  expert i := by
    unfold expertAt
    rw [show tbl m 1 = m (((0 : Dev nD) : Thread nD τ).loc main_arg1) from V_main_arg1 m 0]
    exact Cert.TablesNamed.expert_lt _ _ _ _ _ _ _ _ h' _

theorem used_of_pre (h : (Cert.Pre_tables_named.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (m (((0 : Dev nD) : Thread nD τ).loc main_arg7))).2.2 = (fun _ => 1#1)) : Used m := by
  unfold Used used word
  rw [show tbl m 2 = m (((0 : Dev nD) : Thread nD τ).loc main_arg2) from V_main_arg2 m 0]
  exact Cert.TablesNamed.used_le _ _ _ _ _ _ _ _ h _

end Cert.Kernel3Ideal.Hand

end
-- ==== Proof.ExpArray.lean ====
module

public import proofs.«01_k».proof.Proof.ExpPoint
public import proofs.«01_k».proof.Proof.ExpFrame
public import proofs.«01_k».proof.Proof.ExpPre
public import Idealize.ShloMosaic.Lib.Pipeline.ValueKit
public import Idealize.ShloMosaic.Lib.StableHlo.Run

/-! # The expert call's result, entry by entry -/

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen

variable (m : (ℓ : Loc nD τ sig) → Buf (Elt Ideal) ℓ) (hO : Ok m) (c : Dev nD) (t : Fin grid0.N)

/-- The grouped tokens as pieces of 32 rows, -/
theorem V_x : @Eq (FVec Ideal S1280x32x1024 .bf16) (V m c main_v3) (shapeCast S1280x32x1024 (m ((c : Thread nD τ).loc main_arg3) : FVec Ideal S160x256x1024 .bf16) shapeCasts_S160x256x1024_S1280x32x1024) := by
  dsimp only [V]; unfold hostOps0; after_results_simp <;> rfl
/-- the router weights likewise, -/
theorem V_u : @Eq (FVec Ideal S1280x32x128 .f32) (V m c main_v4) (shapeCast S1280x32x128 (m ((c : Thread nD τ).loc main_arg4) : FVec Ideal S160x256x128 .f32) shapeCasts_S160x256x128_S1280x32x128) := by
  dsimp only [V]; unfold hostOps0; after_results_simp <;> rfl
/-- and the three matrices. -/
theorem V_g : @Eq (FVec Ideal S8x1024x2816 .bf16) (V m c main_v0) (truncf .bf16 (m ((c : Thread nD τ).loc main_arg5) : FVec Ideal S8x1024x2816 .f32) bitsLt_bf16_f32) := by
  dsimp only [V]; unfold hostOps0; after_results_simp <;> rfl
theorem V_h : @Eq (FVec Ideal S8x1024x2816 .bf16) (V m c main_v1) (truncf .bf16 (m ((c : Thread nD τ).loc main_arg6) : FVec Ideal S8x1024x2816 .f32) bitsLt_bf16_f32) := by
  dsimp only [V]; unfold hostOps0; after_results_simp <;> rfl
theorem V_d : @Eq (FVec Ideal S8x2816x1024 .bf16) (V m c main_v2) (truncf .bf16 (m ((c : Thread nD τ).loc main_arg7) : FVec Ideal S8x2816x1024 .f32) bitsLt_bf16_f32) := by
  dsimp only [V]; unfold hostOps0; after_results_simp <;> rfl

/-! ## The windows' blocks: a piece of tokens, a piece of router weights, an expert's matrices -/

theorem blk0 (q : Fin 32) (k : Fin 1024) (P : Fin 1280) (hP : P.val = pieceAt (tbl m) 0 (grid0.coords t)) :
    (iblk m hO c 0 t : FVec Ideal S1x32x1024 .bf16) (ix3 0 q k) = (V m c main_v3 : FVec Ideal S1280x32x1024 .bf16) (ix3 P q k) := by
  have e : ((cfgM m hO).win 0).index t = ![pieceAt (tbl m) 0 (grid0.coords t), 0, 0] := index0_0 (tbl m) (grid0.coords t)
  unfold iblk
  refine congrArg (V m c main_v3 : FVec Ideal S1280x32x1024 .bf16) (funext fun (a : Fin 3) => Fin.ext ?_)
  refine (((cfgM m hO).win 0).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk1 (q : Fin 32) (k : Fin 1024) (P : Fin 1280) (hP : P.val = pieceAt (tbl m) 1 (grid0.coords t)) :
    (iblk m hO c 1 t : FVec Ideal S1x32x1024 .bf16) (ix3 0 q k) = (V m c main_v3 : FVec Ideal S1280x32x1024 .bf16) (ix3 P q k) := by
  have e : ((cfgM m hO).win 1).index t = ![pieceAt (tbl m) 1 (grid0.coords t), 0, 0] := index0_1 (tbl m) (grid0.coords t)
  unfold iblk
  refine congrArg (V m c main_v3 : FVec Ideal S1280x32x1024 .bf16) (funext fun (a : Fin 3) => Fin.ext ?_)
  refine (((cfgM m hO).win 1).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk2 (q : Fin 32) (k : Fin 1024) (P : Fin 1280) (hP : P.val = pieceAt (tbl m) 2 (grid0.coords t)) :
    (iblk m hO c 2 t : FVec Ideal S1x32x1024 .bf16) (ix3 0 q k) = (V m c main_v3 : FVec Ideal S1280x32x1024 .bf16) (ix3 P q k) := by
  have e : ((cfgM m hO).win 2).index t = ![pieceAt (tbl m) 2 (grid0.coords t), 0, 0] := index0_2 (tbl m) (grid0.coords t)
  unfold iblk
  refine congrArg (V m c main_v3 : FVec Ideal S1280x32x1024 .bf16) (funext fun (a : Fin 3) => Fin.ext ?_)
  refine (((cfgM m hO).win 2).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk3 (q : Fin 32) (k : Fin 1024) (P : Fin 1280) (hP : P.val = pieceAt (tbl m) 3 (grid0.coords t)) :
    (iblk m hO c 3 t : FVec Ideal S1x32x1024 .bf16) (ix3 0 q k) = (V m c main_v3 : FVec Ideal S1280x32x1024 .bf16) (ix3 P q k) := by
  have e : ((cfgM m hO).win 3).index t = ![pieceAt (tbl m) 3 (grid0.coords t), 0, 0] := index0_3 (tbl m) (grid0.coords t)
  unfold iblk
  refine congrArg (V m c main_v3 : FVec Ideal S1280x32x1024 .bf16) (funext fun (a : Fin 3) => Fin.ext ?_)
  refine (((cfgM m hO).win 3).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk4 (q : Fin 32) (k : Fin 1024) (P : Fin 1280) (hP : P.val = pieceAt (tbl m) 4 (grid0.coords t)) :
    (iblk m hO c 4 t : FVec Ideal S1x32x1024 .bf16) (ix3 0 q k) = (V m c main_v3 : FVec Ideal S1280x32x1024 .bf16) (ix3 P q k) := by
  have e : ((cfgM m hO).win 4).index t = ![pieceAt (tbl m) 4 (grid0.coords t), 0, 0] := index0_4 (tbl m) (grid0.coords t)
  unfold iblk
  refine congrArg (V m c main_v3 : FVec Ideal S1280x32x1024 .bf16) (funext fun (a : Fin 3) => Fin.ext ?_)
  refine (((cfgM m hO).win 4).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk5 (q : Fin 32) (k : Fin 1024) (P : Fin 1280) (hP : P.val = pieceAt (tbl m) 5 (grid0.coords t)) :
    (iblk m hO c 5 t : FVec Ideal S1x32x1024 .bf16) (ix3 0 q k) = (V m c main_v3 : FVec Ideal S1280x32x1024 .bf16) (ix3 P q k) := by
  have e : ((cfgM m hO).win 5).index t = ![pieceAt (tbl m) 5 (grid0.coords t), 0, 0] := index0_5 (tbl m) (grid0.coords t)
  unfold iblk
  refine congrArg (V m c main_v3 : FVec Ideal S1280x32x1024 .bf16) (funext fun (a : Fin 3) => Fin.ext ?_)
  refine (((cfgM m hO).win 5).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk6 (q : Fin 32) (k : Fin 1024) (P : Fin 1280) (hP : P.val = pieceAt (tbl m) 6 (grid0.coords t)) :
    (iblk m hO c 6 t : FVec Ideal S1x32x1024 .bf16) (ix3 0 q k) = (V m c main_v3 : FVec Ideal S1280x32x1024 .bf16) (ix3 P q k) := by
  have e : ((cfgM m hO).win 6).index t = ![pieceAt (tbl m) 6 (grid0.coords t), 0, 0] := index0_6 (tbl m) (grid0.coords t)
  unfold iblk
  refine congrArg (V m c main_v3 : FVec Ideal S1280x32x1024 .bf16) (funext fun (a : Fin 3) => Fin.ext ?_)
  refine (((cfgM m hO).win 6).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk7 (q : Fin 32) (k : Fin 1024) (P : Fin 1280) (hP : P.val = pieceAt (tbl m) 7 (grid0.coords t)) :
    (iblk m hO c 7 t : FVec Ideal S1x32x1024 .bf16) (ix3 0 q k) = (V m c main_v3 : FVec Ideal S1280x32x1024 .bf16) (ix3 P q k) := by
  have e : ((cfgM m hO).win 7).index t = ![pieceAt (tbl m) 7 (grid0.coords t), 0, 0] := index0_7 (tbl m) (grid0.coords t)
  unfold iblk
  refine congrArg (V m c main_v3 : FVec Ideal S1280x32x1024 .bf16) (funext fun (a : Fin 3) => Fin.ext ?_)
  refine (((cfgM m hO).win 7).rect_emb_val t (ix3 (n0 := 1) (n1 := 32) (n2 := 1024) 0 q k) a).trans ?_
  rw [e, ← hP]
  fin_cases a
  · show P.val * 1 + 0 = P.val; omega
  · show 0 * 32 + q.val = q.val; omega
  · show 0 * 1024 + k.val = k.val; omega

theorem blk8 (q : Fin 32) (k : Fin 128) (P : Fin 1280) (hP : P.val = pieceAt (tbl m) 0 (grid0.coords t)) :
    (iblk m hO c 8 t : FVec Ideal S1x32x128 .f32) (ix3 0 q k) = (V m c main_v4 : FVec Ideal S1280x32x128 .f32) (ix3 P q k) := by
  have e : ((cfgM m hO).win 8).index t = ![pieceAt (tbl m) 0 (grid0.coords t), 0, 0] := index0_8 (tbl m) (grid0.coords t)
  unfold iblk
  refine congrArg (V m c main_v4 : FVec Ideal S1280x32x128 .f32) (funext fun (a : Fin 3) => Fin.ext ?_)
  refine (((cfgM m hO).win 8).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk9 (q : Fin 32) (k : Fin 128) (P : Fin 1280) (hP : P.val = pieceAt (tbl m) 1 (grid0.coords t)) :
    (iblk m hO c 9 t : FVec Ideal S1x32x128 .f32) (ix3 0 q k) = (V m c main_v4 : FVec Ideal S1280x32x128 .f32) (ix3 P q k) := by
  have e : ((cfgM m hO).win 9).index t = ![pieceAt (tbl m) 1 (grid0.coords t), 0, 0] := index0_9 (tbl m) (grid0.coords t)
  unfold iblk
  refine congrArg (V m c main_v4 : FVec Ideal S1280x32x128 .f32) (funext fun (a : Fin 3) => Fin.ext ?_)
  refine (((cfgM m hO).win 9).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk10 (q : Fin 32) (k : Fin 128) (P : Fin 1280) (hP : P.val = pieceAt (tbl m) 2 (grid0.coords t)) :
    (iblk m hO c 10 t : FVec Ideal S1x32x128 .f32) (ix3 0 q k) = (V m c main_v4 : FVec Ideal S1280x32x128 .f32) (ix3 P q k) := by
  have e : ((cfgM m hO).win 10).index t = ![pieceAt (tbl m) 2 (grid0.coords t), 0, 0] := index0_10 (tbl m) (grid0.coords t)
  unfold iblk
  refine congrArg (V m c main_v4 : FVec Ideal S1280x32x128 .f32) (funext fun (a : Fin 3) => Fin.ext ?_)
  refine (((cfgM m hO).win 10).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk11 (q : Fin 32) (k : Fin 128) (P : Fin 1280) (hP : P.val = pieceAt (tbl m) 3 (grid0.coords t)) :
    (iblk m hO c 11 t : FVec Ideal S1x32x128 .f32) (ix3 0 q k) = (V m c main_v4 : FVec Ideal S1280x32x128 .f32) (ix3 P q k) := by
  have e : ((cfgM m hO).win 11).index t = ![pieceAt (tbl m) 3 (grid0.coords t), 0, 0] := index0_11 (tbl m) (grid0.coords t)
  unfold iblk
  refine congrArg (V m c main_v4 : FVec Ideal S1280x32x128 .f32) (funext fun (a : Fin 3) => Fin.ext ?_)
  refine (((cfgM m hO).win 11).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk12 (q : Fin 32) (k : Fin 128) (P : Fin 1280) (hP : P.val = pieceAt (tbl m) 4 (grid0.coords t)) :
    (iblk m hO c 12 t : FVec Ideal S1x32x128 .f32) (ix3 0 q k) = (V m c main_v4 : FVec Ideal S1280x32x128 .f32) (ix3 P q k) := by
  have e : ((cfgM m hO).win 12).index t = ![pieceAt (tbl m) 4 (grid0.coords t), 0, 0] := index0_12 (tbl m) (grid0.coords t)
  unfold iblk
  refine congrArg (V m c main_v4 : FVec Ideal S1280x32x128 .f32) (funext fun (a : Fin 3) => Fin.ext ?_)
  refine (((cfgM m hO).win 12).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk13 (q : Fin 32) (k : Fin 128) (P : Fin 1280) (hP : P.val = pieceAt (tbl m) 5 (grid0.coords t)) :
    (iblk m hO c 13 t : FVec Ideal S1x32x128 .f32) (ix3 0 q k) = (V m c main_v4 : FVec Ideal S1280x32x128 .f32) (ix3 P q k) := by
  have e : ((cfgM m hO).win 13).index t = ![pieceAt (tbl m) 5 (grid0.coords t), 0, 0] := index0_13 (tbl m) (grid0.coords t)
  unfold iblk
  refine congrArg (V m c main_v4 : FVec Ideal S1280x32x128 .f32) (funext fun (a : Fin 3) => Fin.ext ?_)
  refine (((cfgM m hO).win 13).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk14 (q : Fin 32) (k : Fin 128) (P : Fin 1280) (hP : P.val = pieceAt (tbl m) 6 (grid0.coords t)) :
    (iblk m hO c 14 t : FVec Ideal S1x32x128 .f32) (ix3 0 q k) = (V m c main_v4 : FVec Ideal S1280x32x128 .f32) (ix3 P q k) := by
  have e : ((cfgM m hO).win 14).index t = ![pieceAt (tbl m) 6 (grid0.coords t), 0, 0] := index0_14 (tbl m) (grid0.coords t)
  unfold iblk
  refine congrArg (V m c main_v4 : FVec Ideal S1280x32x128 .f32) (funext fun (a : Fin 3) => Fin.ext ?_)
  refine (((cfgM m hO).win 14).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk15 (q : Fin 32) (k : Fin 128) (P : Fin 1280) (hP : P.val = pieceAt (tbl m) 7 (grid0.coords t)) :
    (iblk m hO c 15 t : FVec Ideal S1x32x128 .f32) (ix3 0 q k) = (V m c main_v4 : FVec Ideal S1280x32x128 .f32) (ix3 P q k) := by
  have e : ((cfgM m hO).win 15).index t = ![pieceAt (tbl m) 7 (grid0.coords t), 0, 0] := index0_15 (tbl m) (grid0.coords t)
  unfold iblk
  refine congrArg (V m c main_v4 : FVec Ideal S1280x32x128 .f32) (funext fun (a : Fin 3) => Fin.ext ?_)
  refine (((cfgM m hO).win 15).rect_emb_val t (ix3 (n0 := 1) (n1 := 32) (n2 := 128) 0 q k) a).trans ?_
  rw [e, ← hP]
  fin_cases a
  · show P.val * 1 + 0 = P.val; omega
  · show 0 * 32 + q.val = q.val; omega
  · show 0 * 128 + k.val = k.val; omega

theorem blk16 (q : Fin 1024) (k : Fin 2816) (P : Fin 8) (hP : P.val = expertAt (tbl m) (grid0.coords t)) :
    (iblk m hO c 16 t : FVec Ideal S1x1024x2816 .bf16) (ix3 0 q k) = (V m c main_v0 : FVec Ideal S8x1024x2816 .bf16) (ix3 P q k) := by
  have e : ((cfgM m hO).win 16).index t = ![expertAt (tbl m) (grid0.coords t), 0, 0] := index0_16 (tbl m) (grid0.coords t)
  unfold iblk
  refine congrArg (V m c main_v0 : FVec Ideal S8x1024x2816 .bf16) (funext fun (a : Fin 3) => Fin.ext ?_)
  refine (((cfgM m hO).win 16).rect_emb_val t (ix3 (n0 := 1) (n1 := 1024) (n2 := 2816) 0 q k) a).trans ?_
  rw [e, ← hP]
  fin_cases a
  · show P.val * 1 + 0 = P.val; omega
  · show 0 * 1024 + q.val = q.val; omega
  · show 0 * 2816 + k.val = k.val; omega

theorem blk17 (q : Fin 1024) (k : Fin 2816) (P : Fin 8) (hP : P.val = expertAt (tbl m) (grid0.coords t)) :
    (iblk m hO c 17 t : FVec Ideal S1x1024x2816 .bf16) (ix3 0 q k) = (V m c main_v1 : FVec Ideal S8x1024x2816 .bf16) (ix3 P q k) := by
  have e : ((cfgM m hO).win 17).index t = ![expertAt (tbl m) (grid0.coords t), 0, 0] := index0_17 (tbl m) (grid0.coords t)
  unfold iblk
  refine congrArg (V m c main_v1 : FVec Ideal S8x1024x2816 .bf16) (funext fun (a : Fin 3) => Fin.ext ?_)
  refine (((cfgM m hO).win 17).rect_emb_val t (ix3 (n0 := 1) (n1 := 1024) (n2 := 2816) 0 q k) a).trans ?_
  rw [e, ← hP]
  fin_cases a
  · show P.val * 1 + 0 = P.val; omega
  · show 0 * 1024 + q.val = q.val; omega
  · show 0 * 2816 + k.val = k.val; omega

theorem blk18 (q : Fin 2816) (k : Fin 1024) (P : Fin 8) (hP : P.val = expertAt (tbl m) (grid0.coords t)) :
    (iblk m hO c 18 t : FVec Ideal S1x2816x1024 .bf16) (ix3 0 q k) = (V m c main_v2 : FVec Ideal S8x2816x1024 .bf16) (ix3 P q k) := by
  have e : ((cfgM m hO).win 18).index t = ![expertAt (tbl m) (grid0.coords t), 0, 0] := index0_18 (tbl m) (grid0.coords t)
  unfold iblk
  refine congrArg (V m c main_v2 : FVec Ideal S8x2816x1024 .bf16) (funext fun (a : Fin 3) => Fin.ext ?_)
  refine (((cfgM m hO).win 18).rect_emb_val t (ix3 (n0 := 1) (n1 := 2816) (n2 := 1024) 0 q k) a).trans ?_
  rw [e, ← hP]
  fin_cases a
  · show P.val * 1 + 0 = P.val; omega
  · show 0 * 2816 + q.val = q.val; omega
  · show 0 * 1024 + k.val = k.val; omega

/-- The eight pieces of tokens of a step, -/
def toks (r : Fin 8) : FVec Ideal S1x32x1024 .bf16 :=
  match r with
  | 0 => iblk m hO c 0 t | 1 => iblk m hO c 1 t | 2 => iblk m hO c 2 t | 3 => iblk m hO c 3 t
  | 4 => iblk m hO c 4 t | 5 => iblk m hO c 5 t | 6 => iblk m hO c 6 t | 7 => iblk m hO c 7 t
/-- and of router weights. -/
def wts (r : Fin 8) : FVec Ideal S1x32x128 .f32 :=
  match r with
  | 0 => iblk m hO c 8 t | 1 => iblk m hO c 9 t | 2 => iblk m hO c 10 t | 3 => iblk m hO c 11 t
  | 4 => iblk m hO c 12 t | 5 => iblk m hO c 13 t | 6 => iblk m hO c 14 t | 7 => iblk m hO c 15 t

theorem toks_apply (r : Fin 8) (q : Fin 32) (k : Fin 1024) (P : Fin 1280) (hP : P.val = pieceAt (tbl m) r (grid0.coords t)) :
    toks m hO c t r (ix3 0 q k) = (V m c main_v3 : FVec Ideal S1280x32x1024 .bf16) (ix3 P q k) := by
  fin_cases r
  · exact blk0 m hO c t q k P hP
  · exact blk1 m hO c t q k P hP
  · exact blk2 m hO c t q k P hP
  · exact blk3 m hO c t q k P hP
  · exact blk4 m hO c t q k P hP
  · exact blk5 m hO c t q k P hP
  · exact blk6 m hO c t q k P hP
  · exact blk7 m hO c t q k P hP

theorem wts_apply (r : Fin 8) (q : Fin 32) (k : Fin 128) (P : Fin 1280) (hP : P.val = pieceAt (tbl m) r (grid0.coords t)) :
    wts m hO c t r (ix3 0 q k) = (V m c main_v4 : FVec Ideal S1280x32x128 .f32) (ix3 P q k) := by
  fin_cases r
  · exact blk8 m hO c t q k P hP
  · exact blk9 m hO c t q k P hP
  · exact blk10 m hO c t q k P hP
  · exact blk11 m hO c t q k P hP
  · exact blk12 m hO c t q k P hP
  · exact blk13 m hO c t q k P hP
  · exact blk14 m hO c t q k P hP
  · exact blk15 m hO c t q k P hP

/-- Row `q` of piece `P`, in blocks of 256 rows. -/
theorem x_row (P : Fin 1280) (q : Fin 32) (k : Fin 1024) :
    (V m c main_v3 : FVec Ideal S1280x32x1024 .bf16) (ix3 P q k) = Cert.Exp.rowOf (φ := .bf16) (m ((c : Thread nD τ).loc main_arg3) : FVec Ideal S160x256x1024 .bf16) P q k := by
  rw [V_x]
  refine shapeCast_apply (s := S160x256x1024) (t := S1280x32x1024) _ shapeCasts_S160x256x1024_S1280x32x1024 (ix3 P q k)
    (ix3 ⟨(P.val * 32 + q.val) / 256, by omega⟩ ⟨(P.val * 32 + q.val) % 256, by omega⟩ k) ?_
  rw [Shape.rowMajor_val_three, Shape.rowMajor_val_three]
  show (_ * 256 + _) * 1024 + _ = (_ * 32 + _) * 1024 + _
  show (((P.val * 32 + q.val) / 256) * 256 + (P.val * 32 + q.val) % 256) * 1024 + k.val = (P.val * 32 + q.val) * 1024 + k.val
  omega

theorem u_row (P : Fin 1280) (q : Fin 32) (k : Fin 128) :
    (V m c main_v4 : FVec Ideal S1280x32x128 .f32) (ix3 P q k) = Cert.Exp.rowOf (φ := .f32) (m ((c : Thread nD τ).loc main_arg4) : FVec Ideal S160x256x128 .f32) P q k := by
  rw [V_u]
  refine shapeCast_apply (s := S160x256x128) (t := S1280x32x128) _ shapeCasts_S160x256x128_S1280x32x128 (ix3 P q k)
    (ix3 ⟨(P.val * 32 + q.val) / 256, by omega⟩ ⟨(P.val * 32 + q.val) % 256, by omega⟩ k) ?_
  rw [Shape.rowMajor_val_three, Shape.rowMajor_val_three]
  show (((P.val * 32 + q.val) / 256) * 256 + (P.val * 32 + q.val) % 256) * 128 + k.val = (P.val * 32 + q.val) * 128 + k.val
  omega

/-! ## A step's block -/

/-- The tables as the launch finds them. -/
theorem tbl_0 : @Eq (IVec S1336 32) (tbl m 0) (m ((c : Thread nD τ).loc main_arg0)) := (V_pre m c 0).symm.trans (V_main_arg0 m c)
theorem tbl_1 : @Eq (IVec S167 32) (tbl m 1) (m ((c : Thread nD τ).loc main_arg1)) := (V_pre m c 1).symm.trans (V_main_arg1 m c)

/-- The piece a window is on is the one the mathematics names. -/
theorem piece_eq (h : Named (tbl m)) (s : Fin 256) :
    (Cert.Exp.pieceOf (m ((c : Thread nD τ).loc main_arg0) : IVec S1336 32) ⟨t.val, lt_of_lt_of_eq t.isLt N_0⟩ s).val
      = pieceAt (tbl m) ⟨s.val / 32, by omega⟩ (grid0.coords t) := by
  have hb := h.piece ⟨s.val / 32, by omega⟩ (grid0.coords t)
  have e : (m ((c : Thread nD τ).loc main_arg0) : IVec S1336 32) (ix1 ⟨167 * (s.val / 32) + t.val, by have := lt_of_lt_of_eq t.isLt N_0; omega⟩)
      = (tbl m 0 : IVec S1336 32) (at0 ⟨s.val / 32, by omega⟩ (grid0.coords t)) := by
    rw [tbl_0 m c]
    refine congrArg (m ((c : Thread nD τ).loc main_arg0) : IVec S1336 32) (funext fun (a : Fin 1) => Fin.ext ?_)
    match a with
    | 0 =>
      show 167 * (s.val / 32) + t.val = 167 * (s.val / 32) + (grid0.coords t 0).val
      rw [coord_val]
  unfold Cert.Exp.pieceOf Cert.Exp.piece
  dsimp only
  rw [e]
  unfold pieceAt at hb ⊢
  exact Nat.min_eq_left (Nat.le_of_lt_succ hb)

/-- The expert likewise. -/
theorem expert_eq (h : Named (tbl m)) :
    (Cert.Exp.expert ((m ((c : Thread nD τ).loc main_arg1) : IVec S167 32) (ix1 ⟨t.val, lt_of_lt_of_eq t.isLt N_0⟩))).val = expertAt (tbl m) (grid0.coords t) := by
  have hb := h.expert (grid0.coords t)
  have e : (m ((c : Thread nD τ).loc main_arg1) : IVec S167 32) (ix1 ⟨t.val, lt_of_lt_of_eq t.isLt N_0⟩) = (tbl m 1 : IVec S167 32) (at1 (grid0.coords t)) := by
    rw [tbl_1 m c]
    refine congrArg (m ((c : Thread nD τ).loc main_arg1) : IVec S167 32) (funext fun (a : Fin 1) => Fin.ext ?_)
    match a with
    | 0 => exact (coord_val t).symm
  unfold Cert.Exp.expert
  dsimp only
  rw [e]
  unfold expertAt at hb ⊢
  exact Nat.min_eq_left (Nat.le_of_lt_succ hb)

/-- What the mathematics says of the launch's arrays. -/
def goal (b : Fin 167) (s : Fin 256) (k : Fin 1024) : EReal :=
  Cert.Exp.answer (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (m ((c : Thread nD τ).loc main_arg7)) b s k

/-- A step's block holds the mathematics of that step. -/
theorem step_apply (h : Named (tbl m)) (s : Fin 256) (k : Fin 1024) :
    (stepBlock m hO c t : FVec Ideal S1x256x1024 .bf16) (ix3 0 s k) = goal m c ⟨t.val, lt_of_lt_of_eq t.isLt N_0⟩ s k := by
  refine (block_apply (toks m hO c t) (wts m hO c t) (iblk m hO c 16 t) (iblk m hO c 17 t) (iblk m hO c 18 t) s k).trans ?_
  unfold goal Cert.Exp.answer
  refine congrArg₂ (· * ·) ?_ ?_
  · rw [wts_apply m hO c t _ _ _ _ (piece_eq m c t h s), u_row]
  refine congr (congr (congr (congr (congrArg Cert.Exp.value ?_) ?_) ?_) ?_) rfl
  · funext d
    rw [toks_apply m hO c t _ _ _ _ (piece_eq m c t h s), x_row]
  · funext d f
    rw [blk16 m hO c t d f _ (expert_eq m c t h), V_g]; rfl
  · funext d f
    rw [blk17 m hO c t d f _ (expert_eq m c t h), V_h]; rfl
  · funext f d
    rw [blk18 m hO c t f d _ (expert_eq m c t h), V_d]; rfl

end Cert.Kernel3Ideal.Hand

end
-- ==== Proof.ExpResult.lean ====
module

public import proofs.«01_k».proof.Proof.ExpArray

/-! # The expert call's result array

Only the used steps' blocks are the call's business. A used step's block is written back when the next
step moves on to another block, and the last one's at the very end. -/

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen

variable (m : (ℓ : Loc nD τ sig) → Buf (Elt Ideal) ℓ) (hO : Ok m) (hU : Used m) (c : Dev nD)

include hU in
/-- The point which writes block `b` back. -/
theorem flush_used (b : ℕ) (hb : b < used m) :
    ∃ t : Fin (cfgM m hO).N, ((cfgM m hO).win 19).flush t = true ∧ min t.val (used m - 1) = b := by
  have hu := hU
  unfold Used at hu
  by_cases hl : b + 1 < used m
  · refine ⟨⟨b, lt_of_lt_of_eq (by omega : b < 167) N_0.symm⟩, ?_, by show min b _ = b; omega⟩
    unfold Pipeline.Window.flush
    rw [Bool.and_eq_true]
    refine ⟨rfl, ?_⟩
    rw [Bool.or_eq_true]
    refine .inr (decide_eq_true ⟨lt_of_lt_of_eq (by show b + 1 < 167; omega) N_0.symm, fun e => ?_⟩)
    have e0 := (index19 m hU ⟨b + 1, lt_of_lt_of_eq (by omega : b + 1 < 167) N_0.symm⟩).symm.trans
      (e.trans (index19 m hU ⟨b, lt_of_lt_of_eq (by omega : b < 167) N_0.symm⟩))
    have e1 : min (b + 1) (used m - 1) = min b (used m - 1) := congrFun e0 0
    omega
  · refine ⟨⟨166, lt_of_lt_of_eq (by omega : 166 < 167) N_0.symm⟩, ?_, by show min 166 _ = b; omega⟩
    unfold Pipeline.Window.flush
    rw [Bool.and_eq_true]
    refine ⟨rfl, ?_⟩
    rw [Bool.or_eq_true]
    exact .inl (decide_eq_true N_0.symm)

/-- What the result array holds at an index. -/
def right (i : S167x256x1024.Idx) (v : EReal) : Prop := v = goal m c (i 0) (i 1) (i 2)

include hU in
/-- What is written back is the mathematics of the step it came from. -/
theorem flushed_right (h : Named (tbl m)) (t : Fin (cfgM m hO).N) (y : (((cfgM m hO).win 19).xblock ((cfgM m hO).grid.coords t)).Idx) :
    right m c ((((cfgM m hO).win 19).rect t).emb y) ((dats m hO 0 c).flushed 19 t y) := by
  have e : ((cfgM m hO).win 19).index t = ![min t.val (used m - 1), 0, 0] := index19 m hU t
  have hv := fun (a : Fin 3) => ((cfgM m hO).win 19).rect_emb_val t y a
  rw [e] at hv
  obtain ⟨s, k, rfl⟩ : ∃ (s : Fin 256) (k : Fin 1024), y = ix3 (n0 := 1) (n1 := 256) (n2 := 1024) 0 s k :=
    ⟨y (1 : Fin 3), y (2 : Fin 3), funext fun (a : Fin 3) => by
      match a with
      | 0 => exact Subsingleton.elim (α := Fin 1) _ _
      | 1 => rfl
      | 2 => rfl⟩
  unfold right
  refine ((congrFun (after0_19 m hO c t) (ix3 (n0 := 1) (n1 := 256) (n2 := 1024) 0 s k)).trans (step_apply m hO c (lastStep m hO t) h s k)).trans ?_
  refine congr (congr (congrArg (goal m c) (Fin.ext ?_)) (Fin.ext ?_)) (Fin.ext ?_)
  · refine Eq.trans ?_ (hv 0).symm
    show min t.val (used m - 1) = min t.val (used m - 1) * 1 + 0
    omega
  · refine Eq.trans ?_ (hv 1).symm
    show s.val = 0 * 256 + s.val
    omega
  · refine Eq.trans ?_ (hv 2).symm
    show k.val = 0 * 1024 + k.val
    omega

include hU in
theorem arr_apply (h : Named (tbl m)) (b : Fin 167) (hb : b.val < used m) (s : Fin 256) (k : Fin 1024) :
    ((dats m hO 0 c).arrAt 19 (cfgM m hO).N : FVec Ideal S167x256x1024 .bf16) (ix3 b s k) = goal m c b s k := by
  obtain ⟨t, hf, ht⟩ := flush_used m hO hU b.val hb
  refine (dats m hO 0 c).arrAt_forall_of_flushed 19 (right m c) (fun t hf y => ?_) (cfgM m hO).N t (ix3 b s k) t.isLt hf ?_
  · exact flushed_right m hO hU c h t y
  · refine (((cfgM m hO).win 19).emb_mem_blk_iff t (ix3 b s k)).mpr fun (a : Fin 3) => ?_
    have e : ((cfgM m hO).win 19).index t = ![min t.val (used m - 1), 0, 0] := index19 m hU t
    rw [e, ht]
    fin_cases a
    · show b.val * 1 ≤ b.val ∧ b.val < b.val * 1 + 1; omega
    · show 0 * 256 ≤ s.val ∧ s.val < 0 * 256 + 256; omega
    · show 0 * 1024 ≤ k.val ∧ k.val < 0 * 1024 + 1024; omega

include hU in
/-- The run ends with that array, and with the arguments as launched. -/
theorem run_result (ρ : Dev nD → PrngReg) :
    θ_run defs (onTc (τ := τ) (main (F := Ideal))) ⟨m, fun _ => 0, ρ⟩ (fun r => ∀ c : Dev nD,
      r.2.mem ((c.tc : Thread nD τ).loc main_v5) = (dats m hO 0 c).arrAt 19 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 19,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hO hU)

end Cert.Kernel3Ideal.Hand

end
-- ==== Proof.Gather.lean ====
module

public import Idealize.ShloMosaic.Lib.ValueIdx
public import Idealize.ShloMosaic.Lib.Pointwise

/-! # Whole slabs of a three-axis array taken by a list of numbers -/

@[expose] public section

noncomputable section

namespace Cert.Gather

open Idealize.ShloMosaic

variable {α : Type}

/-- The dimension numbers: the number picks along the first axis, the other two are copied. -/
abbrev slabDims (N A B R : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Slab `j` of the result is the slab the `j`-th number names, read signed and clamped into the array. -/
theorem slab_apply {N A B R w : ℕ} (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (j : Fin R) (a : Fin A) (b : Fin B) :
    Host.gather (slabDims N A B R wf) x idx (ix3 j a b) = x (ix3 ⟨min (idx (ix2 j (0 : Fin 1))).toInt.toNat (N - 1), by omega⟩ a b) := by
  unfold Host.gather
  refine congrArg x (funext fun k => Fin.ext ?_)
  show (slabDims N A B R wf).start (ix3 j a b) idx k + (slabDims N A B R wf).batchCoord (ix3 j a b) k + (slabDims N A B R wf).offCoord (ix3 j a b) k = _
  rw [GatherDims.batchCoord_eq_zero _ _ _ List.not_mem_nil, Nat.add_zero]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B R wf).startIndexMap from List.mem_singleton.mpr rfl)]
    have hsi : (slabDims N A B R wf).siIdx (ix3 j a b) ⟨List.idxOf (0 : Fin 3) (slabDims N A B R wf).startIndexMap,
        List.idxOf_lt_length_iff.2 (List.mem_singleton.mpr rfl)⟩ = ix2 j (0 : Fin 1) := by
      funext i; refine Fin.ext ?_
      match i with
      | ⟨0, _⟩ => rfl
      | ⟨1, _⟩ => rfl
    rw [hsi]
    rfl
  · have h1 : (1 : Fin 3) ∉ (slabDims N A B R wf).startIndexMap := by
      show (1 : Fin 3) ∉ [(0 : Fin 3)]
      decide
    have h2 : (1 : Fin 3) ∈ (slabDims N A B R wf).sKept := (GatherDims.mem_sKept _ _).mpr ⟨by show (1 : Fin 3) ∉ [(0 : Fin 3)]; decide, List.not_mem_nil⟩
    unfold GatherDims.start GatherDims.offCoord
    rw [dif_neg h1, dif_pos h2]
    rw [Nat.zero_add]
    rfl
  · have h1 : (2 : Fin 3) ∉ (slabDims N A B R wf).startIndexMap := by
      show (2 : Fin 3) ∉ [(0 : Fin 3)]
      decide
    have h2 : (2 : Fin 3) ∈ (slabDims N A B R wf).sKept := (GatherDims.mem_sKept _ _).mpr ⟨by show (2 : Fin 3) ∉ [(0 : Fin 3)]; decide, List.not_mem_nil⟩
    unfold GatherDims.start GatherDims.offCoord
    rw [dif_neg h1, dif_pos h2]
    rw [Nat.zero_add]
    rfl

end Cert.Gather

end
-- ==== Proof.ExpRef.lean ====
module

public import proofs.«01_k».proof.Proof.Gen.Reference3Ideal.Run
public import proofs.«01_k».proof.Proof.ExpMath
public import proofs.«01_k».proof.Proof.Gather
public import Idealize.ShloMosaic.Lib.IdealHost
public import Idealize.ShloMosaic.Lib.MatmulPlain
public import Idealize.ShloMosaic.Lib.Pointwise
public import Idealize.ShloMosaic.Lib.Pipeline.Value
public import Idealize.ShloMosaic.Lib.WordCmp
public import Idealize.ShloMosaic.Lib.ValueIdxRank6

/-! # The plain expert program's result, entry by entry

All eight experts are applied to every row, and each result is kept where the step's expert is that one. -/

@[expose] public section

set_option maxRecDepth 16384

noncomputable section

namespace Cert.Reference3Ideal.Hand

open Idealize.ShloMosaic Idealize.ShloMosaic.TcCoe Idealize.ShloMosaic.Tactic
open Cert.Reference3Ideal Cert.Reference3Ideal.Gen Cert.Reference3Ideal.Value

variable (p : IVec S1336 32) (e : IVec S167 32) (x : FVec Ideal S160x256x1024 .bf16) (u : FVec Ideal S160x256x128 .f32)
  (wg wu : FVec Ideal S8x1024x2816 .f32) (wd : FVec Ideal S8x2816x1024 .f32)

/-- The pieces in the order of the rows: the eight of the first step, the eight of the next, and so on. -/
def ord : IVec S1336 32 :=
  shapeCast S1336 (transpose S167x8 [1, 0] (shapeCast S8x167 p shapeCasts_S1336_S8x167) transposes_S8x167_S167x8_1_0) shapeCasts_S167x8_S1336

/-- The `n`-th piece is number `n % 8` of step `n / 8`. -/
theorem ord_apply (n : Fin 1336) : ord p (ix1 n) = p (ix1 ⟨167 * (n.val % 8) + n.val / 8, by omega⟩) := by
  unfold ord
  refine (shapeCast_apply _ _ _ (ix2 (⟨n.val / 8, by omega⟩ : Fin 167) (⟨n.val % 8, by omega⟩ : Fin 8)) ?_).trans ?_
  · rw [Shape.rowMajor_val_two, Shape.rowMajor_val_one]
    show n.val / 8 * 8 + n.val % 8 = n.val
    omega
  refine (transpose_apply _ _ _ _ (ix2 (⟨n.val % 8, by omega⟩ : Fin 8) (⟨n.val / 8, by omega⟩ : Fin 167)) (fun b => ?_)).trans ?_
  · match b with
    | ⟨0, _⟩ => rfl
    | ⟨1, _⟩ => rfl
  refine shapeCast_apply _ _ _ _ ?_
  rw [Shape.rowMajor_val_two, Shape.rowMajor_val_one]
  show 167 * (n.val % 8) + n.val / 8 = n.val % 8 * 167 + n.val / 8
  omega

/-- The numbers the rows are taken by: a negative one would count from the end. -/
def num : IVec S1336x1 32 :=
  broadcastInDim S1336x1 ![0] bcast_S1336_S1336x1_0 (select (cmpi .slt (ord p) (broadcastInDim S1336 ![] bcast_S_S1336 (constantI S_ 32 0#32))) (addi (ord p) (broadcastInDim S1336 ![] bcast_S_S1336 (constantI S_ 32 1280#32))) (ord p))

/-- None is negative. -/
theorem num_apply (hp : ∀ i, (p i).toNat < 1280) (n : Fin 1336) : num p (ix2 n (0 : Fin 1)) = ord p (ix1 n) := by
  have e1 : num p (ix2 n (0 : Fin 1)) = Scalar.select (IntOp.cmpi .slt (ord p (ix1 n)) 0#32) (IntOp.addi (ord p (ix1 n)) 1280#32) (ord p (ix1 n)) := by
    unfold num
    pointwise
  have e2 : IntOp.cmpi .slt (ord p (ix1 n)) 0#32 = 0#1 := by
    rw [ord_apply, WordCmp.cmpi_slt_of_lt (by have := hp (ix1 ⟨167 * (n.val % 8) + n.val / 8, by omega⟩); omega) (by decide)]
    simp
  rw [e1, e2]
  rfl

/-- The number read signed and clamped is the piece. -/
theorem num_clamp (hp : ∀ i, (p i).toNat < 1280) (n : Fin 1336) (h : min (num p (ix2 n (0 : Fin 1))).toInt.toNat (1280 - 1) < 1280) :
    (⟨min (num p (ix2 n (0 : Fin 1))).toInt.toNat (1280 - 1), h⟩ : Fin 1280) = Cert.Exp.piece (p (ix1 ⟨167 * (n.val % 8) + n.val / 8, by omega⟩)) := by
  refine Fin.ext ?_
  show min (num p (ix2 n (0 : Fin 1))).toInt.toNat (1280 - 1) = min _ 1279
  rw [num_apply p hp, ord_apply]
  have := hp (ix1 ⟨167 * (n.val % 8) + n.val / 8, by omega⟩)
  rw [WordCmp.toInt_eq_toNat_of_lt_half (by omega)]
  rfl

/-- The rows of all steps. -/
def rows : FVec Ideal S167x256x1024 .f32 :=
  shapeCast S167x256x1024 (Host.gather gather_S1280x32x1024_S1336x1_S1336x32x1024_12_0_n_n_0_1_1321024 (extf .f32 (shapeCast S1280x32x1024 x shapeCasts_S160x256x1024_S1280x32x1024 : FVec Ideal S1280x32x1024 .bf16) bitsLt_bf16_f32 : FVec Ideal S1280x32x1024 .f32) (num p)) shapeCasts_S1336x32x1024_S167x256x1024

/-- Row `s` of step `t` is row `s % 32` of the step's piece `s / 32`. -/
theorem rows_apply (hp : ∀ i, (p i).toNat < 1280) (t : Fin 167) (s : Fin 256) (k : Fin 1024) :
    rows p x (ix3 t s k) = Cert.Exp.rowOf x (Cert.Exp.pieceOf p t s) ⟨s.val % 32, by omega⟩ k := by
  unfold rows
  refine (shapeCast_apply _ _ _ (ix3 (⟨t.val * 8 + s.val / 32, by omega⟩ : Fin 1336) (⟨s.val % 32, by omega⟩ : Fin 32) k) ?_).trans ?_
  · rw [Shape.rowMajor_val_three, Shape.rowMajor_val_three]
    show ((t.val * 8 + s.val / 32) * 32 + s.val % 32) * 1024 + k.val = (t.val * 256 + s.val) * 1024 + k.val
    omega
  refine (Cert.Gather.slab_apply (N := 1280) (A := 32) (B := 1024) (R := 1336) (by decide) _ _ (num p) _ _ _).trans ?_
  rw [num_clamp p hp]
  unfold Cert.Exp.rowOf Cert.Exp.pieceOf
  refine (show _ = (shapeCast S1280x32x1024 x shapeCasts_S160x256x1024_S1280x32x1024 : FVec Ideal S1280x32x1024 .bf16) (ix3 _ _ _) from rfl).trans ?_
  refine shapeCast_apply x _ _ _ ?_
  have e1 : (⟨167 * ((t.val * 8 + s.val / 32) % 8) + (t.val * 8 + s.val / 32) / 8, by omega⟩ : Fin 1336) = ⟨167 * (s.val / 32) + t.val, by omega⟩ := Fin.ext (by show 167 * ((t.val * 8 + s.val / 32) % 8) + (t.val * 8 + s.val / 32) / 8 = 167 * (s.val / 32) + t.val; omega)
  rw [Shape.rowMajor_val_three, Shape.rowMajor_val_three]
  show (((Cert.Exp.piece (p (ix1 ⟨167 * (s.val / 32) + t.val, _⟩))).val * 32 + s.val % 32) / 256 * 256 + ((Cert.Exp.piece (p (ix1 ⟨167 * (s.val / 32) + t.val, _⟩))).val * 32 + s.val % 32) % 256) * 1024 + k.val = ((Cert.Exp.piece (p (ix1 ⟨167 * ((t.val * 8 + s.val / 32) % 8) + (t.val * 8 + s.val / 32) / 8, _⟩))).val * 32 + s.val % 32) * 1024 + k.val
  rw [e1]
  generalize (Cert.Exp.piece (p (ix1 ⟨167 * (s.val / 32) + t.val, _⟩))).val = P
  omega

/-- The router weights of all rows, 128 of each side by side as they come. -/
def thin : FVec Ideal S167x256x128 .f32 :=
  shapeCast S167x256x128 (Host.gather gather_S1280x32x128_S1336x1_S1336x32x128_12_0_n_n_0_1_132128 (shapeCast S1280x32x128 u shapeCasts_S160x256x128_S1280x32x128 : FVec Ideal S1280x32x128 .f32) (num p)) shapeCasts_S1336x32x128_S167x256x128

theorem thin_apply (hp : ∀ i, (p i).toNat < 1280) (t : Fin 167) (s : Fin 256) (k : Fin 128) :
    thin p u (ix3 t s k) = Cert.Exp.rowOf u (Cert.Exp.pieceOf p t s) ⟨s.val % 32, by omega⟩ k := by
  unfold thin
  refine (shapeCast_apply _ _ _ (ix3 (⟨t.val * 8 + s.val / 32, by omega⟩ : Fin 1336) (⟨s.val % 32, by omega⟩ : Fin 32) k) ?_).trans ?_
  · rw [Shape.rowMajor_val_three, Shape.rowMajor_val_three]
    show ((t.val * 8 + s.val / 32) * 32 + s.val % 32) * 128 + k.val = (t.val * 256 + s.val) * 128 + k.val
    omega
  refine (Cert.Gather.slab_apply (N := 1280) (A := 32) (B := 128) (R := 1336) (by decide) _ _ (num p) _ _ _).trans ?_
  rw [num_clamp p hp]
  unfold Cert.Exp.rowOf Cert.Exp.pieceOf
  refine shapeCast_apply u _ _ _ ?_
  have e1 : (⟨167 * ((t.val * 8 + s.val / 32) % 8) + (t.val * 8 + s.val / 32) / 8, by omega⟩ : Fin 1336) = ⟨167 * (s.val / 32) + t.val, by omega⟩ := Fin.ext (by show 167 * ((t.val * 8 + s.val / 32) % 8) + (t.val * 8 + s.val / 32) / 8 = 167 * (s.val / 32) + t.val; omega)
  rw [Shape.rowMajor_val_three, Shape.rowMajor_val_three]
  show (((Cert.Exp.piece (p (ix1 ⟨167 * (s.val / 32) + t.val, _⟩))).val * 32 + s.val % 32) / 256 * 256 + ((Cert.Exp.piece (p (ix1 ⟨167 * (s.val / 32) + t.val, _⟩))).val * 32 + s.val % 32) % 256) * 128 + k.val = ((Cert.Exp.piece (p (ix1 ⟨167 * ((t.val * 8 + s.val / 32) % 8) + (t.val * 8 + s.val / 32) / 8, _⟩))).val * 32 + s.val % 32) * 128 + k.val
  rw [e1]
  generalize (Cert.Exp.piece (p (ix1 ⟨167 * (s.val / 32) + t.val, _⟩))).val = P
  omega

/-- Eight copies of the weights side by side. -/
def wide : FVec Ideal S167x256x1024 .f32 :=
  shapeCast S167x256x1024 (broadcastInDim S1x167x1x256x8x128 ![0, 1, 2, 3, 4, 5] bcast_S1x167x1x256x1x128_S1x167x1x256x8x128_0_1_2_3_4_5 (shapeCast S1x167x1x256x1x128 (thin p u) shapeCasts_S167x256x128_S1x167x1x256x1x128)) shapeCasts_S1x167x1x256x8x128_S167x256x1024

/-- Every column of a row has the row's weights, over and over. -/
theorem wide_apply (hp : ∀ i, (p i).toNat < 1280) (t : Fin 167) (s : Fin 256) (c : Fin 1024) :
    wide p u (ix3 t s c) = Cert.Exp.rowOf u (Cert.Exp.pieceOf p t s) ⟨s.val % 32, by omega⟩ ⟨c.val % 128, by omega⟩ := by
  unfold wide
  refine (shapeCast_apply _ _ _ (ValueIdx.ix6 (0 : Fin 1) t (0 : Fin 1) s (⟨c.val / 128, by omega⟩ : Fin 8) (⟨c.val % 128, by omega⟩ : Fin 128)) ?_).trans ?_
  · rw [Shape.rowMajor_val_six, Shape.rowMajor_val_three]
    show ((((0 * 167 + t.val) * 1 + 0) * 256 + s.val) * 8 + c.val / 128) * 128 + c.val % 128 = (t.val * 256 + s.val) * 1024 + c.val
    omega
  refine (broadcastInDim_apply _ _ _ _ (ValueIdx.ix6 (0 : Fin 1) t (0 : Fin 1) s (0 : Fin 1) (⟨c.val % 128, by omega⟩ : Fin 128)) (fun a => ?_)).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ _ _ (ix3 t s (⟨c.val % 128, by omega⟩ : Fin 128)) ?_).trans (thin_apply p u hp t s _)
  rw [Shape.rowMajor_val_six, Shape.rowMajor_val_three]
  show (t.val * 256 + s.val) * 128 + c.val % 128 = ((((0 * 167 + t.val) * 1 + 0) * 256 + s.val) * 1 + 0) * 128 + c.val % 128
  omega

/-- One expert's matrix of the first two, -/
def matA (w : FVec Ideal S8x1024x2816 .f32) (n : ℕ) (h : S8x1024x2816.Slices ![n, 0, 0] S1x1024x2816) : FVec Ideal S1024x2816 .f32 :=
  shapeCast S1024x2816 (extractStridedSlice S1x1024x2816 ![n, 0, 0] w h) shapeCasts_S1x1024x2816_S1024x2816

theorem matA_apply (w : FVec Ideal S8x1024x2816 .f32) (n : Fin 8) (h : S8x1024x2816.Slices ![n.val, 0, 0] S1x1024x2816) (d : Fin 1024) (f : Fin 2816) :
    matA w n.val h (ix2 d f) = w (ix3 n d f) := by
  unfold matA
  refine (shapeCast_apply _ _ _ (ix3 (0 : Fin 1) d f) ?_).trans ?_
  · rw [Shape.rowMajor_val_three, Shape.rowMajor_val_two]
    show (0 * 1024 + d.val) * 2816 + f.val = d.val * 2816 + f.val
    omega
  refine extractStridedSlice_apply _ _ _ _ _ (fun a => ?_)
  match a with
  | ⟨0, _⟩ => rfl
  | ⟨1, _⟩ => exact (Nat.zero_add d.val).symm
  | ⟨2, _⟩ => exact (Nat.zero_add f.val).symm

/-- and of the third. -/
def matB (w : FVec Ideal S8x2816x1024 .f32) (n : ℕ) (h : S8x2816x1024.Slices ![n, 0, 0] S1x2816x1024) : FVec Ideal S2816x1024 .f32 :=
  shapeCast S2816x1024 (extractStridedSlice S1x2816x1024 ![n, 0, 0] w h) shapeCasts_S1x2816x1024_S2816x1024

theorem matB_apply (w : FVec Ideal S8x2816x1024 .f32) (n : Fin 8) (h : S8x2816x1024.Slices ![n.val, 0, 0] S1x2816x1024) (f : Fin 2816) (d : Fin 1024) :
    matB w n.val h (ix2 f d) = w (ix3 n f d) := by
  unfold matB
  refine (shapeCast_apply _ _ _ (ix3 (0 : Fin 1) f d) ?_).trans ?_
  · rw [Shape.rowMajor_val_three, Shape.rowMajor_val_two]
    show (0 * 2816 + f.val) * 1024 + d.val = f.val * 1024 + d.val
    omega
  refine extractStridedSlice_apply _ _ _ _ _ (fun a => ?_)
  match a with
  | ⟨0, _⟩ => rfl
  | ⟨1, _⟩ => exact (Nat.zero_add f.val).symm
  | ⟨2, _⟩ => exact (Nat.zero_add d.val).symm

/-- One product with a matrix. -/
def prod (h : FVec Ideal S167x256x1024 .f32) (w : FVec Ideal S1024x2816 .f32) : FVec Ideal S167x256x2816 .f32 :=
  Host.dotGeneral dot_S167x256x1024_S1024x2816_S167x256x2816_2_0_01_1_n_n none h w

theorem prod_apply (h : FVec Ideal S167x256x1024 .f32) (w : FVec Ideal S1024x2816 .f32) (t : Fin 167) (s : Fin 256) (f : Fin 2816) :
    prod h w (ix3 t s f) = ∑ d, h (ix3 t s d) * w (ix2 d f) := by
  unfold prod
  pointwise

/-- The gated product. -/
def gate (a b : FVec Ideal S167x256x2816 .f32) : FVec Ideal S167x256x2816 .f32 :=
  mulf (mulf a (Host.divf (broadcastInDim S167x256x2816 ![] bcast_S_S167x256x2816 (constant S_ .f32 0x3F800000#32)) (addf (broadcastInDim S167x256x2816 ![] bcast_S_S167x256x2816 (constant S_ .f32 0x3F800000#32)) (Host.exp (Host.negf a))))) b

theorem gate_apply (a b : FVec Ideal S167x256x2816 .f32) (i : S167x256x2816.Idx) : gate a b i = Cert.Ffn.silu (a i) * b i := by
  unfold gate Cert.Ffn.silu Cert.Ffn.unit
  pointwise

/-- The product back. -/
def back (h : FVec Ideal S167x256x2816 .f32) (w : FVec Ideal S2816x1024 .f32) : FVec Ideal S167x256x1024 .f32 :=
  Host.dotGeneral dot_S167x256x2816_S2816x1024_S167x256x1024_2_0_01_1_n_n none h w

theorem back_apply (h : FVec Ideal S167x256x2816 .f32) (w : FVec Ideal S2816x1024 .f32) (t : Fin 167) (s : Fin 256) (d : Fin 1024) :
    back h w (ix3 t s d) = ∑ f, h (ix3 t s f) * w (ix2 f d) := by
  unfold back
  pointwise

/-- The weights where the step's expert is this one, zero elsewhere. -/
def kept (W : FVec Ideal S167x256x1024 .f32) (E : BitVec 32) : FVec Ideal S167x256x1024 .f32 :=
  select (broadcastInDim S167x256x1024 ![0, 1, 2] bcast_S167x1x1_S167x256x1024_0_1_2 (broadcastInDim S167x1x1 ![0] bcast_S167_S167x1x1_0 (cmpi .eq e (broadcastInDim S167 ![] bcast_S_S167 (constantI S_ 32 E))))) W (broadcastInDim S167x256x1024 ![] bcast_S_S167x256x1024 (id (constant S_ .f32 0x00000000#32)))

theorem kept_apply (W : FVec Ideal S167x256x1024 .f32) (E : BitVec 32) (t : Fin 167) (s : Fin 256) (c : Fin 1024) :
    kept e W E (ix3 t s c) = if e (ix1 t) = E then W (ix3 t s c) else 0 := by
  have Z : (id (constant S_ .f32 0x00000000#32) : FVec Ideal S_ .f32) ix0 = 0 := by
    show (constant S_ .f32 0x00000000#32 : FVec Ideal S_ .f32) ix0 = 0
    pointwise
  unfold kept
  pointwise
  rw [Z, WordCmp.cmpi_eq_eq, WordCmp.select_ofBool]
  simp

/-- One expert's part of the result. -/
def term (H W : FVec Ideal S167x256x1024 .f32) (E : BitVec 32) (n : ℕ) (h1 : S8x1024x2816.Slices ![n, 0, 0] S1x1024x2816) (h2 : S8x2816x1024.Slices ![n, 0, 0] S1x2816x1024) : FVec Ideal S167x256x1024 .f32 :=
  mulf (kept e W E) (back (gate (prod H (matA wg n h1)) (prod H (matA wu n h1))) (matB wd n h2))

theorem term_apply (H W : FVec Ideal S167x256x1024 .f32) (E : BitVec 32) (n : Fin 8) (h1 : S8x1024x2816.Slices ![n.val, 0, 0] S1x1024x2816) (h2 : S8x2816x1024.Slices ![n.val, 0, 0] S1x2816x1024)
    (t : Fin 167) (s : Fin 256) (c : Fin 1024) :
    term e wg wu wd H W E n.val h1 h2 (ix3 t s c) = (if e (ix1 t) = E then W (ix3 t s c) else 0)
      * Cert.Exp.value (fun d => H (ix3 t s d)) (fun d f => wg (ix3 n d f)) (fun d f => wu (ix3 n d f)) (fun f d => wd (ix3 n f d)) c := by
  refine (show _ = kept e W E (ix3 t s c) * back (gate (prod H (matA wg n.val h1)) (prod H (matA wu n.val h1))) (matB wd n.val h2) (ix3 t s c) from rfl).trans ?_
  rw [kept_apply, back_apply]
  unfold Cert.Exp.value
  simp only [gate_apply, prod_apply, matA_apply, matB_apply]

/-- The parts of the first four experts, -/
def first (H W : FVec Ideal S167x256x1024 .f32) : FVec Ideal S167x256x1024 .f32 :=
  addf (addf (addf (addf (broadcastInDim S167x256x1024 ![] bcast_S_S167x256x1024 (constant S_ .f32 0x00000000#32))
    (term e wg wu wd H W 0#32 0 slices_S8x1024x2816_S1x1024x2816_0_0_0 slices_S8x2816x1024_S1x2816x1024_0_0_0))
    (term e wg wu wd H W 1#32 1 slices_S8x1024x2816_S1x1024x2816_1_0_0 slices_S8x2816x1024_S1x2816x1024_1_0_0))
    (term e wg wu wd H W 2#32 2 slices_S8x1024x2816_S1x1024x2816_2_0_0 slices_S8x2816x1024_S1x2816x1024_2_0_0))
    (term e wg wu wd H W 3#32 3 slices_S8x1024x2816_S1x1024x2816_3_0_0 slices_S8x2816x1024_S1x2816x1024_3_0_0)

/-- and of all eight. -/
def total (H W : FVec Ideal S167x256x1024 .f32) : FVec Ideal S167x256x1024 .f32 :=
  addf (addf (addf (addf (first e wg wu wd H W)
    (term e wg wu wd H W 4#32 4 slices_S8x1024x2816_S1x1024x2816_4_0_0 slices_S8x2816x1024_S1x2816x1024_4_0_0))
    (term e wg wu wd H W 5#32 5 slices_S8x1024x2816_S1x1024x2816_5_0_0 slices_S8x2816x1024_S1x2816x1024_5_0_0))
    (term e wg wu wd H W 6#32 6 slices_S8x1024x2816_S1x1024x2816_6_0_0 slices_S8x2816x1024_S1x2816x1024_6_0_0))
    (term e wg wu wd H W 7#32 7 slices_S8x1024x2816_S1x1024x2816_7_0_0 slices_S8x2816x1024_S1x2816x1024_7_0_0)

/-- Of the eight parts only the expert's own is left. -/
theorem pick (w : BitVec 32) (hw : w.toNat < 8) (W : EReal) (V : Fin 8 → EReal) :
    0 + (if w = 0#32 then W else 0) * V 0 + (if w = 1#32 then W else 0) * V 1 + (if w = 2#32 then W else 0) * V 2 + (if w = 3#32 then W else 0) * V 3
      + (if w = 4#32 then W else 0) * V 4 + (if w = 5#32 then W else 0) * V 5 + (if w = 6#32 then W else 0) * V 6 + (if w = 7#32 then W else 0) * V 7
    = W * V (Cert.Exp.expert w) := by
  obtain ⟨k, hk, rfl⟩ : ∃ k, k < 8 ∧ w = BitVec.ofNat 32 k := ⟨w.toNat, hw, by simp⟩
  have E : Cert.Exp.expert (BitVec.ofNat 32 k) = ⟨k, hk⟩ := Fin.ext (by show min (BitVec.ofNat 32 k).toNat 7 = k; rw [BitVec.toNat_ofNat]; omega)
  rw [E]
  interval_cases k <;> simp

theorem total_apply (H W : FVec Ideal S167x256x1024 .f32) (t : Fin 167) (s : Fin 256) (c : Fin 1024) (he : (e (ix1 t)).toNat < 8) :
    total e wg wu wd H W (ix3 t s c) = W (ix3 t s c)
      * Cert.Exp.value (fun d => H (ix3 t s d)) (fun d f => wg (ix3 (Cert.Exp.expert (e (ix1 t))) d f)) (fun d f => wu (ix3 (Cert.Exp.expert (e (ix1 t))) d f)) (fun f d => wd (ix3 (Cert.Exp.expert (e (ix1 t))) f d)) c := by
  have Z : (broadcastInDim S167x256x1024 ![] bcast_S_S167x256x1024 (constant S_ .f32 0x00000000#32 : FVec Ideal S_ .f32) : FVec Ideal S167x256x1024 .f32) (ix3 t s c) = 0 := by
    pointwise
  rw [← pick (e (ix1 t)) he (W (ix3 t s c)) (fun n => Cert.Exp.value (fun d => H (ix3 t s d)) (fun d f => wg (ix3 n d f)) (fun d f => wu (ix3 n d f)) (fun f d => wd (ix3 n f d)) c)]
  rw [← term_apply e wg wu wd H W 0#32 0 slices_S8x1024x2816_S1x1024x2816_0_0_0 slices_S8x2816x1024_S1x2816x1024_0_0_0,
    ← term_apply e wg wu wd H W 1#32 1 slices_S8x1024x2816_S1x1024x2816_1_0_0 slices_S8x2816x1024_S1x2816x1024_1_0_0,
    ← term_apply e wg wu wd H W 2#32 2 slices_S8x1024x2816_S1x1024x2816_2_0_0 slices_S8x2816x1024_S1x2816x1024_2_0_0,
    ← term_apply e wg wu wd H W 3#32 3 slices_S8x1024x2816_S1x1024x2816_3_0_0 slices_S8x2816x1024_S1x2816x1024_3_0_0,
    ← term_apply e wg wu wd H W 4#32 4 slices_S8x1024x2816_S1x1024x2816_4_0_0 slices_S8x2816x1024_S1x2816x1024_4_0_0,
    ← term_apply e wg wu wd H W 5#32 5 slices_S8x1024x2816_S1x1024x2816_5_0_0 slices_S8x2816x1024_S1x2816x1024_5_0_0,
    ← term_apply e wg wu wd H W 6#32 6 slices_S8x1024x2816_S1x1024x2816_6_0_0 slices_S8x2816x1024_S1x2816x1024_6_0_0,
    ← term_apply e wg wu wd H W 7#32 7 slices_S8x1024x2816_S1x1024x2816_7_0_0 slices_S8x2816x1024_S1x2816x1024_7_0_0, ← Z]
  rfl

variable (V0 : Valuation τ sig (Elt Ideal))

/-- The composed term is these steps. -/
theorem rows_eq : res_main_v12 V0 = rows (V0 (Proc.devRef .tc main_arg0)) (V0 (Proc.devRef .tc main_arg3)) := by
  unfold res_main_v12 res_main_v2 rows num ord
  rfl

theorem wide_eq : res_main_v24 V0 = wide (V0 (Proc.devRef .tc main_arg0)) (V0 (Proc.devRef .tc main_arg4)) := by
  unfold res_main_v24 res_main_v2 wide thin num ord
  rfl

theorem first_eq : res_main_v93 V0 = first (V0 (Proc.devRef .tc main_arg1)) (V0 (Proc.devRef .tc main_arg5)) (V0 (Proc.devRef .tc main_arg6)) (V0 (Proc.devRef .tc main_arg7))
    (res_main_v12 V0) (res_main_v24 V0) := by
  unfold res_main_v93 res_main_v36 res_main_v53 res_main_v70 res_main_v87 first term kept back gate prod matA matB
  rfl

theorem total_eq : res_main_v161 V0 = total (V0 (Proc.devRef .tc main_arg1)) (V0 (Proc.devRef .tc main_arg5)) (V0 (Proc.devRef .tc main_arg6)) (V0 (Proc.devRef .tc main_arg7))
    (res_main_v12 V0) (res_main_v24 V0) := by
  unfold res_main_v161 total
  rw [first_eq]
  unfold res_main_v104 res_main_v121 res_main_v138 res_main_v155 term kept back gate prod matA matB
  rfl

/-- The result, entry by entry. -/
theorem result_apply (hp : ∀ i, ((V0 (Proc.devRef .tc main_arg0) : IVec S1336 32) i).toNat < 1280) (he : ∀ i, ((V0 (Proc.devRef .tc main_arg1) : IVec S167 32) i).toNat < 8)
    (t : Fin 167) (s : Fin 256) (c : Fin 1024) :
    (res_main_v161 V0 : FVec Ideal S167x256x1024 .f32) (ix3 t s c)
      = Cert.Exp.answer (V0 (Proc.devRef .tc main_arg0)) (V0 (Proc.devRef .tc main_arg1)) (V0 (Proc.devRef .tc main_arg3)) (V0 (Proc.devRef .tc main_arg4))
          (V0 (Proc.devRef .tc main_arg5)) (V0 (Proc.devRef .tc main_arg6)) (V0 (Proc.devRef .tc main_arg7)) t s c := by
  rw [total_eq, total_apply _ _ _ _ _ _ _ _ _ (he _), rows_eq, wide_eq, wide_apply _ _ hp]
  unfold Cert.Exp.answer
  simp only [rows_apply _ _ hp]

end Cert.Reference3Ideal.Hand

end
-- ==== Proof.StepsUsed.lean ====
module

public import proofs.«01_k».proof.On_steps_used
public import proofs.«01_k».proof.Proof.TablesNamed
public import Idealize.ShloMosaic.Lib.Pointwise

/-! # What the selection says: a selected element lies in the block of a step the schedule holds -/

@[expose] public section

namespace Cert.StepsUsed

open Idealize.ShloMosaic Cert.On_steps_used

/-- A small word below another as signed numbers is below it as a natural number. -/
theorem lt_of_slt {b : ℕ} {w : BitVec 32} (hb : b < 167) (hw : w.toNat ≤ 167) (h : IntOp.cmpi .slt (BitVec.ofNat 32 b) w = 1#1) : b < w.toNat := by
  simp only [IntOp.cmpi, StableHlo.Predicate.ofBool_eq_one_iff, BitVec.slt, decide_eq_true_eq, BitVec.toInt_eq_toNat_cond, BitVec.toNat_ofNat] at h
  have := w.isLt
  split at h <;> split at h <;> omega

variable [Facts] {F : FTy → Type} [FloatOps F]
variable (p : IVec S1336 32) (s : IVec S167 32) (n : IVec S1 32) (x : FVec F S160x256x1024 .bf16) (w : FVec F S160x256x128 .f32)
  (g u : FVec F S8x1024x2816 .f32) (d : FVec F S8x2816x1024 .f32)

theorem lt_used (i : S167x256x1024.Idx) (j : S1.Idx) (hn : (n j).toNat ≤ 167) (h : fn p s n x w g u d i = 1#1) : (i 0).val < (n j).toNat := by
  have one : ∀ j' : S1.Idx, n j' = n j := fun j' => congrArg n (funext fun (a : Fin 1) => by
    match a with
    | 0 => exact Subsingleton.elim (α := Fin 1) _ _)
  simp only [fn, iotaInDim, broadcastInDim, cmpi, shapeCast] at h
  rw [one] at h
  exact lt_of_slt (i 0).isLt hn h

end Cert.StepsUsed
-- ==== Proof.ExpWords.lean ====
module

public import proofs.«01_k».proof.Proof.ExpFrame
public import proofs.«01_k».proof.Proof.ExpPre
public import proofs.«01_k».proof.Defs
public import proofs.«01_k».proof.Proof.Gen.Kernel3
public import proofs.«01_k».proof.Proof.Gen.Pre_tables_named

/-! # The frame of the experts' program, from the run of the idealized one -/

@[expose] public section

noncomputable section

namespace Cert.Proof

open Idealize.ShloMosaic Idealize.ShloMosaic.TcCoe Idealize.SL.Sem

/-- The precondition, of the idealized program's arguments read as words. -/
def Named3 (m : (ℓ : Loc Cert.Kernel3Ideal.nD Cert.Kernel3Ideal.τ Cert.Kernel3Ideal.sig) → Buf (Elt Bits) ℓ) : Prop :=
  ∀ c : Dev Cert.Kernel3Ideal.nD,
    (Cert.Pre_tables_named.fn (F := Bits) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_tables_named.fn (F := Bits) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_tables_named.fn (F := Bits) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 = (fun _ => 1#1)

/-- The frame of the idealized program, read at words. -/
def Frame3 : Prop :=
  ∀ (m : (ℓ : Loc Cert.Kernel3Ideal.nD Cert.Kernel3Ideal.τ Cert.Kernel3Ideal.sig) → Buf (Elt Bits) ℓ) (g : Dev Cert.Kernel3Ideal.nD → PrngReg), Named3 m →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

/-- The two programs have the same text, so at words the two frames are one statement. -/
theorem frame3_eq : quiescent_Kernel3 (hKernel3 := Cert.Kernel3.Gen.facts) (hPre_tables_named := Cert.Pre_tables_named.Gen.facts) = Frame3 := by
  sl_kernel_rfl

/-- It holds by the run that is written over any float values. -/
theorem frame3 : Frame3 :=
  fun m ρ h =>
    have hN := Cert.Kernel3Ideal.Hand.named_of_pre (F := Bits) m (h 0).1 (h 0).2.1
    have hU := Cert.Kernel3Ideal.Hand.used_of_pre (F := Bits) m (h 0).2.2
    Cert.Kernel3Ideal.Hand.frame (F := Bits) m ρ (Cert.Kernel3Ideal.Hand.ok_of_named m hN hU) hU

end Cert.Proof
end
-- ==== Proof.MergeMath.lean ====
module

public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Pointwise

/-! # The merge of one token's three branches, over the extended reals

Each branch's row goes through its own matrix and is multiplied by its gate; the sum goes through the last matrix and is added to the token. -/

@[expose] public section

noncomputable section

namespace Cert.Merge

open Idealize.ShloMosaic
open scoped BigOperators

variable (a : Fin 512 → EReal) (h f : Fin 256 → EReal) (g : Fin 3072 → EReal) (wa : Fin 512 → Fin 1024 → EReal) (wh wf : Fin 256 → Fin 1024 → EReal)

/-- The gated sum of the three branches. -/
def mixed (j : Fin 1024) : EReal :=
  g ⟨j.val, by omega⟩ * (∑ k, a k * wa k j) + g ⟨1024 + j.val, by omega⟩ * (∑ k, h k * wh k j) + g ⟨2048 + j.val, by omega⟩ * ∑ k, f k * wf k j

/-- The token's new row. -/
def token (x gt : Fin 1024 → EReal) (wo : Fin 1024 → Fin 1024 → EReal) (d : Fin 1024) : EReal :=
  x d + gt d * ∑ j, mixed a h f g wa wh wf j * wo j d

/-- The merge: row `R` of the result is token `R % 8192` of sequence `R / 8192`, each sequence with its own modulation. -/
def answer (x : FVec Ideal ⟨3, ![2, 8192, 1024]⟩ .f32) (gt : FVec Ideal ⟨3, ![8, 1, 1024]⟩ .f32) (a : FVec Ideal ⟨3, ![2, 8192, 512]⟩ .bf16)
    (h f : FVec Ideal ⟨2, ![16384, 256]⟩ .f32) (g : FVec Ideal ⟨2, ![16384, 3072]⟩ .bf16) (wa : FVec Ideal ⟨2, ![512, 1024]⟩ .f32)
    (wh wf : FVec Ideal ⟨2, ![256, 1024]⟩ .f32) (wo : FVec Ideal ⟨2, ![1024, 1024]⟩ .f32) (R : Fin 16384) (d : Fin 1024) : EReal :=
  token (fun k => a (ix3 ⟨R.val / 8192, by omega⟩ ⟨R.val % 8192, by omega⟩ k)) (fun k => h (ix2 R k)) (fun k => f (ix2 R k)) (fun k => g (ix2 R k))
    (fun k j => wa (ix2 k j)) (fun k j => wh (ix2 k j)) (fun k j => wf (ix2 k j))
    (fun k => x (ix3 ⟨R.val / 8192, by omega⟩ ⟨R.val % 8192, by omega⟩ k)) (fun k => gt (ix3 ⟨R.val / 8192, by omega⟩ 0 k)) (fun j k => wo (ix2 j k)) d

end Cert.Merge

end
-- ==== Proof.MergePoint.lean ====
module

public import proofs.«01_k».proof.Proof.Gen.Kernel4Ideal.Value
public import proofs.«01_k».proof.Proof.MergeMath
public import Idealize.ShloMosaic.Lib.IdealHost
public import Idealize.ShloMosaic.Lib.MatmulPlain
public import Idealize.ShloMosaic.Lib.Pointwise

/-! # One entry of the merge's output block, over the extended reals -/

@[expose] public section

noncomputable section

namespace Cert.Kernel4Ideal.Hand

open Idealize.ShloMosaic Idealize.ShloMosaic.TcCoe Idealize.ShloMosaic.Tactic
open Cert.Kernel4Ideal Cert.Kernel4Ideal.Gen

/-- The gated sum through the last matrix. -/
theorem mixed_apply (g0 : Vec Ideal S1024x1024 .bf16) (a : Vec Ideal S1024x512 .bf16) (wa : Vec Ideal S512x1024 .bf16) (g1 : Vec Ideal S1024x1024 .bf16)
    (h : Vec Ideal S1024x256 .f32) (wh : Vec Ideal S256x1024 .bf16) (g2 : Vec Ideal S1024x1024 .bf16) (f : Vec Ideal S1024x256 .f32) (wf : Vec Ideal S256x1024 .bf16)
    (wo : Vec Ideal S1024x1024 .bf16) (r c : Fin 1024) :
    k0_pay2 g0 a wa g1 h wh g2 f wf wo (ix2 r c)
      = ∑ j, (g0 (ix2 r j) * (∑ k, a (ix2 r k) * wa (ix2 k j)) + g1 (ix2 r j) * (∑ k, h (ix2 r k) * wh (ix2 k j)) + g2 (ix2 r j) * ∑ k, f (ix2 r k) * wf (ix2 k j)) * wo (ix2 j c) := by
  unfold k0_pay2
  pointwise

/-- The entry is the token's. -/
theorem block_apply (x0 : Vec Ideal S1024x1024 .f32) (x1 : Vec Ideal S1x1x1024 .f32) (x2 : Vec Ideal S1024x512 .bf16) (x3 x4 : Vec Ideal S1024x256 .f32)
    (x5 : Vec Ideal S1024x3072 .bf16) (x6 : Vec Ideal S512x1024 .bf16) (x7 x8 : Vec Ideal S256x1024 .bf16) (x9 : Vec Ideal S1024x1024 .bf16) (r c : Fin 1024) :
    out0_10 x0 x1 x2 x3 x4 x5 x6 x7 x8 x9 (ix2 r c)
      = Cert.Merge.token (fun k => x2 (ix2 r k)) (fun k => x3 (ix2 r k)) (fun k => x4 (ix2 r k)) (fun k => x5 (ix2 r k)) (fun k j => x6 (ix2 k j))
          (fun k j => x7 (ix2 k j)) (fun k j => x8 (ix2 k j)) (fun k => x0 (ix2 r k)) (fun k => x1 (ix3 0 0 k)) (fun j k => x9 (ix2 j k)) c := by
  unfold out0_10 Cert.Merge.token Cert.Merge.mixed
  refine (Cert.Kernel4Ideal.Value.canon10_eq _ _ _ _ _ _ _ _ _ _ _ _ (ix2 r c)).trans ?_
  have e2 : Cert.Kernel4Ideal.Value.ix10_2 (ix2 r c) = ix2 r c := by ext a; fin_cases a <;> rfl
  have i0 : ∀ y : S1024x1024.Idx, r0_7.idx y = y := fun y => by ext a; fin_cases a <;> (show 0 + 1 * _ = _; omega)
  have i1 : ∀ y : S1024x512.Idx, r0_1.idx y = y := fun y => by ext a; fin_cases a <;> (show 0 + 1 * _ = _; omega)
  have i2 : ∀ y : S512x1024.Idx, r0_2.idx y = y := fun y => by ext a; fin_cases a <;> (show 0 + 1 * _ = _; omega)
  have i4 : ∀ y : S1024x256.Idx, r0_4.idx y = y := fun y => by ext a; fin_cases a <;> (show 0 + 1 * _ = _; omega)
  have i5 : ∀ y : S256x1024.Idx, r0_5.idx y = y := fun y => by ext a; fin_cases a <;> (show 0 + 1 * _ = _; omega)
  have i8 : ∀ y : S1x1x1024.Idx, r0_8.idx y = y := fun y => by ext a; fin_cases a <;> (show 0 + 1 * _ = _; omega)
  have l0 : ∀ j : Fin 1024, r0_0.idx (ix2 r j) = ix2 r ⟨j.val, by omega⟩ := fun j => by
    ext a; fin_cases a
    · show 0 + 1 * r.val = r.val; omega
    · show 0 + 1 * j.val = j.val; omega
  have l1 : ∀ j : Fin 1024, r0_3.idx (ix2 r j) = ix2 r ⟨1024 + j.val, by omega⟩ := fun j => by
    ext a; fin_cases a
    · show 0 + 1 * r.val = r.val; omega
    · show 1024 + 1 * j.val = 1024 + j.val; omega
  have l2 : ∀ j : Fin 1024, r0_6.idx (ix2 r j) = ix2 r ⟨2048 + j.val, by omega⟩ := fun j => by
    ext a; fin_cases a
    · show 0 + 1 * r.val = r.val; omega
    · show 2048 + 1 * j.val = 2048 + j.val; omega
  have x0e : View.ld x0 r0_7 (Cert.Kernel4Ideal.Value.ix10_0 (ix2 r c)) = x0 (ix2 r c) := congrArg x0 ((i0 _).trans e2)
  have x1e : View.ld x1 r0_8 (Cert.Kernel4Ideal.Value.ix10_1 (ix2 r c)) = x1 (ix3 0 0 c) := congrArg x1 ((i8 _).trans (by ext a; fin_cases a <;> rfl))
  show View.ld x0 r0_7 (Cert.Kernel4Ideal.Value.ix10_0 (ix2 r c)) + View.ld x1 r0_8 (Cert.Kernel4Ideal.Value.ix10_1 (ix2 r c)) * k0_pay2 (F := Ideal) (View.ld x5 r0_0) (View.ld x2 r0_1) (View.ld x6 r0_2) (View.ld x5 r0_3) (View.ld x3 r0_4) (View.ld x7 r0_5) (View.ld x5 r0_6) (View.ld x4 r0_4) (View.ld x8 r0_5) (View.ld x9 r0_7) (Cert.Kernel4Ideal.Value.ix10_2 (ix2 r c)) = _
  rw [x0e, x1e, e2, mixed_apply]
  have k2 : View.ld x2 r0_1 = x2 := funext fun y => congrArg x2 (i1 y)
  have k6 : View.ld x6 r0_2 = x6 := funext fun y => congrArg x6 (i2 y)
  have k3 : View.ld x3 r0_4 = x3 := funext fun y => congrArg x3 (i4 y)
  have k4 : View.ld x4 r0_4 = x4 := funext fun y => congrArg x4 (i4 y)
  have k7 : View.ld x7 r0_5 = x7 := funext fun y => congrArg x7 (i5 y)
  have k8 : View.ld x8 r0_5 = x8 := funext fun y => congrArg x8 (i5 y)
  have k9 : View.ld x9 r0_7 = x9 := funext fun y => congrArg x9 (i0 y)
  have g0 : ∀ j : Fin 1024, View.ld x5 r0_0 (ix2 r j) = x5 (ix2 r ⟨j.val, by omega⟩) := fun j => congrArg x5 (l0 j)
  have g1 : ∀ j : Fin 1024, View.ld x5 r0_3 (ix2 r j) = x5 (ix2 r ⟨1024 + j.val, by omega⟩) := fun j => congrArg x5 (l1 j)
  have g2 : ∀ j : Fin 1024, View.ld x5 r0_6 (ix2 r j) = x5 (ix2 r ⟨2048 + j.val, by omega⟩) := fun j => congrArg x5 (l2 j)
  rw [k2, k6, k3, k4, k7, k8, k9]
  simp only [g0, g1, g2]

end Cert.Kernel4Ideal.Hand

end
-- ==== Proof.MergeArray.lean ====
module

public import proofs.«01_k».proof.Proof.MergePoint
public import Idealize.ShloMosaic.Lib.Pipeline.ValueKit
public import Idealize.ShloMosaic.Lib.StableHlo.Run

/-! # The merge's result, entry by entry

Point `t` of the grid computes the rows `1024 t` to `1024 t + 1023`; together they are the whole result. -/

@[expose] public section

noncomputable section

namespace Cert.Kernel4Ideal.Hand

open Idealize.ShloMosaic Idealize.ShloMosaic.TcCoe Idealize.ShloMosaic.Tactic
open Cert.Kernel4Ideal Cert.Kernel4Ideal.Gen

theorem idx0 : ∀ t : Fin grid0.N, win0_0.index t = ![t.val, 0] := by decide +kernel
theorem idx1 : ∀ t : Fin grid0.N, win0_1.index t = ![t.val / 8, 0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![t.val, 0] := by decide +kernel

variable (m : (ℓ : Loc nD τ sig) → Buf (Elt Ideal) ℓ) (c : Dev nD) (t : Fin cfg0.N)

/-- Row `r` of point `t`'s block is this row of the whole. -/
def row (r : Fin 1024) : Fin 16384 := ⟨t.val * 1024 + r.val, by have : t.val < 16 := t.isLt; omega⟩

/-- Reading the tokens of both sequences as one list. -/
theorem flat_x (x : FVec Ideal S2x8192x1024 .f32) (R : Fin 16384) (k : Fin 1024) :
    shapeCast S16384x1024 x shapeCasts_S2x8192x1024_S16384x1024 (ix2 R k) = x (ix3 ⟨R.val / 8192, by omega⟩ ⟨R.val % 8192, by omega⟩ k) := by
  refine shapeCast_apply _ _ _ _ ?_
  rw [Shape.rowMajor_val_three, Shape.rowMajor_val_two]
  show (R.val / 8192 * 8192 + R.val % 8192) * 1024 + k.val = R.val * 1024 + k.val
  omega

/-- The tokens as the region finds them. -/
theorem V_x : (V m c main_v0 : FVec Ideal S16384x1024 .f32) = shapeCast S16384x1024 (m ((c : Thread nD τ).loc main_arg0)) shapeCasts_S2x8192x1024_S16384x1024 := by
  dsimp only [V]; unfold hostOps0; after_results_simp <;> rfl

/-- Window 0's block, entry by entry. -/
theorem blk0 (r : Fin 1024) (k : Fin 1024) : (iblk m c 0 t : FVec Ideal S1024x1024 .f32) (ix2 r k)
    = (m ((c : Thread nD τ).loc main_arg0) : FVec Ideal S2x8192x1024 .f32) (ix3 ⟨(row t r).val / 8192, by omega⟩ ⟨(row t r).val % 8192, by omega⟩ k) := by
  have e : (iblk m c 0 t : FVec Ideal S1024x1024 .f32) (ix2 r k) = (V m c main_v0 : FVec Ideal S16384x1024 .f32) (ix2 (row t r) k) := by
    unfold row
    blk_ext! [iblk, idx0 t]
  rw [e, V_x]
  exact flat_x _ _ _

/-- Reading the attention's rows of both sequences as one list. -/
theorem flat_a (x : FVec Ideal S2x8192x512 .bf16) (R : Fin 16384) (k : Fin 512) :
    shapeCast S16384x512 x shapeCasts_S2x8192x512_S16384x512 (ix2 R k) = x (ix3 ⟨R.val / 8192, by omega⟩ ⟨R.val % 8192, by omega⟩ k) := by
  refine shapeCast_apply _ _ _ _ ?_
  rw [Shape.rowMajor_val_three, Shape.rowMajor_val_two]
  show (R.val / 8192 * 8192 + R.val % 8192) * 512 + k.val = R.val * 512 + k.val
  omega

/-- The attention's rows as the region finds them. -/
theorem V_a : (V m c main_v1 : FVec Ideal S16384x512 .bf16) = shapeCast S16384x512 (m ((c : Thread nD τ).loc main_arg2)) shapeCasts_S2x8192x512_S16384x512 := by
  dsimp only [V]; unfold hostOps0; after_results_simp <;> rfl

/-- Window 2's block, entry by entry. -/
theorem blk2 (r : Fin 1024) (k : Fin 512) : (iblk m c 2 t : FVec Ideal S1024x512 .bf16) (ix2 r k)
    = (m ((c : Thread nD τ).loc main_arg2) : FVec Ideal S2x8192x512 .bf16) (ix3 ⟨(row t r).val / 8192, by omega⟩ ⟨(row t r).val % 8192, by omega⟩ k) := by
  have e : (iblk m c 2 t : FVec Ideal S1024x512 .bf16) (ix2 r k) = (V m c main_v1 : FVec Ideal S16384x512 .bf16) (ix2 (row t r) k) := by
    unfold row
    blk_ext! [iblk, idx2 t]
  rw [e, V_a]
  exact flat_a _ _ _

/-- Window 1's block, entry by entry. -/
theorem blk1 (k : Fin 1024) : (iblk m c 1 t : FVec Ideal S1x1x1024 .f32) (ix3 0 0 k)
    = (m ((c : Thread nD τ).loc main_arg1) : FVec Ideal S8x1x1024 .f32) (ix3 ⟨t.val / 8, by have : t.val < 16 := t.isLt; omega⟩ 0 k) := by
  rw [← V_main_arg1 m c]
  blk_ext! [iblk, idx1 t]

/-- Window 3's block, entry by entry. -/
theorem blk3 (r : Fin 1024) (k : Fin 256) : (iblk m c 3 t : FVec Ideal S1024x256 .f32) (ix2 r k)
    = (m ((c : Thread nD τ).loc main_arg3) : FVec Ideal S16384x256 .f32) (ix2 (row t r) k) := by
  rw [← V_main_arg3 m c]
  unfold row
  blk_ext! [iblk, idx3 t]

/-- Window 4's block, entry by entry. -/
theorem blk4 (r : Fin 1024) (k : Fin 256) : (iblk m c 4 t : FVec Ideal S1024x256 .f32) (ix2 r k)
    = (m ((c : Thread nD τ).loc main_arg4) : FVec Ideal S16384x256 .f32) (ix2 (row t r) k) := by
  rw [← V_main_arg4 m c]
  unfold row
  blk_ext! [iblk, idx4 t]

/-- Window 5's block, entry by entry. -/
theorem blk5 (r : Fin 1024) (k : Fin 3072) : (iblk m c 5 t : FVec Ideal S1024x3072 .bf16) (ix2 r k)
    = (m ((c : Thread nD τ).loc main_arg5) : FVec Ideal S16384x3072 .bf16) (ix2 (row t r) k) := by
  rw [← V_main_arg5 m c]
  unfold row
  blk_ext! [iblk, idx5 t]

/-- A weight as the region finds it. -/
theorem V_w6 : @Eq (FVec Ideal S512x1024 .bf16) (V m c main_v2) (truncf .bf16 (m ((c : Thread nD τ).loc main_arg6) : FVec Ideal S512x1024 .f32) bitsLt_bf16_f32) := by
  dsimp only [V]; unfold hostOps0; after_results_simp <;> rfl

/-- Window 6's block, entry by entry. -/
theorem blk6 (d : Fin 512) (f : Fin 1024) : (iblk m c 6 t : FVec Ideal S512x1024 .bf16) (ix2 d f) = (m ((c : Thread nD τ).loc main_arg6) : FVec Ideal S512x1024 .f32) (ix2 d f) := by
  have e : (iblk m c 6 t : FVec Ideal S512x1024 .bf16) (ix2 d f) = (V m c main_v2 : FVec Ideal S512x1024 .bf16) (ix2 d f) := by
    blk_ext! [iblk, idx6 t]
  rw [e, V_w6]
  pointwise

/-- A weight as the region finds it. -/
theorem V_w7 : @Eq (FVec Ideal S256x1024 .bf16) (V m c main_v3) (truncf .bf16 (m ((c : Thread nD τ).loc main_arg7) : FVec Ideal S256x1024 .f32) bitsLt_bf16_f32) := by
  dsimp only [V]; unfold hostOps0; after_results_simp <;> rfl

/-- Window 7's block, entry by entry. -/
theorem blk7 (d : Fin 256) (f : Fin 1024) : (iblk m c 7 t : FVec Ideal S256x1024 .bf16) (ix2 d f) = (m ((c : Thread nD τ).loc main_arg7) : FVec Ideal S256x1024 .f32) (ix2 d f) := by
  have e : (iblk m c 7 t : FVec Ideal S256x1024 .bf16) (ix2 d f) = (V m c main_v3 : FVec Ideal S256x1024 .bf16) (ix2 d f) := by
    blk_ext! [iblk, idx7 t]
  rw [e, V_w7]
  pointwise

/-- A weight as the region finds it. -/
theorem V_w8 : @Eq (FVec Ideal S256x1024 .bf16) (V m c main_v4) (truncf .bf16 (m ((c : Thread nD τ).loc main_arg8) : FVec Ideal S256x1024 .f32) bitsLt_bf16_f32) := by
  dsimp only [V]; unfold hostOps0; after_results_simp <;> rfl

/-- Window 8's block, entry by entry. -/
theorem blk8 (d : Fin 256) (f : Fin 1024) : (iblk m c 8 t : FVec Ideal S256x1024 .bf16) (ix2 d f) = (m ((c : Thread nD τ).loc main_arg8) : FVec Ideal S256x1024 .f32) (ix2 d f) := by
  have e : (iblk m c 8 t : FVec Ideal S256x1024 .bf16) (ix2 d f) = (V m c main_v4 : FVec Ideal S256x1024 .bf16) (ix2 d f) := by
    blk_ext! [iblk, idx8 t]
  rw [e, V_w8]
  pointwise

/-- A weight as the region finds it. -/
theorem V_w9 : @Eq (FVec Ideal S1024x1024 .bf16) (V m c main_v5) (truncf .bf16 (m ((c : Thread nD τ).loc main_arg9) : FVec Ideal S1024x1024 .f32) bitsLt_bf16_f32) := by
  dsimp only [V]; unfold hostOps0; after_results_simp <;> rfl

/-- Window 9's block, entry by entry. -/
theorem blk9 (d : Fin 1024) (f : Fin 1024) : (iblk m c 9 t : FVec Ideal S1024x1024 .bf16) (ix2 d f) = (m ((c : Thread nD τ).loc main_arg9) : FVec Ideal S1024x1024 .f32) (ix2 d f) := by
  have e : (iblk m c 9 t : FVec Ideal S1024x1024 .bf16) (ix2 d f) = (V m c main_v5 : FVec Ideal S1024x1024 .bf16) (ix2 d f) := by
    blk_ext! [iblk, idx9 t]
  rw [e, V_w9]
  pointwise

/-- The whole result. -/
def result : FVec Ideal S16384x1024 .f32 := fun y =>
  Cert.Merge.answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (y 0) (y 1)

/-- What point `t` leaves at a place of its block is the result's entry there. -/
theorem outs_apply (r k : Fin 1024) : out0_10 (iblk m c 0 t) (iblk m c 1 t) (iblk m c 2 t) (iblk m c 3 t) (iblk m c 4 t) (iblk m c 5 t) (iblk m c 6 t) (iblk m c 7 t) (iblk m c 8 t) (iblk m c 9 t) (ix2 r k) = result m c (ix2 (row t r) k) := by
  have hq : (row t r).val / 8192 = t.val / 8 := by show (t.val * 1024 + r.val) / 8192 = _; omega
  refine Eq.trans ?_ (show Cert.Merge.answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) k = result m c (ix2 (row t r) k) from rfl)
  rw [block_apply]
  simp only [blk0, blk1, blk2, blk3, blk4, blk5, blk6, blk7, blk8, blk9]
  unfold Cert.Merge.answer
  simp only [hq]

/-- The kernel's result after the run. -/
theorem final : (dats m 0 c).arrAt 10 cfg0.N = result m c := by
  refine (dats m 0 c).arrAt_eq_of_covers 10 _ (by decide +kernel) fun t hf y => ?_
  rw [after0_10]
  blk_simp
  obtain ⟨r, k, rfl⟩ : ∃ (r k : Fin 1024), y = ix2 r k := ⟨y 0, y 1, by ext a; fin_cases a <;> rfl⟩
  refine (outs_apply m c t r k).trans (congrArg (result m c) ?_)
  unfold row
  ext a
  fin_cases a
  · blk_simp [idx10 t]
    rfl
  · blk_simp [idx10 t]
    rfl

end Cert.Kernel4Ideal.Hand

end
-- ==== Proof.MergeRef.lean ====
module

public import proofs.«01_k».proof.Proof.Gen.Reference4Ideal.Run
public import proofs.«01_k».proof.Proof.MergeMath
public import Idealize.ShloMosaic.Lib.IdealHost
public import Idealize.ShloMosaic.Lib.MatmulPlain
public import Idealize.ShloMosaic.Lib.Pointwise

/-! # The plain merge's result, entry by entry -/

@[expose] public section

noncomputable section

namespace Cert.Reference4Ideal.Hand

open Idealize.ShloMosaic Idealize.ShloMosaic.TcCoe Idealize.ShloMosaic.Tactic
open Cert.Reference4Ideal Cert.Reference4Ideal.Gen Cert.Reference4Ideal.Value

variable (x : FVec Ideal S2x8192x1024 .f32) (gt : FVec Ideal S8x1x1024 .f32) (a : FVec Ideal S2x8192x512 .bf16) (h f : FVec Ideal S16384x256 .f32)
  (g : FVec Ideal S16384x3072 .bf16) (wa : FVec Ideal S512x1024 .f32) (wh wf : FVec Ideal S256x1024 .f32) (wo : FVec Ideal S1024x1024 .f32)

/-- The modulation's two rows, one for each sequence. -/
def mods : FVec Ideal S2x8192x1024 .f32 :=
  broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1024 ![0, 0, 0] gt slices_S8x1x1024_S2x1x1024_0_0_0) shapeCasts_S2x1x1024_S2x1024))

/-- The modulation is the row of its sequence. -/
theorem mods_apply (b : Fin 2) (s : Fin 8192) (d : Fin 1024) : mods gt (ix3 b s d) = gt (ix3 ⟨b.val, by omega⟩ 0 d) := by
  unfold mods
  pointwise

/-- The gates of both sequences, three for each token. -/
def gates : FVec Ideal S2x8192x3x1024 .f32 := shapeCast S2x8192x3x1024 (extf .f32 g bitsLt_bf16_f32) shapeCasts_S16384x3072_S2x8192x3x1024

/-- Gate `n` of a token is the `n`-th part of its row. -/
theorem gates_apply (b : Fin 2) (s : Fin 8192) (n : Fin 3) (j : Fin 1024) :
    gates g (ix4 b s n j) = g (ix2 ⟨b.val * 8192 + s.val, by omega⟩ ⟨n.val * 1024 + j.val, by omega⟩) := by
  unfold gates
  refine (shapeCast_apply _ _ _ (ix2 ⟨b.val * 8192 + s.val, by omega⟩ ⟨n.val * 1024 + j.val, by omega⟩) ?_).trans ?_
  · rw [Shape.rowMajor_val_two, Shape.rowMajor_val_four]
    show (b.val * 8192 + s.val) * 3072 + (n.val * 1024 + j.val) = ((b.val * 8192 + s.val) * 3 + n.val) * 1024 + j.val
    omega
  · pointwise

/-- The three gates. -/
def gate0 : FVec Ideal S2x8192x1024 .f32 := shapeCast S2x8192x1024 (extractStridedSlice S2x8192x1x1024 ![0, 0, 0, 0] (gates g) slices_S2x8192x3x1024_S2x8192x1x1024_0_0_0_0) shapeCasts_S2x8192x1x1024_S2x8192x1024
def gate1 : FVec Ideal S2x8192x1024 .f32 := shapeCast S2x8192x1024 (extractStridedSlice S2x8192x1x1024 ![0, 0, 1, 0] (gates g) slices_S2x8192x3x1024_S2x8192x1x1024_0_0_1_0) shapeCasts_S2x8192x1x1024_S2x8192x1024
def gate2 : FVec Ideal S2x8192x1024 .f32 := shapeCast S2x8192x1024 (extractStridedSlice S2x8192x1x1024 ![0, 0, 2, 0] (gates g) slices_S2x8192x3x1024_S2x8192x1x1024_0_0_2_0) shapeCasts_S2x8192x1x1024_S2x8192x1024

theorem gate0_apply (b : Fin 2) (s : Fin 8192) (j : Fin 1024) : gate0 g (ix3 b s j) = g (ix2 ⟨b.val * 8192 + s.val, by omega⟩ ⟨j.val, by omega⟩) := by
  have e : gate0 g (ix3 b s j) = gates g (ix4 b s 0 j) := by unfold gate0; generalize gates g = G; pointwise
  rw [e, gates_apply]
  exact congrArg (fun q => g (ix2 _ q)) (Fin.ext (by show 0 * 1024 + j.val = j.val; omega))

theorem gate1_apply (b : Fin 2) (s : Fin 8192) (j : Fin 1024) : gate1 g (ix3 b s j) = g (ix2 ⟨b.val * 8192 + s.val, by omega⟩ ⟨1024 + j.val, by omega⟩) := by
  have e : gate1 g (ix3 b s j) = gates g (ix4 b s 1 j) := by unfold gate1; generalize gates g = G; pointwise
  rw [e, gates_apply]
  exact congrArg (fun q => g (ix2 _ q)) (Fin.ext (by show 1 * 1024 + j.val = 1024 + j.val; omega))

theorem gate2_apply (b : Fin 2) (s : Fin 8192) (j : Fin 1024) : gate2 g (ix3 b s j) = g (ix2 ⟨b.val * 8192 + s.val, by omega⟩ ⟨2048 + j.val, by omega⟩) := by
  have e : gate2 g (ix3 b s j) = gates g (ix4 b s 2 j) := by unfold gate2; generalize gates g = G; pointwise
  rw [e, gates_apply]
  exact congrArg (fun q => g (ix2 _ q)) (Fin.ext (by show 2 * 1024 + j.val = 2048 + j.val; omega))

/-- The attention's product. -/
def prodA : FVec Ideal S2x8192x1024 .f32 := Host.dotGeneral dot_S2x8192x512_S512x1024_S2x8192x1024_2_0_01_1_n_n none (extf .f32 a bitsLt_bf16_f32) wa

theorem prodA_apply (b : Fin 2) (s : Fin 8192) (j : Fin 1024) : prodA a wa (ix3 b s j) = ∑ k, a (ix3 b s k) * wa (ix2 k j) := by
  unfold prodA
  pointwise

/-- The product of one of the other two branches. -/
def prodH : FVec Ideal S2x8192x1024 .f32 := Host.dotGeneral dot_S2x8192x256_S256x1024_S2x8192x1024_2_0_01_1_n_n none (shapeCast S2x8192x256 h shapeCasts_S16384x256_S2x8192x256) wh

theorem prodH_apply (b : Fin 2) (s : Fin 8192) (j : Fin 1024) : prodH h wh (ix3 b s j) = ∑ k, h (ix2 ⟨b.val * 8192 + s.val, by omega⟩ k) * wh (ix2 k j) := by
  have e : ∀ k : Fin 256, (shapeCast S2x8192x256 h shapeCasts_S16384x256_S2x8192x256) (ix3 b s k) = h (ix2 ⟨b.val * 8192 + s.val, by omega⟩ k) := fun k => by
    refine shapeCast_apply _ _ _ _ ?_
    rw [Shape.rowMajor_val_two, Shape.rowMajor_val_three]
    rfl
  simp only [← e]
  unfold prodH
  generalize shapeCast S2x8192x256 h shapeCasts_S16384x256_S2x8192x256 = H
  pointwise

/-- The gated sum. -/
def mix : FVec Ideal S2x8192x1024 .f32 := addf (addf (mulf (gate0 g) (prodA a wa)) (mulf (gate1 g) (prodH h wh))) (mulf (gate2 g) (prodH f wf))

theorem mix_apply (b : Fin 2) (s : Fin 8192) (j : Fin 1024) : mix a h f g wa wh wf (ix3 b s j)
    = Cert.Merge.mixed (fun k => a (ix3 b s k)) (fun k => h (ix2 ⟨b.val * 8192 + s.val, by omega⟩ k)) (fun k => f (ix2 ⟨b.val * 8192 + s.val, by omega⟩ k))
        (fun k => g (ix2 ⟨b.val * 8192 + s.val, by omega⟩ k)) (fun k j => wa (ix2 k j)) (fun k j => wh (ix2 k j)) (fun k j => wf (ix2 k j)) j := by
  unfold mix Cert.Merge.mixed
  beta_reduce
  rw [← gate0_apply g, ← gate1_apply g, ← gate2_apply g, ← prodA_apply a wa, ← prodH_apply h wh, ← prodH_apply f wf]
  rfl

/-- The product with the last matrix. -/
def back (y : FVec Ideal S2x8192x1024 .f32) : FVec Ideal S2x8192x1024 .f32 := Host.dotGeneral dot_S2x8192x1024_S1024x1024_S2x8192x1024_2_0_01_1_n_n none y wo

theorem back_apply (y : FVec Ideal S2x8192x1024 .f32) (b : Fin 2) (s : Fin 8192) (d : Fin 1024) : back wo y (ix3 b s d) = ∑ j, y (ix3 b s j) * wo (ix2 j d) := by
  unfold back
  pointwise

/-- The rows of all tokens. -/
def rows : FVec Ideal S2x8192x1024 .f32 := addf x (mulf (mods gt) (back wo (mix a h f g wa wh wf)))

/-- Each row is the token's. -/
theorem rows_apply (b : Fin 2) (s : Fin 8192) (d : Fin 1024) : rows x gt a h f g wa wh wf wo (ix3 b s d)
    = Cert.Merge.token (fun k => a (ix3 b s k)) (fun k => h (ix2 ⟨b.val * 8192 + s.val, by omega⟩ k)) (fun k => f (ix2 ⟨b.val * 8192 + s.val, by omega⟩ k))
        (fun k => g (ix2 ⟨b.val * 8192 + s.val, by omega⟩ k)) (fun k j => wa (ix2 k j)) (fun k j => wh (ix2 k j)) (fun k j => wf (ix2 k j))
        (fun k => x (ix3 b s k)) (fun k => gt (ix3 ⟨b.val, by omega⟩ 0 k)) (fun j k => wo (ix2 j k)) d := by
  unfold rows Cert.Merge.token
  simp only [← mix_apply]
  rw [← back_apply wo, ← mods_apply gt b s d]
  rfl

/-- The result, entry by entry: row `R` is token `R % 8192` of sequence `R / 8192`. -/
theorem result_apply (R : Fin 16384) (d : Fin 1024) :
    shapeCast S16384x1024 (rows x gt a h f g wa wh wf wo) shapeCasts_S2x8192x1024_S16384x1024 (ix2 R d) = Cert.Merge.answer x gt a h f g wa wh wf wo R d := by
  refine (shapeCast_apply _ _ _ (ix3 ⟨R.val / 8192, by omega⟩ ⟨R.val % 8192, by omega⟩ d) ?_).trans ?_
  · rw [Shape.rowMajor_val_three, Shape.rowMajor_val_two]
    show (R.val / 8192 * 8192 + R.val % 8192) * 1024 + d.val = R.val * 1024 + d.val
    omega
  · refine (rows_apply _ _ _ _ _ _ _ _ _ _ _ _ _).trans ?_
    have e : (⟨R.val / 8192 * 8192 + R.val % 8192, by omega⟩ : Fin 16384) = R := Fin.ext (by show R.val / 8192 * 8192 + R.val % 8192 = R.val; omega)
    unfold Cert.Merge.answer
    simp only [e]

end Cert.Reference4Ideal.Hand

end
-- ==== Proof.Loop.lean ====
module

public import proofs.«01_k».proof.Proof.Gen.Reference.Frame
public import proofs.«01_k».proof.Proof.Array

/-! # The reference's loop

The reference's region is one loop of 128 trips. Trip `i` writes the `i`-th slab of both results, each a function of the operands'
`i`-th slabs. -/

@[expose] public section

noncomputable section

namespace Cert.Reference.Hand

open Idealize.ShloMosaic Idealize.ShloMosaic.TcCoe Idealize.ShloMosaic.Tactic
open Cert.Reference Cert.Reference.Gen
open Cert.Kernel.Hand (cols)

variable {F : FTy → Type} [BitOps F]

theorem off1 : ∀ k : Fin k0_t1_loop.trips, k0_off1 k = ![k.val, 0, 0] := by decide +kernel
theorem off2 : ∀ k : Fin k0_t1_loop.trips, k0_off2 k = ![k.val, 0, 0] := by decide +kernel
theorem trips_eq : k0_t1_loop.trips = 128 := by decide +kernel

/-- The slab a trip works on. -/
def place (k : Fin k0_t1_loop.trips) : Fin 128 := ⟨k.val, trips_eq ▸ k.isLt⟩

/-- The `i`-th slab of an array, -/
def slab (x : Vec F S128x128x256 .f32) (i : Fin 128) : Vec F S1x128x256 .f32 := fun y => x (ix3 i (y 1) (y 2))

/-- of the norms. -/
def slabn (x : Vec F S128x1x256 .f32) (i : Fin 128) : Vec F S1x1x256 .f32 := fun y => x (ix3 i (y 1) (y 2))

theorem slab_eq (b : Memref sig .tc .vmem S128x128x256 .f32) (h : b.IsWhole) (x : Vec F S128x128x256 .f32) (k : Fin k0_t1_loop.trips) :
    View.readAt (Elt F) b.view (Rect.unit (s := S128x128x256) (k0_off1 k) S1x128x256.size (k0_off1_inb k)).toLoadRect (h.unread x) = slab x (place k) := by
  funext y
  refine (congrFun (h.read_unread x) _).trans (congrArg x ?_)
  have e0 : k0_off1 k 0 = k.val := congrFun (off1 k) 0
  have e1 : k0_off1 k 1 = 0 := congrFun (off1 k) 1
  have e2 : k0_off1 k 2 = 0 := congrFun (off1 k) 2
  ext a; match a with
  | 0 => have h0 : (y 0).val < 1 := (y 0).isLt; show k0_off1 k 0 + 1 * (y 0).val = k.val; omega
  | 1 => show k0_off1 k 1 + 1 * (y 1).val = (y 1).val; omega
  | 2 => show k0_off1 k 2 + 1 * (y 2).val = (y 2).val; omega

theorem slabn_eq (b : Memref sig .tc .vmem S128x1x256 .f32) (h : b.IsWhole) (x : Vec F S128x1x256 .f32) (k : Fin k0_t1_loop.trips) :
    View.readAt (Elt F) b.view (Rect.unit (s := S128x1x256) (k0_off2 k) S1x1x256.size (k0_off2_inb k)).toLoadRect (h.unread x) = slabn x (place k) := by
  funext y
  refine (congrFun (h.read_unread x) _).trans (congrArg x ?_)
  have e0 : k0_off2 k 0 = k.val := congrFun (off2 k) 0
  have e1 : k0_off2 k 1 = 0 := congrFun (off2 k) 1
  have e2 : k0_off2 k 2 = 0 := congrFun (off2 k) 2
  ext a; match a with
  | 0 => have h0 : (y 0).val < 1 := (y 0).isLt; show k0_off2 k 0 + 1 * (y 0).val = k.val; omega
  | 1 => show k0_off2 k 1 + 1 * (y 1).val = (y 1).val; omega
  | 2 => show k0_off2 k 2 + 1 * (y 2).val = (y 2).val; omega

theorem mat_eq0 (b : Memref sig .tc .vmem S2x256x128 .bf16) (h : b.IsWhole) (x : Vec F S2x256x128 .bf16) :
    View.readAt (Elt F) b.view (Rect.unit (s := S2x256x128) ![0, 0, 0] S1x256x128.size inb_S2x256x128_S1x256x128_0_0_0).toLoadRect (h.unread x) = cols x 0 := by
  funext y
  refine (congrFun (h.read_unread x) _).trans (congrArg x ?_)
  ext a; match a with
  | 0 => have h0 : (y 0).val < 1 := (y 0).isLt; show 0 + 1 * (y 0).val = 0; omega
  | 1 => show 0 + 1 * (y 1).val = (y 1).val; omega
  | 2 => show 0 + 1 * (y 2).val = (y 2).val; omega

theorem mat_eq1 (b : Memref sig .tc .vmem S2x256x128 .bf16) (h : b.IsWhole) (x : Vec F S2x256x128 .bf16) :
    View.readAt (Elt F) b.view (Rect.unit (s := S2x256x128) ![1, 0, 0] S1x256x128.size inb_S2x256x128_S1x256x128_1_0_0).toLoadRect (h.unread x) = cols x 1 := by
  funext y
  refine (congrFun (h.read_unread x) _).trans (congrArg x ?_)
  ext a; match a with
  | 0 => have h0 : (y 0).val < 1 := (y 0).isLt; show 1 + 1 * (y 0).val = 1; omega
  | 1 => show 0 + 1 * (y 1).val = (y 1).val; omega
  | 2 => show 0 + 1 * (y 2).val = (y 2).val; omega

section
variable (x0 : Vec F S128x128x256 .f32) (x1 : Vec F S128x128x256 .f32) (x2 : Vec F S128x128x256 .f32) (x3 : Vec F S128x128x256 .f32) (x4 : Vec F S128x1x256 .f32) (x5 : Vec F S2x256x128 .bf16) (x6 : Vec F S2x256x128 .bf16) (x7 : Vec F S128x128x256 .f32) (x8 : Vec F S128x128x256 .f32)

/-- The product with the filter's spectrum in trip `i`: real part, -/
def midRe (i : Fin 128) : FVec F S128x256 .f32 :=
  k0_pay14 (slab x0 i) (slab x1 i) (cols x5 0) (cols x5 1) (slabn x4 i) (slab x2 i) (slab x3 i)

/-- and imaginary part. -/
def midIm (i : Fin 128) : FVec F S128x256 .f32 :=
  k0_pay15 (slab x0 i) (slab x1 i) (cols x5 0) (cols x5 1) (slabn x4 i) (slab x2 i) (slab x3 i)

/-- What trip `i` writes: real part, -/
def outRe (i : Fin 128) : FVec F S1x128x256 .bf16 :=
  k0_pay6 (midRe x0 x1 x2 x3 x4 x5 i) (midIm x0 x1 x2 x3 x4 x5 i) (cols x6 0) (cols x6 1) (slab x7 i) (slab x8 i)

/-- and imaginary part. -/
def outIm (i : Fin 128) : FVec F S1x128x256 .bf16 :=
  k0_pay7 (midRe x0 x1 x2 x3 x4 x5 i) (midIm x0 x1 x2 x3 x4 x5 i) (cols x6 0) (cols x6 1) (slab x7 i) (slab x8 i)

end

section
variable (𝒱 : Variants) (c : Dev nD) (bd : Option 𝒱.V) (arg0 : Memref sig .tc .vmem S128x128x256 .f32) (harg0 : arg0.IsWhole) (arg1 : Memref sig .tc .vmem S128x128x256 .f32) (harg1 : arg1.IsWhole) (arg2 : Memref sig .tc .vmem S128x128x256 .f32) (harg2 : arg2.IsWhole) (arg3 : Memref sig .tc .vmem S128x128x256 .f32) (harg3 : arg3.IsWhole) (arg4 : Memref sig .tc .vmem S128x1x256 .f32) (harg4 : arg4.IsWhole) (arg5 : Memref sig .tc .vmem S2x256x128 .bf16) (harg5 : arg5.IsWhole) (arg6 : Memref sig .tc .vmem S2x256x128 .bf16) (harg6 : arg6.IsWhole) (arg7 : Memref sig .tc .vmem S128x128x256 .f32) (harg7 : arg7.IsWhole) (arg8 : Memref sig .tc .vmem S128x128x256 .f32) (harg8 : arg8.IsWhole) (arg9 : Memref sig .tc .vmem S128x128x256 .bf16) (harg9 : arg9.IsWhole) (arg10 : Memref sig .tc .vmem S128x128x256 .bf16) (harg10 : arg10.IsWhole)
  (x0 : Vec F S128x128x256 .f32) (x1 : Vec F S128x128x256 .f32) (x2 : Vec F S128x128x256 .f32) (x3 : Vec F S128x128x256 .f32) (x4 : Vec F S128x1x256 .f32) (x5 : Vec F S2x256x128 .bf16) (x6 : Vec F S2x256x128 .bf16) (x7 : Vec F S128x128x256 .f32) (x8 : Vec F S128x128x256 .f32) (k : Fin k0_t1_loop.trips)

theorem trip_re : (trip_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k).1 = [⟨Rect.unit (k0_off1 k) S1x128x256.size (k0_off1_inb k), outRe x0 x1 x2 x3 x4 x5 x6 x7 x8 (place k)⟩] := by
  unfold trip_k0_t1
  dsimp only [trip_k0_t1.sl.r, trip_k0_t1.sl.r_1]
  unfold outRe midRe midIm
  rw [← slab_eq arg0 harg0 x0 k, ← slab_eq arg1 harg1 x1 k, ← slab_eq arg2 harg2 x2 k, ← slab_eq arg3 harg3 x3 k, ← slab_eq arg7 harg7 x7 k, ← slab_eq arg8 harg8 x8 k, ← slabn_eq arg4 harg4 x4 k, ← mat_eq0 arg5 harg5 x5, ← mat_eq1 arg5 harg5 x5, ← mat_eq0 arg6 harg6 x6, ← mat_eq1 arg6 harg6 x6]

theorem trip_im : (trip_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k).2.1 = [⟨Rect.unit (k0_off1 k) S1x128x256.size (k0_off1_inb k), outIm x0 x1 x2 x3 x4 x5 x6 x7 x8 (place k)⟩] := by
  unfold trip_k0_t1
  dsimp only [trip_k0_t1.sl.r, trip_k0_t1.sl.r_1]
  unfold outIm midRe midIm
  rw [← slab_eq arg0 harg0 x0 k, ← slab_eq arg1 harg1 x1 k, ← slab_eq arg2 harg2 x2 k, ← slab_eq arg3 harg3 x3 k, ← slab_eq arg7 harg7 x7 k, ← slab_eq arg8 harg8 x8 k, ← slabn_eq arg4 harg4 x4 k, ← mat_eq0 arg5 harg5 x5, ← mat_eq1 arg5 harg5 x5, ← mat_eq0 arg6 harg6 x6, ← mat_eq1 arg6 harg6 x6]

theorem step_re (p : View.Piece (Elt F) S128x128x256 .bf16)
    (h : p ∈ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) (k.val + 1)).1) :
    p = ⟨Rect.unit (k0_off1 k) S1x128x256.size (k0_off1_inb k), outRe x0 x1 x2 x3 x4 x5 x6 x7 x8 (place k)⟩ ∨ p ∈ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k.val).1 := by
  have e : (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) (k.val + 1)).1
      = (trip_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k).1 ++ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k.val).1 := by
    rw [pb_k0_t1_succ, tripL_k0_t1]
  rw [e, trip_re] at h
  exact (List.mem_append.mp h).imp List.mem_singleton.mp id

theorem pb_re (p : View.Piece (Elt F) S128x128x256 .bf16) (n : ℕ) (hn : n ≤ k0_t1_loop.trips)
    (h : p ∈ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) n).1) : ∃ k, p = ⟨Rect.unit (k0_off1 k) S1x128x256.size (k0_off1_inb k), outRe x0 x1 x2 x3 x4 x5 x6 x7 x8 (place k)⟩ := by
  induction n with
  | zero => exact absurd h List.not_mem_nil
  | succ n ih => exact (step_re 𝒱 c bd arg0 harg0 arg1 harg1 arg2 harg2 arg3 harg3 arg4 harg4 arg5 harg5 arg6 harg6 arg7 harg7 arg8 harg8 arg9 harg9 arg10 harg10 x0 x1 x2 x3 x4 x5 x6 x7 x8 ⟨n, hn⟩ p h).elim (fun e => ⟨_, e⟩) (ih (Nat.le_of_succ_le hn))

theorem step_im (p : View.Piece (Elt F) S128x128x256 .bf16)
    (h : p ∈ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) (k.val + 1)).2) :
    p = ⟨Rect.unit (k0_off1 k) S1x128x256.size (k0_off1_inb k), outIm x0 x1 x2 x3 x4 x5 x6 x7 x8 (place k)⟩ ∨ p ∈ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k.val).2 := by
  have e : (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) (k.val + 1)).2
      = (trip_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k).2.1 ++ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k.val).2 := by
    rw [pb_k0_t1_succ, tripL_k0_t1]
  rw [e, trip_im] at h
  exact (List.mem_append.mp h).imp List.mem_singleton.mp id

theorem pb_im (p : View.Piece (Elt F) S128x128x256 .bf16) (n : ℕ) (hn : n ≤ k0_t1_loop.trips)
    (h : p ∈ (pb_k0_t1 (F := F) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) n).2) : ∃ k, p = ⟨Rect.unit (k0_off1 k) S1x128x256.size (k0_off1_inb k), outIm x0 x1 x2 x3 x4 x5 x6 x7 x8 (place k)⟩ := by
  induction n with
  | zero => exact absurd h List.not_mem_nil
  | succ n ih => exact (step_im 𝒱 c bd arg0 harg0 arg1 harg1 arg2 harg2 arg3 harg3 arg4 harg4 arg5 harg5 arg6 harg6 arg7 harg7 arg8 harg8 arg9 harg9 arg10 harg10 x0 x1 x2 x3 x4 x5 x6 x7 x8 ⟨n, hn⟩ p h).elim (fun e => ⟨_, e⟩) (ih (Nat.le_of_succ_le hn))

end

section
variable (c : Dev nD) (arg0 : Memref sig .tc .vmem S128x128x256 .f32) (harg0 : arg0.IsWhole) (arg1 : Memref sig .tc .vmem S128x128x256 .f32) (harg1 : arg1.IsWhole) (arg2 : Memref sig .tc .vmem S128x128x256 .f32) (harg2 : arg2.IsWhole) (arg3 : Memref sig .tc .vmem S128x128x256 .f32) (harg3 : arg3.IsWhole) (arg4 : Memref sig .tc .vmem S128x1x256 .f32) (harg4 : arg4.IsWhole) (arg5 : Memref sig .tc .vmem S2x256x128 .bf16) (harg5 : arg5.IsWhole) (arg6 : Memref sig .tc .vmem S2x256x128 .bf16) (harg6 : arg6.IsWhole) (arg7 : Memref sig .tc .vmem S128x128x256 .f32) (harg7 : arg7.IsWhole) (arg8 : Memref sig .tc .vmem S128x128x256 .f32) (harg8 : arg8.IsWhole) (arg9 : Memref sig .tc .vmem S128x128x256 .bf16) (harg9 : arg9.IsWhole) (arg10 : Memref sig .tc .vmem S128x128x256 .bf16) (harg10 : arg10.IsWhole)
  (x0 : Vec F S128x128x256 .f32) (x1 : Vec F S128x128x256 .f32) (x2 : Vec F S128x128x256 .f32) (x3 : Vec F S128x128x256 .f32) (x4 : Vec F S128x1x256 .f32) (x5 : Vec F S2x256x128 .bf16) (x6 : Vec F S2x256x128 .bf16) (x7 : Vec F S128x128x256 .f32) (x8 : Vec F S128x128x256 .f32)

theorem run_re : (kernelRun0_A c arg0 harg0 arg1 harg1 arg2 harg2 arg3 harg3 arg4 harg4 arg5 harg5 arg6 harg6 arg7 harg7 arg8 harg8 arg9 harg9 arg10 harg10 x0 x1 x2 x3 x4 x5 x6 x7 x8).1 = (pb_k0_t1 (F := F) Variants.none c none arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k0_t1_loop.trips).1 := by
  unfold kernelRun0_A
  dsimp only

/-- The region's first result at an index. -/
theorem region_re (y : S128x128x256.Idx) :
    out0_A_9 c arg0 harg0 arg1 harg1 arg2 harg2 arg3 harg3 arg4 harg4 arg5 harg5 arg6 harg6 arg7 harg7 arg8 harg8 arg9 harg9 arg10 harg10 x0 x1 x2 x3 x4 x5 x6 x7 x8 y = outRe x0 x1 x2 x3 x4 x5 x6 x7 x8 (y 0) (ix3 0 (y 1) (y 2)) := by
  unfold out0_A_9
  refine View.read_writes_apply_of_pieces VO0_9 VO0_9.junk (fun y => outRe x0 x1 x2 x3 x4 x5 x6 x7 x8 (y 0) (ix3 0 (y 1) (y 2))) _ ?_ y
    (cover0_A_9 c arg0 harg0 arg1 harg1 arg2 harg2 arg3 harg3 arg4 harg4 arg5 harg5 arg6 harg6 arg7 harg7 arg8 harg8 arg9 harg9 arg10 harg10 x0 x1 x2 x3 x4 x5 x6 x7 x8 y)
  intro p hp z
  rw [run_re] at hp
  obtain ⟨k, rfl⟩ := pb_re Variants.none c none arg0 harg0 arg1 harg1 arg2 harg2 arg3 harg3 arg4 harg4 arg5 harg5 arg6 harg6 arg7 harg7 arg8 harg8 arg9 harg9 arg10 harg10 x0 x1 x2 x3 x4 x5 x6 x7 x8 p _ le_rfl hp
  have z0 : (z 0).val < 1 := (z 0).isLt
  have e0 : @Eq (Fin 128) ((Rect.unit (s := S128x128x256) (k0_off1 k) S1x128x256.size (k0_off1_inb k)).emb z 0) (place k) := by
    have e : k0_off1 k 0 = k.val := congrFun (off1 k) 0
    ext; show k0_off1 k 0 + 1 * (z 0).val = k.val; omega
  have e1 : @Eq (Fin 128) ((Rect.unit (s := S128x128x256) (k0_off1 k) S1x128x256.size (k0_off1_inb k)).emb z 1) (z 1) := by
    have e : k0_off1 k 1 = 0 := congrFun (off1 k) 1
    ext; show k0_off1 k 1 + 1 * (z 1).val = (z 1).val; omega
  have e2 : @Eq (Fin 256) ((Rect.unit (s := S128x128x256) (k0_off1 k) S1x128x256.size (k0_off1_inb k)).emb z 2) (z 2) := by
    have e : k0_off1 k 2 = 0 := congrFun (off1 k) 2
    ext; show k0_off1 k 2 + 1 * (z 2).val = (z 2).val; omega
  have ez : z = ix3 (0 : Fin 1) (z 1) (z 2) := by
    ext a; match a with
    | 0 => show (z 0).val = 0; omega
    | 1 => rfl
    | 2 => rfl
  show outRe x0 x1 x2 x3 x4 x5 x6 x7 x8 (place k) z = outRe x0 x1 x2 x3 x4 x5 x6 x7 x8 ((Rect.unit (s := S128x128x256) (k0_off1 k) S1x128x256.size (k0_off1_inb k)).emb z 0) _
  rw [e0]
  refine congrArg _ (ez.trans ?_)
  exact (congrArg₂ (ix3 (0 : Fin 1)) e1 e2).symm

theorem run_im : (kernelRun0_A c arg0 harg0 arg1 harg1 arg2 harg2 arg3 harg3 arg4 harg4 arg5 harg5 arg6 harg6 arg7 harg7 arg8 harg8 arg9 harg9 arg10 harg10 x0 x1 x2 x3 x4 x5 x6 x7 x8).2.1 = (pb_k0_t1 (F := F) Variants.none c none arg0 harg0 arg1 harg1 arg2 harg2 arg3 harg3 arg4 harg4 arg5 harg5 arg6 harg6 arg7 harg7 arg8 harg8 arg9 harg9 arg10 harg10 (harg0.unread x0) (harg1.unread x1) (harg2.unread x2) (harg3.unread x3) (harg4.unread x4) (harg5.unread x5) (harg6.unread x6) (harg7.unread x7) (harg8.unread x8) k0_t1_loop.trips).2 := by
  unfold kernelRun0_A
  dsimp only

/-- The region's second result at an index. -/
theorem region_im (y : S128x128x256.Idx) :
    out0_A_10 c arg0 harg0 arg1 harg1 arg2 harg2 arg3 harg3 arg4 harg4 arg5 harg5 arg6 harg6 arg7 harg7 arg8 harg8 arg9 harg9 arg10 harg10 x0 x1 x2 x3 x4 x5 x6 x7 x8 y = outIm x0 x1 x2 x3 x4 x5 x6 x7 x8 (y 0) (ix3 0 (y 1) (y 2)) := by
  unfold out0_A_10
  refine View.read_writes_apply_of_pieces VO0_10 VO0_10.junk (fun y => outIm x0 x1 x2 x3 x4 x5 x6 x7 x8 (y 0) (ix3 0 (y 1) (y 2))) _ ?_ y
    (cover0_A_10 c arg0 harg0 arg1 harg1 arg2 harg2 arg3 harg3 arg4 harg4 arg5 harg5 arg6 harg6 arg7 harg7 arg8 harg8 arg9 harg9 arg10 harg10 x0 x1 x2 x3 x4 x5 x6 x7 x8 y)
  intro p hp z
  rw [run_im] at hp
  obtain ⟨k, rfl⟩ := pb_im Variants.none c none arg0 harg0 arg1 harg1 arg2 harg2 arg3 harg3 arg4 harg4 arg5 harg5 arg6 harg6 arg7 harg7 arg8 harg8 arg9 harg9 arg10 harg10 x0 x1 x2 x3 x4 x5 x6 x7 x8 p _ le_rfl hp
  have z0 : (z 0).val < 1 := (z 0).isLt
  have e0 : @Eq (Fin 128) ((Rect.unit (s := S128x128x256) (k0_off1 k) S1x128x256.size (k0_off1_inb k)).emb z 0) (place k) := by
    have e : k0_off1 k 0 = k.val := congrFun (off1 k) 0
    ext; show k0_off1 k 0 + 1 * (z 0).val = k.val; omega
  have e1 : @Eq (Fin 128) ((Rect.unit (s := S128x128x256) (k0_off1 k) S1x128x256.size (k0_off1_inb k)).emb z 1) (z 1) := by
    have e : k0_off1 k 1 = 0 := congrFun (off1 k) 1
    ext; show k0_off1 k 1 + 1 * (z 1).val = (z 1).val; omega
  have e2 : @Eq (Fin 256) ((Rect.unit (s := S128x128x256) (k0_off1 k) S1x128x256.size (k0_off1_inb k)).emb z 2) (z 2) := by
    have e : k0_off1 k 2 = 0 := congrFun (off1 k) 2
    ext; show k0_off1 k 2 + 1 * (z 2).val = (z 2).val; omega
  have ez : z = ix3 (0 : Fin 1) (z 1) (z 2) := by
    ext a; match a with
    | 0 => show (z 0).val = 0; omega
    | 1 => rfl
    | 2 => rfl
  show outIm x0 x1 x2 x3 x4 x5 x6 x7 x8 (place k) z = outIm x0 x1 x2 x3 x4 x5 x6 x7 x8 ((Rect.unit (s := S128x128x256) (k0_off1 k) S1x128x256.size (k0_off1_inb k)).emb z 0) _
  rw [e0]
  refine congrArg _ (ez.trans ?_)
  exact (congrArg₂ (ix3 (0 : Fin 1)) e1 e2).symm

end

end Cert.Reference.Hand
-- ==== Proof.Meaning.lean ====
module

public import proofs.«01_k».proof.Proof.Loop

/-! # A trip of the reference's loop computes a pair of rows

The reference lays the rows `2 p` and `2 p + 1` side by side in one slab of 256 lanes. If its operands' slabs hold the numbers the
kernel unpacks from its words, then the slab it writes holds, lane by lane, the numbers the kernel packs. -/

@[expose] public section

noncomputable section

namespace Cert.Reference.Hand

open Idealize.ShloMosaic Idealize.ShloMosaic.TcCoe Idealize.ShloMosaic.Tactic
open Cert.Reference Cert.Reference.Gen
open Cert.Kernel.Hand (cols prods re im lanes inv scaled specRe specIm beside pair)

variable {F : FTy → Type} [BitOps F]

/-- Lane `l` of the left or the right half of a slab. -/
def lane (u : Fin 2) (l : Fin 128) : Fin 256 := ⟨u.val * 128 + l.val, by omega⟩

theorem lane_eq (w : Fin 256) : ∃ u l, w = lane u l :=
  ⟨⟨w.val / 128, by omega⟩, ⟨w.val % 128, by omega⟩, Fin.ext (by show w.val = w.val / 128 * 128 + w.val % 128; omega)⟩

theorem beside_apply (x : Fin 2 → FVec F S128x128 .f32) (r : Fin 128) (u : Fin 2) (l : Fin 128) :
    beside (x 0) (x 1) (ix2 r (lane u l)) = FloatOps.truncf .bf16 bitsLt_bf16_f32 (x u (ix2 r l)) := by
  unfold beside
  match u with
  | 0 =>
    refine (concatenate_pair_apply_left (1 : Fin S128x256.rank) (truncf .bf16 (x 0) bitsLt_bf16_f32) (truncf .bf16 (x 1) bitsLt_bf16_f32) _ _ rfl (ix2 r l) ?_).trans rfl
    intro b; match b with
    | 0 => rfl
    | 1 => show l.val = 0 * 128 + l.val; omega
  | 1 =>
    refine (concatenate_pair_apply_right (1 : Fin S128x256.rank) (truncf .bf16 (x 0) bitsLt_bf16_f32) (truncf .bf16 (x 1) bitsLt_bf16_f32) _ _ rfl rfl (ix2 r l) ?_ ?_).trans rfl
    · intro b hb; match b with
      | 0 => rfl
      | 1 => exact absurd rfl hb
    · show l.val + 128 = 1 * 128 + l.val; omega

/-- A slab that holds two rows side by side is, rounded, the kernel's joined operand. -/
theorem beside_of (v : FVec F S128x256 .f32) (x : Fin 2 → FVec F S128x128 .f32)
    (h : ∀ r u l, v (ix2 r (lane u l)) = x u (ix2 r l)) : truncf .bf16 v bitsLt_bf16_f32 = beside (x 0) (x 1) := by
  funext y
  obtain ⟨r, w, rfl⟩ : ∃ r w, y = ix2 r w := ⟨y 0, y 1, by ext a; fin_cases a <;> rfl⟩
  obtain ⟨u, l, rfl⟩ := lane_eq w
  rw [beside_apply]
  exact congrArg (fun z => FloatOps.truncf .bf16 bitsLt_bf16_f32 z) (h r u l)

theorem slab_apply (x : Vec F S128x128x256 .f32) (i r : Fin 128) (w : Fin 256) :
    shapeCast S128x256 (slab x i) shapeCasts_S1x128x256_S128x256 (ix2 r w) = x (ix3 i r w) := by
  refine (shapeCast_apply _ _ _ (ix3 (0 : Fin 1) r w) ?_).trans rfl
  rw [Shape.rowMajor_val_three, Shape.rowMajor_val_two]
  show (0 * 128 + r.val) * 256 + w.val = r.val * 256 + w.val
  omega

theorem lanes_apply (a : FVec F S256x256 .f32) (r : Fin 256) (u : Fin 2) (l : Fin 128) :
    Cert.Kernel.Hand.lanes u a (ix2 r l) = a (ix2 r (lane u l)) := by
  match u with
  | 0 =>
    refine extractStridedSlice_apply _ _ Cert.Kernel.Gen.slices_S256x256_o0_0_S256x128 _ (ix2 r (lane 0 l)) fun b => ?_
    match b with
    | 0 => show r.val = 0 + r.val; omega
    | 1 => show 0 * 128 + l.val = 0 + l.val; omega
  | 1 =>
    refine extractStridedSlice_apply _ _ Cert.Kernel.Gen.slices_S256x256_o0_128_S256x128 _ (ix2 r (lane 1 l)) fun b => ?_
    match b with
    | 0 => show r.val = 0 + r.val; omega
    | 1 => show 1 * 128 + l.val = 128 + l.val; omega

theorem re_apply (a : FVec F S256x256 .f32) (r : Fin 128) (u : Fin 2) (l : Fin 128) :
    extractStridedSlice S128x256 ![0, 0] a slices_S256x256_o0_0_S128x256 (ix2 r (lane u l)) = re u a (ix2 r l) := by
  have hr : r.val < 256 := by omega
  refine (extractStridedSlice_apply _ _ _ _ (ix2 (⟨r.val, hr⟩ : Fin 256) (lane u l)) fun b => ?_).trans
    ((lanes_apply a ⟨r.val, hr⟩ u l).symm.trans (extractStridedSlice_apply _ _ _ _ (ix2 (⟨r.val, hr⟩ : Fin 256) l) fun b => ?_).symm)
  · match b with
    | 0 => show r.val = 0 + r.val; omega
    | 1 => show (lane u l).val = 0 + (lane u l).val; omega
  · match b with
    | 0 => show r.val = 0 + r.val; omega
    | 1 => show l.val = 0 + l.val; omega

theorem im_apply (a : FVec F S256x256 .f32) (r : Fin 128) (u : Fin 2) (l : Fin 128) :
    extractStridedSlice S128x256 ![128, 0] a slices_S256x256_o128_0_S128x256 (ix2 r (lane u l)) = im u a (ix2 r l) := by
  have hr : 128 + r.val < 256 := by omega
  refine (extractStridedSlice_apply _ _ _ _ (ix2 (⟨128 + r.val, hr⟩ : Fin 256) (lane u l)) fun b => ?_).trans
    ((lanes_apply a ⟨128 + r.val, hr⟩ u l).symm.trans (extractStridedSlice_apply _ _ _ _ (ix2 (⟨128 + r.val, hr⟩ : Fin 256) l) fun b => ?_).symm)
  · match b with
    | 0 => rfl
    | 1 => show (lane u l).val = 0 + (lane u l).val; omega
  · match b with
    | 0 => rfl
    | 1 => show l.val = 0 + l.val; omega

variable (x0 x1 x2 x3 : Vec F S128x128x256 .f32) (x4 : Vec F S128x1x256 .f32) (x5 x6 : Vec F S2x256x128 .bf16) (x7 x8 : Vec F S128x128x256 .f32)

/-- The slabs of trip `i` hold the numbers of the words of two rows `a`, the filter's words `k`, the norms `n` and the twiddle factors `t`. -/
structure Holds (i : Fin 128) (a k : Fin 2 → IVec S128x128 32) (n : Vec F Cert.Kernel.S1x128 .f32)
    (t : Fin 2 → FVec F S128x128 .f32 × FVec F S128x128 .f32) : Prop where
  re : ∀ r u l, x0 (ix3 i r (lane u l)) = unpackElementwise (F := F) 0 (a u) (by decide) (ix2 r l)
  im : ∀ r u l, x1 (ix3 i r (lane u l)) = unpackElementwise (F := F) 1 (a u) (by decide) (ix2 r l)
  kre : ∀ r u l, x2 (ix3 i r (lane u l)) = unpackElementwise (F := F) 0 (k u) (by decide) (ix2 r l)
  kim : ∀ r u l, x3 (ix3 i r (lane u l)) = unpackElementwise (F := F) 1 (k u) (by decide) (ix2 r l)
  norm : ∀ u l, x4 (ix3 i 0 (lane u l)) = n (ix2 0 l)
  cos : ∀ r u l, x7 (ix3 i r (lane u l)) = (t u).1 (ix2 r l)
  sin : ∀ r u l, x8 (ix3 i r (lane u l)) = (t u).2 (ix2 r l)

variable {x0 x1 x2 x3 x4 x7 x8} {i : Fin 128} {a k : Fin 2 → IVec S128x128 32} {n : Vec F Cert.Kernel.S1x128 .f32}
  {t : Fin 2 → FVec F S128x128 .f32 × FVec F S128x128 .f32}

/-- The first products. -/
theorem first (H : Holds x0 x1 x2 x3 x4 x7 x8 i a k n t) : k0_pay8 (slab x0 i) (slab x1 i) (cols x5 0) (cols x5 1)
    = prods (cols x5 0) (cols x5 1) (beside (unpackElementwise 0 (a 0)) (unpackElementwise 0 (a 1))) (beside (unpackElementwise 1 (a 0)) (unpackElementwise 1 (a 1))) := by
  rw [← beside_of (shapeCast S128x256 (slab x0 i) shapeCasts_S1x128x256_S128x256) (fun u => unpackElementwise 0 (a u)) fun r u l => (slab_apply x0 i r _).trans (H.re r u l),
    ← beside_of (shapeCast S128x256 (slab x1 i) shapeCasts_S1x128x256_S128x256) (fun u => unpackElementwise 1 (a u)) fun r u l => (slab_apply x1 i r _).trans (H.im r u l)]
  rfl

theorem norm_apply (x : Vec F S128x1x256 .f32) (i : Fin 128) (w : Fin 256) : shapeCast S1x256 (slabn x i) shapeCasts_S1x1x256_S1x256 (ix2 0 w) = x (ix3 i 0 w) := by
  refine (shapeCast_apply _ _ _ (ix3 (0 : Fin 1) (0 : Fin 1) w) ?_).trans rfl
  rw [Shape.rowMajor_val_three, Shape.rowMajor_val_two]
  show (0 * 1 + 0) * 256 + w.val = 0 * 256 + w.val
  omega

theorem broad (x : FVec F S1x256 .f32) (r : Fin 128) (w : Fin 256) : broadcastTo S128x256 x broadcasts_S1x256_S128x256 (ix2 r w) = x (ix2 0 w) := by
  pointwise

theorem scaled_apply (m : FVec F Cert.Kernel.S1x128 .f32) (q : FVec F S128x128 .f32) (r l : Fin 128) :
    scaled m q (ix2 r l) = FloatOps.mulf (q (ix2 r l)) (m (ix2 0 l)) := by
  unfold scaled; pointwise

theorem scale_re (H : Holds x0 x1 x2 x3 x4 x7 x8 i a k n t) (r : Fin 128) (u : Fin 2) (l : Fin 128) :
    k0_pay12 (slabn x4 i) (slab x2 i) (ix2 r (lane u l)) = scaled (inv n) (unpackElementwise 0 (k u)) (ix2 r l) := by
  rw [scaled_apply]
  refine congrArg₂ FloatOps.mulf ((slab_apply x2 i r _).trans (H.kre r u l)) ((broad _ r _).trans ?_)
  exact congrArg (FloatOps.divf _) ((norm_apply x4 i _).trans (H.norm u l))

theorem scale_im (H : Holds x0 x1 x2 x3 x4 x7 x8 i a k n t) (r : Fin 128) (u : Fin 2) (l : Fin 128) :
    k0_pay13 (slabn x4 i) (slab x3 i) (ix2 r (lane u l)) = scaled (inv n) (unpackElementwise 1 (k u)) (ix2 r l) := by
  rw [scaled_apply]
  refine congrArg₂ FloatOps.mulf ((slab_apply x3 i r _).trans (H.kim r u l)) ((broad _ r _).trans ?_)
  exact congrArg (FloatOps.divf _) ((norm_apply x4 i _).trans (H.norm u l))

theorem mid_re (H : Holds x0 x1 x2 x3 x4 x7 x8 i a k n t) (r : Fin 128) (u : Fin 2) (l : Fin 128) :
    midRe x0 x1 x2 x3 x4 x5 i (ix2 r (lane u l))
      = specRe (inv n) u (prods (cols x5 0) (cols x5 1) (beside (unpackElementwise 0 (a 0)) (unpackElementwise 0 (a 1))) (beside (unpackElementwise 1 (a 0)) (unpackElementwise 1 (a 1)))) (k u) (ix2 r l) := by
  unfold midRe k0_pay14 k0_pay9 k0_pay10
  rw [first x5 H]
  exact congrArg₂ FloatOps.subf (congrArg₂ FloatOps.mulf (re_apply _ r u l) (scale_re H r u l)) (congrArg₂ FloatOps.mulf (im_apply _ r u l) (scale_im H r u l))

theorem mid_im (H : Holds x0 x1 x2 x3 x4 x7 x8 i a k n t) (r : Fin 128) (u : Fin 2) (l : Fin 128) :
    midIm x0 x1 x2 x3 x4 x5 i (ix2 r (lane u l))
      = specIm (inv n) u (prods (cols x5 0) (cols x5 1) (beside (unpackElementwise 0 (a 0)) (unpackElementwise 0 (a 1))) (beside (unpackElementwise 1 (a 0)) (unpackElementwise 1 (a 1)))) (k u) (ix2 r l) := by
  unfold midIm k0_pay15 k0_pay9 k0_pay10
  rw [first x5 H]
  exact congrArg₂ FloatOps.addf (congrArg₂ FloatOps.mulf (re_apply _ r u l) (scale_im H r u l)) (congrArg₂ FloatOps.mulf (im_apply _ r u l) (scale_re H r u l))

/-- The second products: the kernel's. -/
theorem second (H : Holds x0 x1 x2 x3 x4 x7 x8 i a k n t) :
    k0_pay1 (midRe x0 x1 x2 x3 x4 x5 i) (midIm x0 x1 x2 x3 x4 x5 i) (cols x6 0) (cols x6 1)
      = pair (cols x5 0) (cols x5 1) (cols x6 0) (cols x6 1) (inv n) (a 0) (a 1) (k 0) (k 1) := by
  unfold pair
  dsimp only
  rw [← beside_of _ (fun u => specRe (inv n) u _ (k u)) (mid_re x5 H), ← beside_of _ (fun u => specIm (inv n) u _ (k u)) (mid_im x5 H)]
  rfl

theorem slab_cast (x : FVec F S128x256 .bf16) (r : Fin 128) (w : Fin 256) :
    shapeCast S1x128x256 x shapeCasts_S128x256_S1x128x256 (ix3 0 r w) = x (ix2 r w) := by
  refine shapeCast_apply _ _ _ (ix2 r w) ?_
  rw [Shape.rowMajor_val_three, Shape.rowMajor_val_two]
  show r.val * 256 + w.val = (0 * 128 + r.val) * 256 + w.val
  omega

/-- The trip writes what the kernel packs low, -/
theorem out_re (H : Holds x0 x1 x2 x3 x4 x7 x8 i a k n t) (r : Fin 128) (u : Fin 2) (l : Fin 128) :
    outRe x0 x1 x2 x3 x4 x5 x6 x7 x8 i (ix3 0 r (lane u l))
      = truncf .bf16 (subf (mulf (re u (pair (cols x5 0) (cols x5 1) (cols x6 0) (cols x6 1) (inv n) (a 0) (a 1) (k 0) (k 1))) (t u).1)
          (mulf (im u (pair (cols x5 0) (cols x5 1) (cols x6 0) (cols x6 1) (inv n) (a 0) (a 1) (k 0) (k 1))) (t u).2)) bitsLt_bf16_f32 (ix2 r l) := by
  unfold outRe k0_pay6 k0_pay2 k0_pay3
  rw [second x5 x6 H]
  refine (slab_cast _ r _).trans (congrArg (FloatOps.truncf .bf16 bitsLt_bf16_f32) ?_)
  exact congrArg₂ FloatOps.subf (congrArg₂ FloatOps.mulf (re_apply _ r u l) ((slab_apply x7 i r _).trans (H.cos r u l)))
    (congrArg₂ FloatOps.mulf (im_apply _ r u l) ((slab_apply x8 i r _).trans (H.sin r u l)))

/-- and what it packs high. -/
theorem out_im (H : Holds x0 x1 x2 x3 x4 x7 x8 i a k n t) (r : Fin 128) (u : Fin 2) (l : Fin 128) :
    outIm x0 x1 x2 x3 x4 x5 x6 x7 x8 i (ix3 0 r (lane u l))
      = truncf .bf16 (addf (mulf (re u (pair (cols x5 0) (cols x5 1) (cols x6 0) (cols x6 1) (inv n) (a 0) (a 1) (k 0) (k 1))) (t u).2)
          (mulf (im u (pair (cols x5 0) (cols x5 1) (cols x6 0) (cols x6 1) (inv n) (a 0) (a 1) (k 0) (k 1))) (t u).1)) bitsLt_bf16_f32 (ix2 r l) := by
  unfold outIm k0_pay7 k0_pay2 k0_pay3
  rw [second x5 x6 H]
  refine (slab_cast _ r _).trans (congrArg (FloatOps.truncf .bf16 bitsLt_bf16_f32) ?_)
  exact congrArg₂ FloatOps.addf (congrArg₂ FloatOps.mulf (re_apply _ r u l) ((slab_apply x8 i r _).trans (H.sin r u l)))
    (congrArg₂ FloatOps.mulf (im_apply _ r u l) ((slab_apply x7 i r _).trans (H.cos r u l)))

/-- The two together are the kernel's word. -/
theorem word (H : Holds x0 x1 x2 x3 x4 x7 x8 i a k n t) (r : Fin 128) (u : Fin 2) (l : Fin 128) :
    BitOps.toBits (outIm x0 x1 x2 x3 x4 x5 x6 x7 x8 i (ix3 0 r (lane u l))) ++ BitOps.toBits (outRe x0 x1 x2 x3 x4 x5 x6 x7 x8 i (ix3 0 r (lane u l)))
      = Cert.Kernel.Hand.packed (t u) u (pair (cols x5 0) (cols x5 1) (cols x6 0) (cols x6 1) (inv n) (a 0) (a 1) (k 0) (k 1)) (ix2 r l) := by
  rw [out_re x5 x6 H, out_im x5 x6 H]
  rfl

end Cert.Reference.Hand
-- ==== Proof.Reads.lean ====
module

public import Idealize.ShloMosaic.Lib.StableHlo.RunRead
public import Idealize.ShloMosaic.Lib.Pipeline.Frame

/-! # Reading a line of host operations at its end

In a line in which every buffer is written once and read only after that, what the line leaves in the buffer an operation writes is
that operation's function of what the line leaves in the buffers it reads. -/

@[expose] public section

noncomputable section

namespace Cert.Hand

open Idealize.ShloMosaic Idealize.ShloMosaic.StableHlo

variable {τ : Topo} {sig : RefSig} {Val : EltTy → Type}

/-- The line cut after its first `n` operations. -/
theorem cut (ops : List (HloOp τ sig Val)) (V : Valuation τ sig Val) (n : ℕ) : after ops V = after (ops.drop n) (upto ops V n) := by
  conv_lhs => rw [← List.take_append_drop n ops, after_append]
  rfl

variable {ops : List (HloOp τ sig Val)} {W : List (Ref sig .tc)} (V : Valuation τ sig Val)

/-- What no operation from the `i`-th on writes is settled before it. -/
theorem settled (hW : ops.map HloOp.writes = W.map fun w => {Proc.devRef (τ := τ) .tc w}) (i : ℕ) {r : Ref sig .tc} (h : r ∉ W.drop i) :
    upto ops V i (Proc.devRef .tc r) = after ops V (Proc.devRef .tc r) := by
  rw [cut ops V i]
  exact (after_unwritten (W.drop i) (by rw [List.map_drop, List.map_drop, hW]) h _).symm

/-- An operation's buffer holds its result. -/
theorem written (hW : ops.map HloOp.writes = W.map fun w => {Proc.devRef (τ := τ) .tc w}) (i : ℕ) {op : HloOp τ sig Val} (ho : ops[i]? = some op)
    {r : Ref sig .tc} (h : r ∉ W.drop (i + 1)) : after ops V (Proc.devRef .tc r) = op.result (upto ops V i) (Proc.devRef .tc r) := by
  obtain ⟨hi, rfl⟩ := List.getElem?_eq_some_iff.mp ho
  exact after_last_write (W.drop (i + 1)) (List.drop_eq_getElem_cons hi) (by rw [List.map_drop, List.map_drop, hW]) h V

theorem un (hW : ops.map HloOp.writes = W.map fun w => {Proc.devRef (τ := τ) .tc w}) (i : ℕ) {x y : Ref sig .tc} {f : x.ty.Contents Val → y.ty.Contents Val}
    {hx hy} (ho : ops[i]? = some (unary x y f hx hy)) (nx : x ∉ W.drop i) (ny : y ∉ W.drop (i + 1)) :
    after ops V (Proc.devRef .tc y) = f (after ops V (Proc.devRef .tc x)) := by
  rw [written V hW i ho ny, unary_result, settled V hW i nx]

theorem bin (hW : ops.map HloOp.writes = W.map fun w => {Proc.devRef (τ := τ) .tc w}) (i : ℕ) {a b y : Ref sig .tc}
    {f : a.ty.Contents Val → b.ty.Contents Val → y.ty.Contents Val}
    {ha hb hy} (ho : ops[i]? = some (binary a b y f ha hb hy)) (na : a ∉ W.drop i) (nb : b ∉ W.drop i) (ny : y ∉ W.drop (i + 1)) :
    after ops V (Proc.devRef .tc y) = f (after ops V (Proc.devRef .tc a)) (after ops V (Proc.devRef .tc b)) := by
  rw [written V hW i ho ny, binary_result, settled V hW i na, settled V hW i nb]

theorem many (hW : ops.map HloOp.writes = W.map fun w => {Proc.devRef (τ := τ) .tc w}) (i : ℕ) {n : ℕ} {xs : Fin n → Ref sig .tc} {y : Ref sig .tc}
    {f : ((k : Fin n) → (xs k).ty.Contents Val) → y.ty.Contents Val}
    {hxs hy} (ho : ops[i]? = some (nary xs y f hxs hy)) (nx : ∀ k, xs k ∉ W.drop i) (ny : y ∉ W.drop (i + 1)) :
    after ops V (Proc.devRef .tc y) = f (fun k => after ops V (Proc.devRef .tc (xs k))) := by
  rw [written V hW i ho ny, nary_result]
  exact congrArg f (funext fun k => settled V hW i (nx k))

theorem resh (hW : ops.map HloOp.writes = W.map fun w => {Proc.devRef (τ := τ) .tc w}) (i : ℕ) {x y : Ref sig .tc}
    {he hn hx hy} (ho : ops[i]? = some (reshape (Val := Val) x y he hn hx hy)) (nx : x ∉ W.drop i) (ny : y ∉ W.drop (i + 1)) :
    after ops V (Proc.devRef .tc y) = fun j => he ▸ shapeCast y.ty.shape (after ops V (Proc.devRef .tc x)) hn j := by
  rw [written V hW i ho ny, reshape_result, settled V hW i nx]

end Cert.Hand
-- ==== Proof.Tail.lean ====
module

public import proofs.«01_k».proof.Proof.Meaning
public import proofs.«01_k».proof.Proof.Reads
public import Idealize.ShloMosaic.Lib.BitcastConvert
public import Idealize.ShloMosaic.Lib.ValueIdxRank6

/-! # The reference's lines after its region

They lay the two halves of every word next to one another, bring the rows into order and read each pair as one word. -/

@[expose] public section

noncomputable section

namespace Cert.Reference.Hand

open Idealize.ShloMosaic Idealize.ShloMosaic.TcCoe Idealize.ShloMosaic.Tactic
open Cert.Reference Cert.Reference.Gen Cert.Hand

variable {F : FTy → Type} [BitOps F]

/-- What the lines write. -/
def tailRefs : List (Ref sig .tc) := [main_v300, main_v301, main_v302, main_v303, main_v304, main_v305, main_v306]

theorem tail_writes : (hostOps1 (F := F)).map HloOp.writes = tailRefs.map fun w => {Proc.devRef (τ := τ) .tc w} := rfl

/-- The words of two arrays of halves. -/
def words (a b : Vec F S128x128x256 .bf16) : Vec F S1x128x128x256 .i32 :=
  Host.bitcastConvertWiden S1x128x128x256 32 (bitcastToInt
    (shapeCast S1x128x128x256x2 (transpose S64x2x128x2x128x2 [1, 3, 2, 0, 4, 5]
      (shapeCast S2x64x128x2x128x2 (concatenate S128x128x256x2 3 [⟨S128x128x256x1, broadcastInDim S128x128x256x1 ![0, 1, 2] bcast_S128x128x256_S128x128x256x1_0_1_2 a⟩,
          ⟨S128x128x256x1, broadcastInDim S128x128x256x1 ![0, 1, 2] bcast_S128x128x256_S128x128x256x1_0_1_2 b⟩] concatenates_S128x128x256x1_S128x128x256x1_S128x128x256x2_d3)
        shapeCasts_S128x128x256x2_S2x64x128x2x128x2) transposes_S2x64x128x2x128x2_S64x2x128x2x128x2_1_3_2_0_4_5)
      shapeCasts_S64x2x128x2x128x2_S1x128x128x256x2)) splits_S1x128x128x256_w32_S1x128x128x256x2_w16

theorem tail_eq (V : Valuation τ sig (Elt F)) :
    StableHlo.after hostOps1 V (Proc.devRef .tc main_v306)
      = words (F := F) (V (Proc.devRef .tc main_v299_0)) (V (Proc.devRef .tc main_v299_1)) := by
  rw [un V tail_writes 6 rfl (by decide) (by decide), resh V tail_writes 5 rfl (by decide) (by decide), un V tail_writes 4 rfl (by decide) (by decide),
    resh V tail_writes 3 rfl (by decide) (by decide), bin V tail_writes 2 rfl (by decide) (by decide) (by decide),
    un V tail_writes 1 rfl (by decide) (by decide), un V tail_writes 0 rfl (by decide) (by decide)]
  after_reads_simp
  rfl

/-- Where the slab of half `c` and pair `p` lies. -/
def slabOf (c : Fin 2) (p : Fin 64) : Fin 128 := ⟨c.val * 64 + p.val, by omega⟩

theorem order_apply {α : Type} (z : S128x128x256x2.Idx → α) (c : Fin 2) (p : Fin 64) (u : Fin 2) (r l : Fin 128) (q : Fin 2) (y : S1x128x128x256x2.Idx)
    (h1 : (y 1).val = p.val * 2 + u.val) (h2 : (y 2).val = r.val) (h3 : (y 3).val = c.val * 128 + l.val) (h4 : (y 4).val = q.val) :
    shapeCast S1x128x128x256x2 (transpose S64x2x128x2x128x2 [1, 3, 2, 0, 4, 5] (shapeCast S2x64x128x2x128x2 z shapeCasts_S128x128x256x2_S2x64x128x2x128x2)
      transposes_S2x64x128x2x128x2_S64x2x128x2x128x2_1_3_2_0_4_5) shapeCasts_S64x2x128x2x128x2_S1x128x128x256x2 y = z (ix4 (slabOf c p) r (lane u l) q) := by
  have h0 : (y 0).val < 1 := (y 0).isLt
  refine (shapeCast_apply _ _ _ (ix6 p u r c l q) ?_).trans ((transpose_apply _ _ _ _ (ix6 c p r u l q) ?_).trans (shapeCast_apply _ _ _ (ix4 (slabOf c p) r (lane u l) q) ?_))
  · rw [Shape.rowMajor_val_six, Shape.rowMajor_val_five]
    show ((((p.val * 2 + u.val) * 128 + r.val) * 2 + c.val) * 128 + l.val) * 2 + q.val = ((((y 0).val * 128 + (y 1).val) * 128 + (y 2).val) * 256 + (y 3).val) * 2 + (y 4).val
    omega
  · intro b
    match b with
    | 0 => rfl
    | 1 => rfl
    | 2 => rfl
    | 3 => rfl
    | 4 => rfl
    | 5 => rfl
  · rw [Shape.rowMajor_val_six, Shape.rowMajor_val_four]
    show (((c.val * 64 + p.val) * 128 + r.val) * 256 + (u.val * 128 + l.val)) * 2 + q.val = ((((c.val * 64 + p.val) * 128 + r.val) * 2 + u.val) * 128 + l.val) * 2 + q.val
    omega

theorem both_apply (a b : Vec F S128x128x256 .bf16) (i r : Fin 128) (w : Fin 256) (q : Fin 2) :
    concatenate S128x128x256x2 3 [⟨S128x128x256x1, broadcastInDim S128x128x256x1 ![0, 1, 2] bcast_S128x128x256_S128x128x256x1_0_1_2 a⟩,
      ⟨S128x128x256x1, broadcastInDim S128x128x256x1 ![0, 1, 2] bcast_S128x128x256_S128x128x256x1_0_1_2 b⟩] concatenates_S128x128x256x1_S128x128x256x1_S128x128x256x2_d3
      (ix4 i r w q) = (match q with | 0 => a | 1 => b) (ix3 i r w) := by
  match q with
  | 0 =>
    refine (concatenate_pair_apply_left (3 : Fin S128x128x256x2.rank) (broadcastInDim S128x128x256x1 ![0, 1, 2] bcast_S128x128x256_S128x128x256x1_0_1_2 a)
      (broadcastInDim S128x128x256x1 ![0, 1, 2] bcast_S128x128x256_S128x128x256x1_0_1_2 b) _ _ rfl (ix4 i r w (0 : Fin 1)) ?_).trans
      (broadcastInDim_apply _ _ _ _ (ix3 i r w) ?_)
    · intro d; match d with
      | 0 => rfl
      | 1 => rfl
      | 2 => rfl
      | 3 => rfl
    · intro d; match d with
      | 0 => rfl
      | 1 => rfl
      | 2 => rfl
  | 1 =>
    refine (concatenate_pair_apply_right (3 : Fin S128x128x256x2.rank) (broadcastInDim S128x128x256x1 ![0, 1, 2] bcast_S128x128x256_S128x128x256x1_0_1_2 a)
      (broadcastInDim S128x128x256x1 ![0, 1, 2] bcast_S128x128x256_S128x128x256x1_0_1_2 b) _ _ rfl rfl (ix4 i r w (0 : Fin 1)) ?_ ?_).trans
      (broadcastInDim_apply _ _ _ _ (ix3 i r w) ?_)
    · intro d hd; match d with
      | 0 => rfl
      | 1 => rfl
      | 2 => rfl
      | 3 => exact absurd rfl hd
    · rfl
    · intro d; match d with
      | 0 => rfl
      | 1 => rfl
      | 2 => rfl

/-- A word of the result. -/
theorem words_apply (a b : Vec F S128x128x256 .bf16) (c : Fin 2) (p : Fin 64) (u : Fin 2) (r l : Fin 128) (x : S1x128x128x256.Idx)
    (h1 : (x 1).val = p.val * 2 + u.val) (h2 : (x 2).val = r.val) (h3 : (x 3).val = c.val * 128 + l.val) :
    words a b x = BitOps.toBits (b (ix3 (slabOf c p) r (lane u l))) ++ BitOps.toBits (a (ix3 (slabOf c p) r (lane u l))) := by
  unfold words
  rw [Host.bitcastConvertWiden_apply_16_32]
  refine congrArg₂ (· ++ ·) (congrArg BitOps.toBits ?_) (congrArg BitOps.toBits ?_)
  · exact (order_apply _ c p u r l 1 _ h1 h2 h3 rfl).trans (both_apply a b (slabOf c p) r (lane u l) 1)
  · exact (order_apply _ c p u r l 0 _ h1 h2 h3 rfl).trans (both_apply a b (slabOf c p) r (lane u l) 0)

end Cert.Reference.Hand
-- ==== Proof.RefArray.lean ====
module

public import proofs.«01_k».proof.Proof.Tail
public import Idealize.ShloMosaic.Lib.Pipeline.ValueKit

/-! # What the reference's region leaves in its two arrays

The region has one grid point and every window is the whole of its array, so each array after the region is what the loop leaves. -/

@[expose] public section

noncomputable section

namespace Cert.Reference.Hand

open Idealize.ShloMosaic Idealize.ShloMosaic.TcCoe Idealize.ShloMosaic.Tactic
open Cert.Reference Cert.Reference.Gen

variable {F : FTy → Type} [BitOps F] (m : (ℓ : Loc nD τ sig) → Buf (Elt F) ℓ)

/-- Every window of the one grid point starts at the beginning of its array. -/
theorem home : ∀ (w : Fin cfg0.W) (t : Fin cfg0.N) (a), (cfg0.win w).index t a = 0 := by decide +kernel

theorem blk0 (c : Dev nD) (t : Fin cfg0.N) : (iblk m c 0 t : Vec F S128x128x256 .f32) = V m c main_v283 := by
  unfold iblk
  generalize V m c = U
  exact funext fun y => congrArg (U main_v283) (funext fun a => Fin.ext (win0_0.rect_emb_val_of_index_zero t a (home 0 t a) y))

theorem blk1 (c : Dev nD) (t : Fin cfg0.N) : (iblk m c 1 t : Vec F S128x128x256 .f32) = V m c main_v288 := by
  unfold iblk
  generalize V m c = U
  exact funext fun y => congrArg (U main_v288) (funext fun a => Fin.ext (win0_1.rect_emb_val_of_index_zero t a (home 1 t a) y))

theorem blk2 (c : Dev nD) (t : Fin cfg0.N) : (iblk m c 2 t : Vec F S128x128x256 .f32) = V m c main_v293 := by
  unfold iblk
  generalize V m c = U
  exact funext fun y => congrArg (U main_v293) (funext fun a => Fin.ext (win0_2.rect_emb_val_of_index_zero t a (home 2 t a) y))

theorem blk3 (c : Dev nD) (t : Fin cfg0.N) : (iblk m c 3 t : Vec F S128x128x256 .f32) = V m c main_v298 := by
  unfold iblk
  generalize V m c = U
  exact funext fun y => congrArg (U main_v298) (funext fun a => Fin.ext (win0_3.rect_emb_val_of_index_zero t a (home 3 t a) y))

theorem blk4 (c : Dev nD) (t : Fin cfg0.N) : (iblk m c 4 t : Vec F S128x1x256 .f32) = V m c main_v278 := by
  unfold iblk
  generalize V m c = U
  exact funext fun y => congrArg (U main_v278) (funext fun a => Fin.ext (win0_4.rect_emb_val_of_index_zero t a (home 4 t a) y))

theorem blk5 (c : Dev nD) (t : Fin cfg0.N) : (iblk m c 5 t : Vec F S2x256x128 .bf16) = V m c main_arg3 := by
  unfold iblk
  generalize V m c = U
  exact funext fun y => congrArg (U main_arg3) (funext fun a => Fin.ext (win0_5.rect_emb_val_of_index_zero t a (home 5 t a) y))

theorem blk6 (c : Dev nD) (t : Fin cfg0.N) : (iblk m c 6 t : Vec F S2x256x128 .bf16) = V m c main_arg4 := by
  unfold iblk
  generalize V m c = U
  exact funext fun y => congrArg (U main_arg4) (funext fun a => Fin.ext (win0_6.rect_emb_val_of_index_zero t a (home 6 t a) y))

theorem blk7 (c : Dev nD) (t : Fin cfg0.N) : (iblk m c 7 t : Vec F S128x128x256 .f32) = V m c main_v269 := by
  unfold iblk
  generalize V m c = U
  exact funext fun y => congrArg (U main_v269) (funext fun a => Fin.ext (win0_7.rect_emb_val_of_index_zero t a (home 7 t a) y))

theorem blk8 (c : Dev nD) (t : Fin cfg0.N) : (iblk m c 8 t : Vec F S128x128x256 .f32) = V m c main_v273 := by
  unfold iblk
  generalize V m c = U
  exact funext fun y => congrArg (U main_v273) (funext fun a => Fin.ext (win0_8.rect_emb_val_of_index_zero t a (home 8 t a) y))

/-- The first array after the region. -/
theorem final_re (c : Dev nD) : (dats m 0 c).arrAt 9 cfg0.N = fun y : S128x128x256.Idx => outRe (F := F) (V m c main_v283) (V m c main_v288) (V m c main_v293) (V m c main_v298) (V m c main_v278) (V m c main_arg3) (V m c main_arg4) (V m c main_v269) (V m c main_v273) (y 0) (ix3 0 (y 1) (y 2)) := by
  refine (dats m 0 c).arrAt_eq_of_covers 9 _ (by decide +kernel) fun t _ y => ?_
  have he : (win0_9.blk t).view.emb y = y := funext fun a => Fin.ext (win0_9.rect_emb_val_of_index_zero t a (home 9 t a) y)
  rw [after0_9]
  unfold outsAt0
  refine (region_re c _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) y).trans ?_
  rw [blk0, blk1, blk2, blk3, blk4, blk5, blk6, blk7, blk8]
  exact congrArg (fun y : S128x128x256.Idx => outRe (F := F) (V m c main_v283) (V m c main_v288) (V m c main_v293) (V m c main_v298) (V m c main_v278) (V m c main_arg3) (V m c main_arg4) (V m c main_v269) (V m c main_v273) (y 0) (ix3 0 (y 1) (y 2))) he.symm

/-- The second array after the region. -/
theorem final_im (c : Dev nD) : (dats m 0 c).arrAt 10 cfg0.N = fun y : S128x128x256.Idx => outIm (F := F) (V m c main_v283) (V m c main_v288) (V m c main_v293) (V m c main_v298) (V m c main_v278) (V m c main_arg3) (V m c main_arg4) (V m c main_v269) (V m c main_v273) (y 0) (ix3 0 (y 1) (y 2)) := by
  refine (dats m 0 c).arrAt_eq_of_covers 10 _ (by decide +kernel) fun t _ y => ?_
  have he : (win0_10.blk t).view.emb y = y := funext fun a => Fin.ext (win0_10.rect_emb_val_of_index_zero t a (home 10 t a) y)
  rw [after0_10]
  unfold outsAt0
  refine (region_im c _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) y).trans ?_
  rw [blk0, blk1, blk2, blk3, blk4, blk5, blk6, blk7, blk8]
  exact congrArg (fun y : S128x128x256.Idx => outIm (F := F) (V m c main_v283) (V m c main_v288) (V m c main_v293) (V m c main_v298) (V m c main_v278) (V m c main_arg3) (V m c main_arg4) (V m c main_v269) (V m c main_v273) (y 0) (ix3 0 (y 1) (y 2))) he.symm

end Cert.Reference.Hand
-- ==== Proof.Host.lean ====
module

public import proofs.«01_k».proof.Proof.RefArray

/-! # The reference's lines before its region, read by number

The `i`-th line writes the buffer numbered `9 + i`, so which lines a buffer outlives is a matter of numbers. -/

@[expose] public section

noncomputable section

namespace Cert.Reference.Hand

open Idealize.ShloMosaic Idealize.ShloMosaic.TcCoe Idealize.ShloMosaic.Tactic
open Cert.Reference Cert.Reference.Gen Cert.Hand

variable {F : FTy → Type} [BitOps F]

/-- What the line before the region writes: its `i`-th operation the buffer `9 + i`. -/
def hostRefs : List (Ref sig .tc) := List.ofFn fun i : Fin 299 => (⟨.hbm, ⟨9 + i.val, by have := i.isLt; show 9 + i.val < 317; omega⟩, rfl⟩ : Ref sig .tc)

set_option maxRecDepth 8000 in
theorem host_writes : (hostOps0 (F := F)).map HloOp.writes = hostRefs.map fun w => {Proc.devRef (τ := τ) .tc w} := rfl

/-- A buffer numbered below `9 + i` is not written from the `i`-th operation on. -/
theorem early (r : Ref sig .tc) (i : ℕ) (h : r.space = .hbm → r.idx.val < 9 + i) : r ∉ hostRefs.drop i := by
  intro hm
  obtain ⟨j, hj, e⟩ := List.mem_drop_iff_getElem.mp hm
  simp only [hostRefs, List.getElem_ofFn] at e
  subst e
  have := h rfl
  simp at this

/-- What the line leaves in a buffer. -/
@[irreducible] def left (U : Valuation τ sig (Elt F)) (r : Ref sig .tc) : r.ty.Contents (Elt F) := StableHlo.after (hostOps0 (F := F)) U (Proc.devRef .tc r)

variable (U : Valuation τ sig (Elt F))

/-- A buffer the line does not write is left as found. -/
theorem kept (r : Ref sig .tc) (h : r.space = .hbm → r.idx.val < 9) : left U r = U (Proc.devRef .tc r) := by
  unfold left
  exact (settled U host_writes 0 (early r 0 h)).symm

/-- The `i`-th operation writes the buffer numbered `9 + i`. -/
theorem number {i : ℕ} {op : HloOp τ sig (Elt F)} {y : Ref sig .tc} (ho : (hostOps0 (F := F))[i]? = some op) (hw : op.writes = {Proc.devRef (τ := τ) .tc y}) :
    y.space = .hbm → y.idx.val < 9 + (i + 1) := by
  have e := congrArg (fun l => l[i]?) (host_writes (F := F))
  simp only [List.getElem?_map, ho, Option.map_some, hostRefs, List.getElem?_ofFn] at e
  split at e
  · have e' := Finset.singleton_injective (hw.symm.trans (Option.some.inj e))
    rw [Proc.devRef_injective _ e']
    intro _
    show 9 + i < 9 + (i + 1)
    omega
  · cases e

theorem hun (i : ℕ) {x y : Ref sig .tc} {f : x.ty.Contents (Elt F) → y.ty.Contents (Elt F)} {hx hy}
    (ho : (hostOps0 (F := F))[i]? = some (StableHlo.unary x y f hx hy)) (nx : x.space = .hbm → x.idx.val < 9 + i := by decide) :
    left U y = f (left U x) := by
  unfold left
  exact un U host_writes i ho (early x i nx) (early y _ (number ho (StableHlo.unary_writes ..)))

theorem hbin (i : ℕ) {a b y : Ref sig .tc} {f : a.ty.Contents (Elt F) → b.ty.Contents (Elt F) → y.ty.Contents (Elt F)} {ha hb hy}
    (ho : (hostOps0 (F := F))[i]? = some (StableHlo.binary a b y f ha hb hy)) (na : a.space = .hbm → a.idx.val < 9 + i := by decide)
    (nb : b.space = .hbm → b.idx.val < 9 + i := by decide) : left U y = f (left U a) (left U b) := by
  unfold left
  exact bin U host_writes i ho (early a i na) (early b i nb) (early y _ (number ho (StableHlo.binary_writes ..)))

theorem hresh (i : ℕ) {x y : Ref sig .tc} {he hn hx hy}
    (ho : (hostOps0 (F := F))[i]? = some (StableHlo.reshape (Val := Elt F) x y he hn hx hy)) (nx : x.space = .hbm → x.idx.val < 9 + i := by decide) :
    left U y = fun j => he ▸ shapeCast y.ty.shape (left U x) hn j := by
  unfold left
  exact resh U host_writes i ho (early x i nx) (early y _ (number ho (StableHlo.reshape_writes ..)))

theorem hmany (i : ℕ) {n : ℕ} {xs : Fin n → Ref sig .tc} {y : Ref sig .tc} {f : ((k : Fin n) → (xs k).ty.Contents (Elt F)) → y.ty.Contents (Elt F)} {hxs hy}
    (ho : (hostOps0 (F := F))[i]? = some (StableHlo.nary xs y f hxs hy)) (nx : ∀ k, (xs k).space = .hbm → (xs k).idx.val < 9 + i := by decide) :
    left U y = f (fun k => left U (xs k)) := by
  unfold left
  exact many U host_writes i ho (fun k => early _ i (nx k)) (early y _ (number ho (StableHlo.nary_writes ..)))

/-- Seven operations that combine two products, the second factor of each spread twice. -/
theorem twist (i : ℕ) {a a1 a2 x p b b1 b2 z q y : Ref sig .tc} {fa fa' fp fb fb' fq fy} {h0 h1 h2 h3 h4 h5 h6 h7 h8 h9 k0 k1 k2 k3 k4 k5 k6}
    (o0 : (hostOps0 (F := F))[i]? = some (StableHlo.unary a a1 fa h0 k0)) (o1 : (hostOps0 (F := F))[i + 1]? = some (StableHlo.unary a1 a2 fa' h1 k1))
    (o2 : (hostOps0 (F := F))[i + 2]? = some (StableHlo.binary x a2 p fp h2 h3 k2)) (o3 : (hostOps0 (F := F))[i + 3]? = some (StableHlo.unary b b1 fb h4 k3))
    (o4 : (hostOps0 (F := F))[i + 4]? = some (StableHlo.unary b1 b2 fb' h5 k4)) (o5 : (hostOps0 (F := F))[i + 5]? = some (StableHlo.binary z b2 q fq h6 h7 k5))
    (o6 : (hostOps0 (F := F))[i + 6]? = some (StableHlo.binary p q y fy h8 h9 k6))
    (na : a.space = .hbm → a.idx.val < 9 + i := by decide) (nx : x.space = .hbm → x.idx.val < 9 + i := by decide)
    (nb : b.space = .hbm → b.idx.val < 9 + i := by decide) (nz : z.space = .hbm → z.idx.val < 9 + i := by decide) :
    left U y = fy (fp (left U x) (fa' (fa (left U a)))) (fq (left U z) (fb' (fb (left U b)))) := by
  have wa1 := number o0 (StableHlo.unary_writes ..)
  have wa2 := number o1 (StableHlo.unary_writes ..)
  have wp := number o2 (StableHlo.binary_writes ..)
  have wb1 := number o3 (StableHlo.unary_writes ..)
  have wb2 := number o4 (StableHlo.unary_writes ..)
  have wq := number o5 (StableHlo.binary_writes ..)
  rw [hbin U (i + 6) o6 (fun h => by have := wp h; omega) (fun h => by have := wq h; omega),
    hbin U (i + 2) o2 (fun h => by have := nx h; omega) (fun h => by have := wa2 h; omega),
    hun U (i + 1) o1 (fun h => by have := wa1 h; omega), hun U i o0 na,
    hbin U (i + 5) o5 (fun h => by have := nz h; omega) (fun h => by have := wb2 h; omega),
    hun U (i + 4) o4 (fun h => by have := wb1 h; omega), hun U (i + 3) o3 (fun h => by have := nb h; omega)]

end Cert.Reference.Hand
-- ==== Proof.Twiddle.lean ====
module

public import proofs.«01_k».proof.Proof.Host

/-! # The reference's twiddle factors

The reference turns the eight first factors fifteen times and lays the sixteen stages of each next to one another. -/

@[expose] public section

noncomputable section

namespace Cert.Reference.Hand

open Idealize.ShloMosaic Idealize.ShloMosaic.TcCoe Idealize.ShloMosaic.Tactic
open Cert.Reference Cert.Reference.Gen Cert.Hand

variable {F : FTy → Type} [BitOps F] (U : Valuation τ sig (Elt F))

/-- The real parts of the sixteen stages, as the line leaves them. -/
def trs : Fin 16 → Vec F S8x128x128 .f32 := ![left U main_arg5, left U main_v12, left U main_v26, left U main_v40, left U main_v54, left U main_v68, left U main_v82, left U main_v96, left U main_v110, left U main_v124, left U main_v138, left U main_v152, left U main_v166, left U main_v180, left U main_v194, left U main_v208]

/-- Their imaginary parts. -/
def tis : Fin 16 → Vec F S8x128x128 .f32 := ![left U main_arg6, left U main_v19, left U main_v33, left U main_v47, left U main_v61, left U main_v75, left U main_v89, left U main_v103, left U main_v117, left U main_v131, left U main_v145, left U main_v159, left U main_v173, left U main_v187, left U main_v201, left U main_v215]

/-- A turning factor beside itself for each of the eight. -/
def eight (t : Vec F S128x128 .f32) : Vec F S8x128x128 .f32 :=
  broadcastInDim S8x128x128 ![0, 1, 2] bcast_S1x128x128_S8x128x128_0_1_2 (broadcastInDim S1x128x128 ![1, 2] bcast_S128x128_S1x128x128_1_2 t)

theorem eight_apply (t : Vec F S128x128 .f32) (b : Fin 8) (r l : Fin 128) : eight t (ix3 b r l) = t (ix2 r l) := by
  refine (broadcastInDim_apply _ _ _ _ (ix3 (0 : Fin 1) r l) ?_).trans (broadcastInDim_apply _ _ _ _ (ix2 r l) ?_)
  · intro d; match d with
    | 0 => rfl
    | 1 => rfl
    | 2 => rfl
  · intro d; match d with
    | 0 => rfl
    | 1 => rfl

theorem turned_re : ∀ k : Fin 15, trs U k.succ = subf (mulf (trs U k.castSucc) (eight (left U main_arg7))) (mulf (tis U k.castSucc) (eight (left U main_arg8)))
  | 0 => twist U 6 rfl rfl rfl rfl rfl rfl rfl
  | 1 => twist U 20 rfl rfl rfl rfl rfl rfl rfl
  | 2 => twist U 34 rfl rfl rfl rfl rfl rfl rfl
  | 3 => twist U 48 rfl rfl rfl rfl rfl rfl rfl
  | 4 => twist U 62 rfl rfl rfl rfl rfl rfl rfl
  | 5 => twist U 76 rfl rfl rfl rfl rfl rfl rfl
  | 6 => twist U 90 rfl rfl rfl rfl rfl rfl rfl
  | 7 => twist U 104 rfl rfl rfl rfl rfl rfl rfl
  | 8 => twist U 118 rfl rfl rfl rfl rfl rfl rfl
  | 9 => twist U 132 rfl rfl rfl rfl rfl rfl rfl
  | 10 => twist U 146 rfl rfl rfl rfl rfl rfl rfl
  | 11 => twist U 160 rfl rfl rfl rfl rfl rfl rfl
  | 12 => twist U 174 rfl rfl rfl rfl rfl rfl rfl
  | 13 => twist U 188 rfl rfl rfl rfl rfl rfl rfl
  | 14 => twist U 202 rfl rfl rfl rfl rfl rfl rfl

theorem turned_im : ∀ k : Fin 15, tis U k.succ = addf (mulf (trs U k.castSucc) (eight (left U main_arg8))) (mulf (tis U k.castSucc) (eight (left U main_arg7)))
  | 0 => twist U 13 rfl rfl rfl rfl rfl rfl rfl
  | 1 => twist U 27 rfl rfl rfl rfl rfl rfl rfl
  | 2 => twist U 41 rfl rfl rfl rfl rfl rfl rfl
  | 3 => twist U 55 rfl rfl rfl rfl rfl rfl rfl
  | 4 => twist U 69 rfl rfl rfl rfl rfl rfl rfl
  | 5 => twist U 83 rfl rfl rfl rfl rfl rfl rfl
  | 6 => twist U 97 rfl rfl rfl rfl rfl rfl rfl
  | 7 => twist U 111 rfl rfl rfl rfl rfl rfl rfl
  | 8 => twist U 125 rfl rfl rfl rfl rfl rfl rfl
  | 9 => twist U 139 rfl rfl rfl rfl rfl rfl rfl
  | 10 => twist U 153 rfl rfl rfl rfl rfl rfl rfl
  | 11 => twist U 167 rfl rfl rfl rfl rfl rfl rfl
  | 12 => twist U 181 rfl rfl rfl rfl rfl rfl rfl
  | 13 => twist U 195 rfl rfl rfl rfl rfl rfl rfl
  | 14 => twist U 209 rfl rfl rfl rfl rfl rfl rfl

/-- So stage `k` of factor `b` is the factor turned `k` times. -/
theorem stages (b : Fin 8) (k : Fin 16) (r l : Fin 128) :
    trs U k (ix3 b r l) = (Cert.Kernel.Hand.tw (F := F) (Cert.Kernel.Hand.base (left U main_arg5) b) (Cert.Kernel.Hand.base (left U main_arg6) b) (left U main_arg7) (left U main_arg8) k.val).1 (ix2 r l)
    ∧ tis U k (ix3 b r l) = (Cert.Kernel.Hand.tw (F := F) (Cert.Kernel.Hand.base (left U main_arg5) b) (Cert.Kernel.Hand.base (left U main_arg6) b) (left U main_arg7) (left U main_arg8) k.val).2 (ix2 r l) := by
  induction k using Fin.induction with
  | zero => exact ⟨rfl, rfl⟩
  | succ k ih =>
    obtain ⟨h1, h2⟩ := ih
    rw [turned_re, turned_im]
    constructor
    · show FloatOps.subf (FloatOps.mulf (trs U k.castSucc (ix3 b r l)) (eight (left U main_arg7) (ix3 b r l))) (FloatOps.mulf (tis U k.castSucc (ix3 b r l)) (eight (left U main_arg8) (ix3 b r l))) = _
      rw [h1, h2, eight_apply, eight_apply]
      rfl
    · show FloatOps.addf (FloatOps.mulf (trs U k.castSucc (ix3 b r l)) (eight (left U main_arg8) (ix3 b r l))) (FloatOps.mulf (tis U k.castSucc (ix3 b r l)) (eight (left U main_arg7) (ix3 b r l))) = _
      rw [h1, h2, eight_apply, eight_apply]
      rfl

/-- A stage as a piece of the table. -/
def piece (t : Vec F S8x128x128 .f32) : Vec F S8x1x128x128 .f32 := broadcastInDim S8x1x128x128 ![0, 2, 3] bcast_S8x128x128_S8x1x128x128_0_2_3 t

/-- The table of sixteen stages. -/
def tableOf (p : Fin 16 → Vec F S8x1x128x128 .f32) : Vec F S8x16x128x128 .f32 :=
  concatenate S8x16x128x128 1 (List.ofFn fun n : Fin 16 => (⟨S8x1x128x128, p n⟩ : (s : Shape) × (s.Idx → Elt F .f32)))
    concatenates_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x16x128x128_d1

theorem table_apply (p : Fin 16 → Vec F S8x1x128x128 .f32) (b : Fin 8) (k : Fin 16) (r l : Fin 128) : tableOf p (ix4 b k r l) = p k (ix4 b 0 r l) := by
  unfold tableOf
  refine concatenate_ofFn_unit_apply (t := S8x16x128x128) 1 p _ rfl rfl (ix4 b k r l) k rfl (ix4 b 0 r l) ?_
  intro d hd
  match d with
  | 0 => rfl
  | 1 => exact absurd rfl hd
  | 2 => rfl
  | 3 => rfl

theorem piece_apply (t : Vec F S8x128x128 .f32) (b : Fin 8) (r l : Fin 128) : piece t (ix4 b 0 r l) = t (ix3 b r l) := by
  refine broadcastInDim_apply _ _ _ _ (ix3 b r l) ?_
  intro d; match d with
  | 0 => rfl
  | 1 => rfl
  | 2 => rfl

theorem pieces_re : ∀ k : Fin 16, (![left U main_v230, left U main_v231, left U main_v232, left U main_v233, left U main_v234, left U main_v235, left U main_v236, left U main_v237, left U main_v238, left U main_v239, left U main_v240, left U main_v241, left U main_v242, left U main_v243, left U main_v244, left U main_v245] : Fin 16 → Vec F S8x1x128x128 .f32) k = piece (trs U k)
  | 0 => hun U 230 rfl
  | 1 => hun U 231 rfl
  | 2 => hun U 232 rfl
  | 3 => hun U 233 rfl
  | 4 => hun U 234 rfl
  | 5 => hun U 235 rfl
  | 6 => hun U 236 rfl
  | 7 => hun U 237 rfl
  | 8 => hun U 238 rfl
  | 9 => hun U 239 rfl
  | 10 => hun U 240 rfl
  | 11 => hun U 241 rfl
  | 12 => hun U 242 rfl
  | 13 => hun U 243 rfl
  | 14 => hun U 244 rfl
  | 15 => hun U 245 rfl
  | ⟨n + 16, h⟩ => absurd h (by omega)

theorem pieces_im : ∀ k : Fin 16, (![left U main_v248, left U main_v249, left U main_v250, left U main_v251, left U main_v252, left U main_v253, left U main_v254, left U main_v255, left U main_v256, left U main_v257, left U main_v258, left U main_v259, left U main_v260, left U main_v261, left U main_v262, left U main_v263] : Fin 16 → Vec F S8x1x128x128 .f32) k = piece (tis U k)
  | 0 => hun U 248 rfl
  | 1 => hun U 249 rfl
  | 2 => hun U 250 rfl
  | 3 => hun U 251 rfl
  | 4 => hun U 252 rfl
  | 5 => hun U 253 rfl
  | 6 => hun U 254 rfl
  | 7 => hun U 255 rfl
  | 8 => hun U 256 rfl
  | 9 => hun U 257 rfl
  | 10 => hun U 258 rfl
  | 11 => hun U 259 rfl
  | 12 => hun U 260 rfl
  | 13 => hun U 261 rfl
  | 14 => hun U 262 rfl
  | 15 => hun U 263 rfl
  | ⟨n + 16, h⟩ => absurd h (by omega)

theorem table_re : left U main_v246 = tableOf fun k => piece (trs U k) := by
  rw [← funext (pieces_re U), hmany U 246 rfl]
  rfl

theorem table_im : left U main_v264 = tableOf fun k => piece (tis U k) := by
  rw [← funext (pieces_im U), hmany U 264 rfl]
  rfl

end Cert.Reference.Hand
-- ==== Proof.Prefix.lean ====
module

public import proofs.«01_k».proof.Proof.Twiddle

/-! # What the reference's region is given

Slab `64 c + p` holds rows `2 p` and `2 p + 1` of half `c` next to one another: their words' two parts, the filter's, the norm's and the
twiddle factors of the two rows. -/

@[expose] public section

noncomputable section

namespace Cert.Reference.Hand

open Idealize.ShloMosaic Idealize.ShloMosaic.TcCoe Idealize.ShloMosaic.Tactic
open Cert.Reference Cert.Reference.Gen Cert.Hand

variable {F : FTy → Type} [BitOps F] (U : Valuation τ sig (Elt F))

/-- The table of twiddle factors laid out by slabs. -/
def bySlab (t : Vec F S8x16x128x128 .f32) : Vec F S128x128x256 .f32 :=
  shapeCast S128x128x256 (broadcastInDim S2x64x128x256 ![0, 1, 2, 3] bcast_S1x64x128x256_S2x64x128x256_0_1_2_3
    (shapeCast S1x64x128x256 (transpose S64x128x2x128 [0, 2, 1, 3] (shapeCast S64x2x128x128 t shapeCasts_S8x16x128x128_S64x2x128x128)
      transposes_S64x2x128x128_S64x128x2x128_0_2_1_3) shapeCasts_S64x128x2x128_S1x64x128x256)) shapeCasts_S2x64x128x256_S128x128x256

theorem cos_eq : left U main_v269 = bySlab (left U main_v246) := by
  rw [hresh U 269 rfl, hun U 268 rfl, hresh U 267 rfl, hun U 266 rfl, hresh U 247 rfl]
  rfl

theorem sin_eq : left U main_v273 = bySlab (left U main_v264) := by
  rw [hresh U 273 rfl, hun U 272 rfl, hresh U 271 rfl, hun U 270 rfl, hresh U 265 rfl]
  rfl

theorem bySlab_apply (t : Vec F S8x16x128x128 .f32) (c : Fin 2) (p : Fin 64) (u : Fin 2) (r l : Fin 128) (b : Fin 8) (k : Fin 16)
    (h : b.val * 16 + k.val = 2 * p.val + u.val) : bySlab t (ix3 (slabOf c p) r (lane u l)) = t (ix4 b k r l) := by
  unfold bySlab
  refine (shapeCast_apply _ _ _ (ix4 c p r (lane u l)) ?_).trans ((broadcastInDim_apply _ _ _ _ (ix4 (0 : Fin 1) p r (lane u l)) ?_).trans
    ((shapeCast_apply _ _ _ (ix4 p r u l) ?_).trans ((transpose_apply _ _ _ _ (ix4 p u r l) ?_).trans (shapeCast_apply _ _ _ (ix4 b k r l) ?_))))
  · rw [Shape.rowMajor_val_four, Shape.rowMajor_val_three]
    show ((c.val * 64 + p.val) * 128 + r.val) * 256 + (u.val * 128 + l.val) = ((c.val * 64 + p.val) * 128 + r.val) * 256 + (u.val * 128 + l.val)
    rfl
  · intro d; match d with
    | 0 => rfl
    | 1 => rfl
    | 2 => rfl
    | 3 => rfl
  · rw [Shape.rowMajor_val_four, Shape.rowMajor_val_four]
    show ((p.val * 128 + r.val) * 2 + u.val) * 128 + l.val = ((0 * 64 + p.val) * 128 + r.val) * 256 + (u.val * 128 + l.val)
    omega
  · intro d; match d with
    | 0 => rfl
    | 1 => rfl
    | 2 => rfl
    | 3 => rfl
  · rw [Shape.rowMajor_val_four, Shape.rowMajor_val_four]
    show ((b.val * 16 + k.val) * 128 + r.val) * 128 + l.val = ((p.val * 2 + u.val) * 128 + r.val) * 128 + l.val
    omega

/-- One part of every word laid out by slabs. -/
def order (s : Vec F S16384x256x1 .f32) : Vec F S128x128x256 .f32 :=
  shapeCast S128x128x256 (transpose S2x64x128x2x128 [3, 1, 0, 2, 4] (shapeCast S128x64x2x2x128 (shapeCast S16384x256 s shapeCasts_S16384x256x1_S16384x256)
    shapeCasts_S16384x256_S128x64x2x2x128) transposes_S128x64x2x2x128_S2x64x128x2x128_3_1_0_2_4) shapeCasts_S2x64x128x2x128_S128x128x256

/-- The word's row `s = 2 p + u` of column `r`. -/
def rowOf (r : Fin 128) (p : Fin 64) (u : Fin 2) : Fin 16384 := ⟨r.val * 128 + (2 * p.val + u.val), by omega⟩

/-- Lane `l` of half `c`. -/
def colOf (c : Fin 2) (l : Fin 128) : Fin 256 := ⟨c.val * 128 + l.val, by omega⟩

theorem ordered_apply (s : Vec F S16384x256x1 .f32) (c : Fin 2) (p : Fin 64) (u : Fin 2) (r l : Fin 128) :
    order s (ix3 (slabOf c p) r (lane u l)) = s (ix3 (rowOf r p u) (colOf c l) 0) := by
  unfold order
  refine (shapeCast_apply _ _ _ (ix5 c p r u l) ?_).trans ((transpose_apply _ _ _ _ (ix5 r p u c l) ?_).trans
    ((shapeCast_apply _ _ _ (ix2 (rowOf r p u) (colOf c l)) ?_).trans (shapeCast_apply _ _ _ (ix3 (rowOf r p u) (colOf c l) (0 : Fin 1)) ?_)))
  · rw [Shape.rowMajor_val_five, Shape.rowMajor_val_three]
    show (((c.val * 64 + p.val) * 128 + r.val) * 2 + u.val) * 128 + l.val = ((c.val * 64 + p.val) * 128 + r.val) * 256 + (u.val * 128 + l.val)
    omega
  · intro d; match d with
    | 0 => rfl
    | 1 => rfl
    | 2 => rfl
    | 3 => rfl
    | 4 => rfl
  · rw [Shape.rowMajor_val_five, Shape.rowMajor_val_two]
    show (r.val * 128 + (2 * p.val + u.val)) * 256 + (c.val * 128 + l.val) = (((r.val * 64 + p.val) * 2 + u.val) * 2 + c.val) * 128 + l.val
    omega
  · rw [Shape.rowMajor_val_three, Shape.rowMajor_val_two]
    show ((r.val * 128 + (2 * p.val + u.val)) * 256 + (c.val * 128 + l.val)) * 1 + 0 = (r.val * 128 + (2 * p.val + u.val)) * 256 + (c.val * 128 + l.val)
    omega

/-- The two parts of every word. -/
def parts (x : Vec F S16384x256 .i32) : Vec F S16384x256x2 .f32 :=
  extf .f32 (bitcastToFloat (F := F) .bf16 (Host.bitcastConvertNarrow S16384x256x2 16 x splits_S16384x256_w32_S16384x256x2_w16)) bitsLt_bf16_f32

theorem low_apply (x : Vec F S16384x256 .i32) (c : Fin 2) (p : Fin 64) (u : Fin 2) (r l : Fin 128) (w : IVec S128x128 32)
    (h : x (ix2 (rowOf r p u) (colOf c l)) = w (ix2 r l)) :
    order (extractStridedSlice S16384x256x1 ![0, 0, 0] (parts x) slices_S16384x256x2_S16384x256x1_0_0_0) (ix3 (slabOf c p) r (lane u l))
      = unpackElementwise (F := F) 0 w (by decide) (ix2 r l) := by
  refine (ordered_apply _ c p u r l).trans ((extractStridedSlice_apply _ _ _ _ (ix3 (rowOf r p u) (colOf c l) (0 : Fin 2)) ?_).trans ?_)
  · intro d; match d with
    | 0 => exact (Nat.zero_add _).symm
    | 1 => exact (Nat.zero_add _).symm
    | 2 => rfl
  · show FloatOps.extf .f32 bitsLt_bf16_f32 (FloatOps.ofBits .bf16 ((x _).extractLsb' (0 * 16) 16)) = _
    refine congrArg (fun v : BitVec 32 => FloatOps.extf (F := F) .f32 bitsLt_bf16_f32 (FloatOps.ofBits .bf16 (v.extractLsb' (0 * 16) 16))) (Eq.trans (congrArg x ?_) h)
    funext d; match d with
    | 0 => rfl
    | 1 => rfl

theorem high_apply (x : Vec F S16384x256 .i32) (c : Fin 2) (p : Fin 64) (u : Fin 2) (r l : Fin 128) (w : IVec S128x128 32)
    (h : x (ix2 (rowOf r p u) (colOf c l)) = w (ix2 r l)) :
    order (extractStridedSlice S16384x256x1 ![0, 0, 1] (parts x) slices_S16384x256x2_S16384x256x1_0_0_1) (ix3 (slabOf c p) r (lane u l))
      = unpackElementwise (F := F) 1 w (by decide) (ix2 r l) := by
  refine (ordered_apply _ c p u r l).trans ((extractStridedSlice_apply _ _ _ _ (ix3 (rowOf r p u) (colOf c l) (1 : Fin 2)) ?_).trans ?_)
  · intro d; match d with
    | 0 => exact (Nat.zero_add _).symm
    | 1 => exact (Nat.zero_add _).symm
    | 2 => rfl
  · show FloatOps.extf .f32 bitsLt_bf16_f32 (FloatOps.ofBits .bf16 ((x _).extractLsb' (1 * 16) 16)) = _
    refine congrArg (fun v : BitVec 32 => FloatOps.extf (F := F) .f32 bitsLt_bf16_f32 (FloatOps.ofBits .bf16 (v.extractLsb' (1 * 16) 16))) (Eq.trans (congrArg x ?_) h)
    funext d; match d with
    | 0 => rfl
    | 1 => rfl

/-- The words of the first argument as rows. -/
def wordsA (a : Vec F S1x16384x256 .i32) : Vec F S16384x256 .i32 := shapeCast S16384x256 a shapeCasts_S1x16384x256_S16384x256

/-- The filter's words as rows. -/
def wordsK (k : Vec F S16384x512 .i32) : Vec F S16384x256 .i32 := extractStridedSlice S16384x256 ![0, 0] k slices_S16384x512_S16384x256_0_0

theorem wordsA_apply (a : Vec F S1x16384x256 .i32) (i : Fin 16384) (j : Fin 256) : wordsA a (ix2 i j) = a (ix3 0 i j) := by
  refine shapeCast_apply _ _ _ (ix3 (0 : Fin 1) i j) ?_
  rw [Shape.rowMajor_val_three, Shape.rowMajor_val_two]
  show (0 * 16384 + i.val) * 256 + j.val = i.val * 256 + j.val
  omega

theorem wordsK_apply (k : Vec F S16384x512 .i32) (i : Fin 16384) (j : Fin 256) : wordsK k (ix2 i j) = k (ix2 i ⟨j.val, by omega⟩) := by
  refine extractStridedSlice_apply _ _ _ _ (ix2 i (⟨j.val, by omega⟩ : Fin 512)) ?_
  intro d; match d with
  | 0 => exact (Nat.zero_add _).symm
  | 1 => exact (Nat.zero_add _).symm

theorem parts_a : left U main_v2 = parts (wordsA (left U main_arg0)) := by
  rw [hun U 2 rfl, hun U 1 rfl, hresh U 0 rfl]
  rfl

theorem parts_k : left U main_v5 = parts (wordsK (left U main_arg1)) := by
  rw [hun U 5 rfl, hun U 4 rfl, hun U 3 rfl]
  rfl

theorem given0 : left U main_v283 = order (extractStridedSlice S16384x256x1 ![0, 0, 0] (parts (wordsA (left U main_arg0))) slices_S16384x256x2_S16384x256x1_0_0_0) := by
  rw [hresh U 283 rfl, hun U 282 rfl, hresh U 281 rfl, hresh U 280 rfl, hun U 279 rfl, parts_a]
  rfl

theorem given1 : left U main_v288 = order (extractStridedSlice S16384x256x1 ![0, 0, 1] (parts (wordsA (left U main_arg0))) slices_S16384x256x2_S16384x256x1_0_0_1) := by
  rw [hresh U 288 rfl, hun U 287 rfl, hresh U 286 rfl, hresh U 285 rfl, hun U 284 rfl, parts_a]
  rfl

theorem given2 : left U main_v293 = order (extractStridedSlice S16384x256x1 ![0, 0, 0] (parts (wordsK (left U main_arg1))) slices_S16384x256x2_S16384x256x1_0_0_0) := by
  rw [hresh U 293 rfl, hun U 292 rfl, hresh U 291 rfl, hresh U 290 rfl, hun U 289 rfl, parts_k]
  rfl

theorem given3 : left U main_v298 = order (extractStridedSlice S16384x256x1 ![0, 0, 1] (parts (wordsK (left U main_arg1))) slices_S16384x256x2_S16384x256x1_0_0_1) := by
  rw [hresh U 298 rfl, hun U 297 rfl, hresh U 296 rfl, hresh U 295 rfl, hun U 294 rfl, parts_k]
  rfl

/-- The norm laid out by slabs. -/
def norms (n : Vec F S1x512 .f32) : Vec F S128x1x256 .f32 :=
  shapeCast S128x1x256 (broadcastInDim S2x64x1x2x128 ![0, 1, 2, 3, 4] bcast_S2x1x1x1x128_S2x64x1x2x128_0_1_2_3_4
    (shapeCast S2x1x1x1x128 (shapeCast S256 (extractStridedSlice S1x256 ![0, 0] n slices_S1x512_S1x256_0_0) shapeCasts_S1x256_S256)
      shapeCasts_S256_S2x1x1x1x128)) shapeCasts_S2x64x1x2x128_S128x1x256

theorem norms_eq : left U main_v278 = norms (left U main_arg2) := by
  rw [hresh U 278 rfl, hun U 277 rfl, hresh U 276 rfl, hresh U 275 rfl, hun U 274 rfl]
  rfl

theorem norms_apply (n : Vec F S1x512 .f32) (c : Fin 2) (p : Fin 64) (u : Fin 2) (l : Fin 128) :
    norms n (ix3 (slabOf c p) 0 (lane u l)) = Cert.Kernel.Hand.half n c (ix2 0 l) := by
  unfold norms Cert.Kernel.Hand.half
  refine (shapeCast_apply _ _ _ (ix5 c p (0 : Fin 1) u l) ?_).trans ((broadcastInDim_apply _ _ _ _ (ix5 c (0 : Fin 1) (0 : Fin 1) (0 : Fin 1) l) ?_).trans
    ((shapeCast_apply _ _ _ (ix1 (colOf c l)) ?_).trans ((shapeCast_apply _ _ _ (ix2 (0 : Fin 1) (colOf c l)) ?_).trans (extractStridedSlice_apply _ _ _ _ _ ?_))))
  · rw [Shape.rowMajor_val_five, Shape.rowMajor_val_three]
    show (((c.val * 64 + p.val) * 1 + 0) * 2 + u.val) * 128 + l.val = ((c.val * 64 + p.val) * 1 + 0) * 256 + (u.val * 128 + l.val)
    omega
  · intro d; match d with
    | 0 => rfl
    | 1 => rfl
    | 2 => rfl
    | 3 => rfl
    | 4 => rfl
  · rw [Shape.rowMajor_val_five, Shape.rowMajor_val_one]
    show c.val * 128 + l.val = (((c.val * 1 + 0) * 1 + 0) * 1 + 0) * 128 + l.val
    omega
  · rw [Shape.rowMajor_val_two, Shape.rowMajor_val_one]
    show 0 * 256 + (c.val * 128 + l.val) = c.val * 128 + l.val
    omega
  · intro d; match d with
    | 0 => rfl
    | 1 => exact (Nat.zero_add _).symm

end Cert.Reference.Hand
-- ==== Proof.RefResult.lean ====
module

public import proofs.«01_k».proof.Proof.Prefix

/-! # The reference's result

What the region is given makes its loop compute, slab by slab, the two halves of the kernel's words, and the lines after it put them in
place: the reference ends with the kernel's result. -/

@[expose] public section

noncomputable section

namespace Cert.Reference.Hand

open Idealize.ShloMosaic Idealize.ShloMosaic.TcCoe Idealize.ShloMosaic.Tactic Idealize.SL.Sem
open Cert.Reference Cert.Reference.Gen Cert.Hand

variable {F : FTy → Type} [BitOps F] (U : Valuation τ sig (Elt F))

/-- Row `2 p + u`. -/
def rowNo (p : Fin 64) (u : Fin 2) : Fin 128 := ⟨2 * p.val + u.val, by omega⟩

/-- What the region is given for one slab. -/
theorem given (c : Fin 2) (p : Fin 64) :
    Holds (F := F) (left U main_v283) (left U main_v288) (left U main_v293) (left U main_v298) (left U main_v278) (left U main_v269) (left U main_v273) (slabOf c p)
      (fun u => Cert.Kernel.Hand.rowA (F := F) (left U main_arg0) (rowNo p u) c) (fun u => Cert.Kernel.Hand.rowK (F := F) (left U main_arg1) (rowNo p u) c)
      (Cert.Kernel.Hand.half (left U main_arg2) c)
      (fun u => Cert.Kernel.Hand.twAt (left U main_arg5) (left U main_arg6) (left U main_arg7) (left U main_arg8) (rowNo p u)) where
  re r u l := by rw [given0]; exact low_apply _ c p u r l _ (wordsA_apply _ _ _)
  im r u l := by rw [given1]; exact high_apply _ c p u r l _ (wordsA_apply _ _ _)
  kre r u l := by rw [given2]; exact low_apply _ c p u r l _ (wordsK_apply _ _ _)
  kim r u l := by rw [given3]; exact high_apply _ c p u r l _ (wordsK_apply _ _ _)
  norm u l := by rw [norms_eq]; exact norms_apply _ c p u l
  cos r u l := by
    rw [cos_eq, table_re]
    refine (bySlab_apply _ c p u r l ⟨(rowNo p u).val / 16, by omega⟩ ⟨(rowNo p u).val % 16, by omega⟩ ?_).trans
      ((table_apply _ _ _ r l).trans ((piece_apply _ _ r l).trans (stages U _ _ r l).1))
    show (2 * p.val + u.val) / 16 * 16 + (2 * p.val + u.val) % 16 = 2 * p.val + u.val
    omega
  sin r u l := by
    rw [sin_eq, table_im]
    refine (bySlab_apply _ c p u r l ⟨(rowNo p u).val / 16, by omega⟩ ⟨(rowNo p u).val % 16, by omega⟩ ?_).trans
      ((table_apply _ _ _ r l).trans ((piece_apply _ _ r l).trans (stages U _ _ r l).2))
    show (2 * p.val + u.val) / 16 * 16 + (2 * p.val + u.val) % 16 = 2 * p.val + u.val
    omega

/-- The two halves the loop computes are the kernel's word. -/
theorem halves (c : Fin 2) (p : Fin 64) (u : Fin 2) (r l : Fin 128) :
    BitOps.toBits (outIm (F := F) (left U main_v283) (left U main_v288) (left U main_v293) (left U main_v298) (left U main_v278) (left U main_arg3) (left U main_arg4) (left U main_v269) (left U main_v273) (slabOf c p) (ix3 0 r (lane u l)))
      ++ BitOps.toBits (outRe (F := F) (left U main_v283) (left U main_v288) (left U main_v293) (left U main_v298) (left U main_v278) (left U main_arg3) (left U main_arg4) (left U main_v269) (left U main_v273) (slabOf c p) (ix3 0 r (lane u l)))
      = Cert.Kernel.Hand.wordAt (F := F) (left U main_arg0) (left U main_arg1) (left U main_arg2) (left U main_arg3) (left U main_arg4) (left U main_arg5) (left U main_arg6) (left U main_arg7) (left U main_arg8) (rowNo p u) r c l := by
  refine (word _ _ (given U c p) r u l).trans ?_
  have e1 : (⟨(rowNo p u).val % 2, Nat.mod_lt _ (by decide)⟩ : Fin 2) = u := Fin.ext (by show (2 * p.val + u.val) % 2 = u.val; omega)
  have e2 : (⟨(rowNo p u).val / 2, by omega⟩ : Fin 64) = p := Fin.ext (by show (2 * p.val + u.val) / 2 = p.val; omega)
  unfold Cert.Kernel.Hand.wordAt
  rw [e1, e2]
  rfl

/-- So the words put together are the kernel's result. -/
theorem together : words (fun y : S128x128x256.Idx => outRe (F := F) (left U main_v283) (left U main_v288) (left U main_v293) (left U main_v298) (left U main_v278) (left U main_arg3) (left U main_arg4) (left U main_v269) (left U main_v273) (y 0) (ix3 0 (y 1) (y 2))) (fun y : S128x128x256.Idx => outIm (F := F) (left U main_v283) (left U main_v288) (left U main_v293) (left U main_v298) (left U main_v278) (left U main_arg3) (left U main_arg4) (left U main_v269) (left U main_v273) (y 0) (ix3 0 (y 1) (y 2))) = Cert.Kernel.Hand.result (F := F) (left U main_arg0) (left U main_arg1) (left U main_arg2) (left U main_arg3) (left U main_arg4) (left U main_arg5) (left U main_arg6) (left U main_arg7) (left U main_arg8) := by
  funext x
  have h1 : (x 1).val < 128 := (x 1).isLt
  have h2 : (x 2).val < 128 := (x 2).isLt
  have h3 : (x 3).val < 256 := (x 3).isLt
  refine (words_apply _ _ ⟨(x 3).val / 128, by omega⟩ ⟨(x 1).val / 2, by omega⟩ ⟨(x 1).val % 2, by omega⟩ ⟨(x 2).val, h2⟩ ⟨(x 3).val % 128, by omega⟩ x ?_ rfl ?_).trans
    ((halves U _ _ _ _ _).trans (Cert.Kernel.Hand.result_eq _ _ _ _ _ _ _ _ _ x _ _ _ _ ?_ rfl ?_).symm)
  · show (x 1).val = (x 1).val / 2 * 2 + (x 1).val % 2
    omega
  · show (x 3).val = (x 3).val / 128 * 128 + (x 3).val % 128
    omega
  · show (x 1).val = 2 * ((x 1).val / 2) + (x 1).val % 2
    omega
  · show (x 3).val = (x 3).val / 128 * 128 + (x 3).val % 128
    omega

variable (m : (ℓ : Loc nD τ sig) → Buf (Elt F) ℓ) (ρ : Dev nD → PrngReg)

theorem one_line (l : List (HloOp τ sig (Elt F))) (V : Valuation τ sig (Elt F)) (r : DevRef τ sig) : StableHlo.after (List.flatten [l]) V r = StableHlo.after l V r := by
  rw [List.flatten_cons, List.flatten_nil, List.append_nil]

/-- The region finds what the line before it leaves. -/
theorem entry (c : Dev nD) (r : Ref sig .tc) : V m c r = left (fun b => m (c, b)) r := by
  unfold left
  exact one_line hostOps0 _ _

theorem final_re_left (c : Dev nD) : (dats m 0 c).arrAt 9 cfg0.N = fun y : S128x128x256.Idx => outRe (F := F) (left (fun b => m (c, b)) main_v283) (left (fun b => m (c, b)) main_v288) (left (fun b => m (c, b)) main_v293) (left (fun b => m (c, b)) main_v298) (left (fun b => m (c, b)) main_v278) (left (fun b => m (c, b)) main_arg3) (left (fun b => m (c, b)) main_arg4) (left (fun b => m (c, b)) main_v269) (left (fun b => m (c, b)) main_v273) (y 0) (ix3 0 (y 1) (y 2)) := by
  rw [final_re]
  funext y
  rw [entry m c main_v283, entry m c main_v288, entry m c main_v293, entry m c main_v298, entry m c main_v278, entry m c main_arg3, entry m c main_arg4, entry m c main_v269, entry m c main_v273]

theorem final_im_left (c : Dev nD) : (dats m 0 c).arrAt 10 cfg0.N = fun y : S128x128x256.Idx => outIm (F := F) (left (fun b => m (c, b)) main_v283) (left (fun b => m (c, b)) main_v288) (left (fun b => m (c, b)) main_v293) (left (fun b => m (c, b)) main_v298) (left (fun b => m (c, b)) main_v278) (left (fun b => m (c, b)) main_arg3) (left (fun b => m (c, b)) main_arg4) (left (fun b => m (c, b)) main_v269) (left (fun b => m (c, b)) main_v273) (y 0) (ix3 0 (y 1) (y 2)) := by
  rw [final_im]
  funext y
  rw [entry m c main_v283, entry m c main_v288, entry m c main_v293, entry m c main_v298, entry m c main_v278, entry m c main_arg3, entry m c main_arg4, entry m c main_v269, entry m c main_v273]

/-- What the reference ends with. -/
theorem ends (c : Dev nD) : Pipeline.afterTail₀ cfgs (dats m) 0 (V0 m) [hostOps1] c main_v306
    = Cert.Kernel.Hand.result (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  unfold Pipeline.afterTail₀
  rw [one_line, tail_eq]
  refine (congrArg₂ (words (F := F)) ((Pipeline.withArrays_arr spec0 (by decide) c (V0 m c) (fun w => (dats m 0 c).arrAt w cfg0.N) 9).trans (final_re_left m c))
    ((Pipeline.withArrays_arr spec0 (by decide) c (V0 m c) (fun w => (dats m 0 c).arrAt w cfg0.N) 10).trans (final_im_left m c))).trans ?_
  rw [together, kept _ main_arg0 (by decide), kept _ main_arg1 (by decide), kept _ main_arg2 (by decide), kept _ main_arg3 (by decide), kept _ main_arg4 (by decide),
    kept _ main_arg5 (by decide), kept _ main_arg6 (by decide), kept _ main_arg7 (by decide), kept _ main_arg8 (by decide)]

end Cert.Reference.Hand
-- ==== Proof.FfnBlock.lean ====
module

public import proofs.«01_k».proof.Proof.Gen.Kernel2Ideal.Frame
public import Idealize.ShloMosaic.Lib.WholeRead
public import Idealize.ShloMosaic.Lib.Pipeline.ValueKit
public import Idealize.ShloMosaic.Lib.Writes
public import Idealize.ShloMosaic.Lib.Pointwise

/-! # What one grid point of the feed-forward call leaves in its output block

Every load and store of the body takes a whole buffer, so the block is the composition of the body's four values. -/

@[expose] public section

noncomputable section

namespace Cert.Kernel2Ideal.Hand

open Idealize.ShloMosaic Idealize.ShloMosaic.TcCoe Idealize.ShloMosaic.Tactic
open Cert.Kernel2Ideal Cert.Kernel2Ideal.Gen

variable {F : FTy → Type} [FloatOps F]

/-- The block as a function of the staged blocks. -/
def block (x0 : Vec F S512x1024 .f32) (x1 x2 x3 : Vec F S1x1x1024 .f32) (x4 : Vec F S1x1024 .f32) (x5 x6 : Vec F S1024x2816 .bf16) (x7 : Vec F S2816x1024 .bf16) : FVec F S512x1024 .f32 :=
  k0_pay4 x0 x3 (k0_pay3 (k0_pay1 x0 x4 x2 x1) x5 x6 k0_pay2 x7)

/-- Loading a whole buffer gives its contents. -/
theorem load_whole {s : Shape} {e : EltTy} (b : Memref sig .tc .vmem s e) (h : b.IsWhole) (x : Vec F s e) (off : Fin s.rank → ℕ)
    (inb : ∀ a, off a + s.size a ≤ s.size a) (h0 : ∀ a, off a = 0) :
    View.readAt (Elt F) b.view (Rect.unit off s.size inb).toLoadRect (h.unread x) = x := by
  funext y
  refine (congrFun (h.read_unread x) _).trans (congrArg x ?_)
  ext a
  show off a + 1 * (y a).val = (y a).val
  rw [h0 a]; omega

theorem z2 : ∀ a : Fin 2, (![0, 0] : Fin 2 → ℕ) a = 0 := by decide
theorem z3 : ∀ a : Fin 3, (![0, 0, 0] : Fin 3 → ℕ) a = 0 := by decide

/-- Storing a whole block leaves it. -/
theorem store_whole {κ : Kind} {sp : Space} {s : Shape} {e : EltTy} (v : View sig κ sp s e) (f : v.ty.Contents (Elt F)) (off : Fin s.rank → ℕ)
    (inb : ∀ a, off a + s.size a ≤ s.size a) (h0 : ∀ a, off a = 0) (w : Vec F s e) :
    v.read (Elt F) (v.writes (Elt F) f [⟨Rect.unit off s.size inb, w⟩]) = w := by
  funext y
  refine View.read_writes_cons_hit_of_coords v f (Rect.unit off s.size inb) w [] y y ?_
  intro a
  show (y a).val = off a + 1 * (y a).val
  rw [h0 a]; omega

theorem outsAt_eq (m : (ℓ : Loc nD τ sig) → Buf (Elt F) ℓ) (c : Dev nD) (t : Fin cfg0.N) :
    outsAt0 m c t = block (iblk m c 0 t) (iblk m c 1 t) (iblk m c 2 t) (iblk m c 3 t) (iblk m c 4 t) (iblk m c 5 t) (iblk m c 6 t) (iblk m c 7 t) := by
  unfold outsAt0 out0_A_8
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  dsimp only [kernelRun0_A]
  refine (store_whole VO0_8 VO0_8.junk ![0, 0] inb_S512x1024_S512x1024_0_0 z2 _).trans ?_
  simp only [kernelRun0_A.sl.v35, kernelRun0_A.sl.HS1_2, kernelRun0_A.sl.v3, kernelRun0_A.sl.v19]
  simp only [kernelRun0_A.sl.HS0_1, kernelRun0_A.sl.HS1_1, View.readCov_cons_toLoadRect]
  unfold block
  have r0 := load_whole (F := F) _ (hs0_0 t) x0 ![0, 0] inb_S512x1024_S512x1024_0_0 z2
  have r1 := load_whole (F := F) _ (hs0_1 t) x1 ![0, 0, 0] inb_S1x1x1024_S1x1x1024_0_0_0 z3
  have r2 := load_whole (F := F) _ (hs0_2 t) x2 ![0, 0, 0] inb_S1x1x1024_S1x1x1024_0_0_0 z3
  have r3 := load_whole (F := F) _ (hs0_3 t) x3 ![0, 0, 0] inb_S1x1x1024_S1x1x1024_0_0_0 z3
  have r4 := load_whole (F := F) _ (hs0_4 t) x4 ![0, 0] inb_S1x1024_S1x1024_0_0 z2
  have r5 := load_whole (F := F) _ (hs0_5 t) x5 ![0, 0] inb_S1024x2816_S1024x2816_0_0 z2
  have r6 := load_whole (F := F) _ (hs0_6 t) x6 ![0, 0] inb_S1024x2816_S1024x2816_0_0 z2
  have r7 := load_whole (F := F) _ (hs0_7 t) x7 ![0, 0] inb_S2816x1024_S2816x1024_0_0 z2
  exact congr (congr (congrArg k0_pay4 r0) r3)
    (congr (congr (congr (congr (congrArg k0_pay3 (congr (congr (congr (congrArg k0_pay1 r0) r4) r2) r1)) r5) r6) rfl) r7)

end Cert.Kernel2Ideal.Hand

end
-- ==== Proof.FfnPoint.lean ====
module

public import proofs.«01_k».proof.Proof.FfnBlock
public import proofs.«01_k».proof.Proof.FfnMath
public import Idealize.ShloMosaic.Lib.IdealHost
public import Idealize.ShloMosaic.Lib.MatmulPlain

/-! # One entry of the output block, over the extended reals -/

@[expose] public section

noncomputable section

namespace Cert.Kernel2Ideal.Hand

open Idealize.ShloMosaic Idealize.ShloMosaic.TcCoe Idealize.ShloMosaic.Tactic
open Cert.Kernel2Ideal Cert.Kernel2Ideal.Gen

/-- The normalised row. -/
theorem hidden_apply (x : Vec Ideal S512x1024 .f32) (sh sc : Vec Ideal S1x1x1024 .f32) (g : Vec Ideal S1x1024 .f32) (r : Fin 512) (d : Fin 1024) :
    k0_pay1 x g sc sh (ix2 r d)
      = Cert.Ffn.hidden (fun k => x (ix2 r k)) (fun k => sh (ix3 0 0 k)) (fun k => sc (ix3 0 0 k)) (fun k => g (ix2 0 k)) d := by
  unfold k0_pay1 Cert.Ffn.hidden Cert.Ffn.len Cert.Ffn.eps Cert.Ffn.unit
  pointwise

/-- The products and the gate, added to what was there. -/
theorem inner_apply (h : Vec Ideal S512x1024 .bf16) (wg wu : Vec Ideal S1024x2816 .bf16) (acc : Vec Ideal S512x1024 .f32) (wd : Vec Ideal S2816x1024 .bf16)
    (r : Fin 512) (c : Fin 1024) :
    k0_pay3 h wg wu acc wd (ix2 r c) = acc (ix2 r c) + ∑ f, (Cert.Ffn.silu (∑ d, h (ix2 r d) * wg (ix2 d f)) * ∑ d, h (ix2 r d) * wu (ix2 d f)) * wd (ix2 f c) := by
  unfold k0_pay3
  pointwise
  refine congrArg _ (Finset.sum_congr rfl fun f _ => ?_)
  rw [← Cert.Ffn.silu_eq]
  rfl

/-- The sum starts at zero. -/
theorem zero_apply (r : Fin 512) (c : Fin 1024) : k0_pay2 (F := Ideal) (ix2 r c) = 0 := by
  unfold k0_pay2
  pointwise

/-- What is stored. -/
theorem out_apply (x : Vec Ideal S512x1024 .f32) (gt : Vec Ideal S1x1x1024 .f32) (a : Vec Ideal S512x1024 .f32) (r : Fin 512) (c : Fin 1024) :
    k0_pay4 x gt a (ix2 r c) = x (ix2 r c) + gt (ix3 0 0 c) * a (ix2 r c) := by
  unfold k0_pay4
  pointwise

/-- The entry is the token's. -/
theorem block_apply (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) (r : Fin 512) (c : Fin 1024) :
    block x0 x1 x2 x3 x4 x5 x6 x7 (ix2 r c)
      = Cert.Ffn.token (fun k => x0 (ix2 r k)) (fun k => x1 (ix3 0 0 k)) (fun k => x2 (ix3 0 0 k)) (fun k => x3 (ix3 0 0 k)) (fun k => x4 (ix2 0 k))
          (fun d f => x5 (ix2 d f)) (fun d f => x6 (ix2 d f)) (fun f d => x7 (ix2 f d)) c := by
  unfold block
  rw [out_apply, inner_apply, zero_apply, zero_add]
  unfold Cert.Ffn.token Cert.Ffn.inner
  simp only [hidden_apply]

end Cert.Kernel2Ideal.Hand

end
-- ==== Proof.FfnArray.lean ====
module

public import proofs.«01_k».proof.Proof.FfnPoint
public import Idealize.ShloMosaic.Lib.Pipeline.ValueKit
public import Idealize.ShloMosaic.Lib.StableHlo.Run

/-! # The feed-forward call's result, entry by entry

Point `t` of the grid computes the rows `512 t` to `512 t + 511`; together they are the whole result. -/

@[expose] public section

noncomputable section

namespace Cert.Kernel2Ideal.Hand

open Idealize.ShloMosaic Idealize.ShloMosaic.TcCoe Idealize.ShloMosaic.Tactic
open Cert.Kernel2Ideal Cert.Kernel2Ideal.Gen

theorem idx0 : ∀ t : Fin grid0.N, win0_0.index t = ![t.val, 0] := by decide +kernel
theorem idx1 : ∀ t : Fin grid0.N, win0_1.index t = ![t.val / 16, 0, 0] := by decide +kernel
theorem idx2 : ∀ t : Fin grid0.N, win0_2.index t = ![t.val / 16, 0, 0] := by decide +kernel
theorem idx3 : ∀ t : Fin grid0.N, win0_3.index t = ![t.val / 16, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel

variable (m : (ℓ : Loc nD τ sig) → Buf (Elt Ideal) ℓ) (c : Dev nD) (t : Fin cfg0.N)

/-- Row `r` of point `t`'s block is this row of the whole. -/
def row (r : Fin 512) : Fin 16384 := ⟨t.val * 512 + r.val, by have : t.val < 32 := t.isLt; omega⟩

/-- Reading the tokens of both sequences as one list. -/
theorem flat_apply (x : FVec Ideal S2x8192x1024 .f32) (R : Fin 16384) (k : Fin 1024) :
    shapeCast S16384x1024 x shapeCasts_S2x8192x1024_S16384x1024 (ix2 R k) = x (ix3 ⟨R.val / 8192, by omega⟩ ⟨R.val % 8192, by omega⟩ k) := by
  refine shapeCast_apply _ _ _ _ ?_
  rw [Shape.rowMajor_val_three, Shape.rowMajor_val_two]
  show (R.val / 8192 * 8192 + R.val % 8192) * 1024 + k.val = R.val * 1024 + k.val
  omega

/-- The tokens as the region finds them. -/
theorem V_x : (V m c main_v0 : FVec Ideal S16384x1024 .f32) = shapeCast S16384x1024 (m ((c : Thread nD τ).loc main_arg0)) shapeCasts_S2x8192x1024_S16384x1024 := by
  dsimp only [V]; unfold hostOps0; after_results_simp <;> rfl

/-- Window 0's block, entry by entry. -/
theorem blk0 (r : Fin 512) (k : Fin 1024) : (iblk m c 0 t : FVec Ideal S512x1024 .f32) (ix2 r k)
    = (m ((c : Thread nD τ).loc main_arg0) : FVec Ideal S2x8192x1024 .f32) (ix3 ⟨(row t r).val / 8192, by omega⟩ ⟨(row t r).val % 8192, by omega⟩ k) := by
  have e : (iblk m c 0 t : FVec Ideal S512x1024 .f32) (ix2 r k) = (V m c main_v0 : FVec Ideal S16384x1024 .f32) (ix2 (row t r) k) := by
    unfold row
    blk_ext! [iblk, idx0 t]
  rw [e, V_x]
  exact flat_apply _ _ _

/-- Window 1's block, entry by entry. -/
theorem blk1 (k : Fin 1024) : (iblk m c 1 t : FVec Ideal S1x1x1024 .f32) (ix3 0 0 k)
    = (m ((c : Thread nD τ).loc main_arg1) : FVec Ideal S8x1x1024 .f32) (ix3 ⟨t.val / 16, by have : t.val < 32 := t.isLt; omega⟩ 0 k) := by
  rw [← V_main_arg1 m c]
  blk_ext! [iblk, idx1 t]

/-- Window 2's block, entry by entry. -/
theorem blk2 (k : Fin 1024) : (iblk m c 2 t : FVec Ideal S1x1x1024 .f32) (ix3 0 0 k)
    = (m ((c : Thread nD τ).loc main_arg2) : FVec Ideal S8x1x1024 .f32) (ix3 ⟨t.val / 16, by have : t.val < 32 := t.isLt; omega⟩ 0 k) := by
  rw [← V_main_arg2 m c]
  blk_ext! [iblk, idx2 t]

/-- Window 3's block, entry by entry. -/
theorem blk3 (k : Fin 1024) : (iblk m c 3 t : FVec Ideal S1x1x1024 .f32) (ix3 0 0 k)
    = (m ((c : Thread nD τ).loc main_arg3) : FVec Ideal S8x1x1024 .f32) (ix3 ⟨t.val / 16, by have : t.val < 32 := t.isLt; omega⟩ 0 k) := by
  rw [← V_main_arg3 m c]
  blk_ext! [iblk, idx3 t]

/-- The scale as the region finds it. -/
theorem V_g : (V m c main_v1 : FVec Ideal S1x1024 .f32) = broadcastInDim S1x1024 ![1] bcast_S1024_S1x1024_1 (m ((c : Thread nD τ).loc main_arg4) : FVec Ideal S1024 .f32) := by
  dsimp only [V]; unfold hostOps0; after_results_simp <;> rfl

/-- Window 4's block, entry by entry. -/
theorem blk4 (k : Fin 1024) : (iblk m c 4 t : FVec Ideal S1x1024 .f32) (ix2 0 k) = (m ((c : Thread nD τ).loc main_arg4) : FVec Ideal S1024 .f32) (ix1 k) := by
  have e : (iblk m c 4 t : FVec Ideal S1x1024 .f32) (ix2 0 k) = (V m c main_v1 : FVec Ideal S1x1024 .f32) (ix2 0 k) := by
    blk_ext! [iblk, idx4 t]
  rw [e, V_g]
  pointwise

/-- The weights as the region finds them. -/
theorem V_w5 : @Eq (FVec Ideal S1024x2816 .bf16) (V m c main_v2) (truncf .bf16 (m ((c : Thread nD τ).loc main_arg5) : FVec Ideal S1024x2816 .f32) bitsLt_bf16_f32) := by
  dsimp only [V]; unfold hostOps0; after_results_simp <;> rfl

/-- Window 5's block, entry by entry. -/
theorem blk5 (d : Fin 1024) (f : Fin 2816) : (iblk m c 5 t : FVec Ideal S1024x2816 .bf16) (ix2 d f) = (m ((c : Thread nD τ).loc main_arg5) : FVec Ideal S1024x2816 .f32) (ix2 d f) := by
  have e : (iblk m c 5 t : FVec Ideal S1024x2816 .bf16) (ix2 d f) = (V m c main_v2 : FVec Ideal S1024x2816 .bf16) (ix2 d f) := by
    blk_ext! [iblk, idx5 t]
  rw [e, V_w5]
  pointwise

theorem V_w6 : @Eq (FVec Ideal S1024x2816 .bf16) (V m c main_v3) (truncf .bf16 (m ((c : Thread nD τ).loc main_arg6) : FVec Ideal S1024x2816 .f32) bitsLt_bf16_f32) := by
  dsimp only [V]; unfold hostOps0; after_results_simp <;> rfl

/-- Window 6's block, entry by entry. -/
theorem blk6 (d : Fin 1024) (f : Fin 2816) : (iblk m c 6 t : FVec Ideal S1024x2816 .bf16) (ix2 d f) = (m ((c : Thread nD τ).loc main_arg6) : FVec Ideal S1024x2816 .f32) (ix2 d f) := by
  have e : (iblk m c 6 t : FVec Ideal S1024x2816 .bf16) (ix2 d f) = (V m c main_v3 : FVec Ideal S1024x2816 .bf16) (ix2 d f) := by
    blk_ext! [iblk, idx6 t]
  rw [e, V_w6]
  pointwise

theorem V_w7 : @Eq (FVec Ideal S2816x1024 .bf16) (V m c main_v4) (truncf .bf16 (m ((c : Thread nD τ).loc main_arg7) : FVec Ideal S2816x1024 .f32) bitsLt_bf16_f32) := by
  dsimp only [V]; unfold hostOps0; after_results_simp <;> rfl

/-- Window 7's block, entry by entry. -/
theorem blk7 (d : Fin 2816) (f : Fin 1024) : (iblk m c 7 t : FVec Ideal S2816x1024 .bf16) (ix2 d f) = (m ((c : Thread nD τ).loc main_arg7) : FVec Ideal S2816x1024 .f32) (ix2 d f) := by
  have e : (iblk m c 7 t : FVec Ideal S2816x1024 .bf16) (ix2 d f) = (V m c main_v4 : FVec Ideal S2816x1024 .bf16) (ix2 d f) := by
    blk_ext! [iblk, idx7 t]
  rw [e, V_w7]
  pointwise

/-- The whole result. -/
def result : FVec Ideal S16384x1024 .f32 := fun y =>
  Cert.Ffn.answer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (y 0) (y 1)

/-- What point `t` leaves at a place of its block is the result's entry there. -/
theorem outs_apply (r : Fin 512) (k : Fin 1024) : outsAt0 m c t (ix2 r k) = result m c (ix2 (row t r) k) := by
  have hq : (row t r).val / 8192 = t.val / 16 := by show (t.val * 512 + r.val) / 8192 = _; omega
  refine Eq.trans ?_ (show Cert.Ffn.answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t r) k = result m c (ix2 (row t r) k) from rfl)
  rw [outsAt_eq, block_apply]
  simp only [blk0, blk1, blk2, blk3, blk4, blk5, blk6, blk7]
  unfold Cert.Ffn.answer
  simp only [hq]

/-- The kernel's result after the run. -/
theorem final : (dats m 0 c).arrAt 8 cfg0.N = result m c := by
  refine (dats m 0 c).arrAt_eq_of_covers 8 _ (by decide +kernel) fun t hf y => ?_
  rw [after0_8]
  blk_simp
  obtain ⟨r, k, rfl⟩ : ∃ (r : Fin 512) (k : Fin 1024), y = ix2 r k := ⟨y 0, y 1, by ext a; fin_cases a <;> rfl⟩
  refine (outs_apply m c t r k).trans (congrArg (result m c) ?_)
  unfold row
  ext a
  fin_cases a
  · blk_simp [idx8 t]
    rfl
  · blk_simp [idx8 t]
    rfl

end Cert.Kernel2Ideal.Hand

end
-- ==== Proof.FfnRef.lean ====
module

public import proofs.«01_k».proof.Proof.Gen.Reference2Ideal.Run
public import proofs.«01_k».proof.Proof.FfnMath
public import Idealize.ShloMosaic.Lib.IdealHost
public import Idealize.ShloMosaic.Lib.MatmulPlain
public import Idealize.ShloMosaic.Lib.Pointwise

/-! # The plain program's result, entry by entry -/

@[expose] public section

noncomputable section

namespace Cert.Reference2Ideal.Hand

open Idealize.ShloMosaic Idealize.ShloMosaic.TcCoe Idealize.ShloMosaic.Tactic
open Cert.Reference2Ideal Cert.Reference2Ideal.Gen Cert.Reference2Ideal.Value

variable (x : FVec Ideal S2x8192x1024 .f32) (a : FVec Ideal S8x1x1024 .f32) (sh sc gt : FVec Ideal S8x1x1024 .f32) (g : FVec Ideal S1024 .f32)
  (wg wu : FVec Ideal S1024x2816 .f32) (wd : FVec Ideal S2816x1024 .f32)

/-- A modulation's two rows, one for each sequence. -/
def mods : FVec Ideal S2x1x1024 .f32 :=
  broadcastInDim S2x1x1024 ![0, 2] bcast_S2x1024_S2x1x1024_0_2 (shapeCast S2x1024 (extractStridedSlice S2x1x1024 ![0, 0, 0] a slices_S8x1x1024_S2x1x1024_0_0_0) shapeCasts_S2x1x1024_S2x1024)

/-- A modulation is the row of its sequence. -/
theorem mods_apply (b : Fin 2) (d : Fin 1024) : mods a (ix3 b 0 d) = a (ix3 ⟨b.val, by omega⟩ 0 d) := by
  unfold mods
  pointwise

/-- The normalised rows. -/
def hid : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (mods sc)))) (broadcastInDim S2x8192x1024 ![0, 1, 2] bcast_S2x1x1024_S2x8192x1024_0_1_2 (mods sh))

/-- A normalised row is the token's. -/
theorem hid_apply (b : Fin 2) (s : Fin 8192) (d : Fin 1024) :
    hid x sh sc g (ix3 b s d) = Cert.Ffn.hidden (fun k => x (ix3 b s k)) (fun k => sh (ix3 ⟨b.val, by omega⟩ 0 k)) (fun k => sc (ix3 ⟨b.val, by omega⟩ 0 k)) (fun k => g (ix1 k)) d := by
  unfold hid Cert.Ffn.hidden Cert.Ffn.len Cert.Ffn.eps Cert.Ffn.unit
  pointwise
  rw [mods_apply, mods_apply]

/-- One product with a weight. -/
def prod (h : FVec Ideal S2x8192x1024 .f32) (w : FVec Ideal S1024x2816 .f32) : FVec Ideal S2x8192x2816 .f32 :=
  Host.dotGeneral dot_S2x8192x1024_S1024x2816_S2x8192x2816_2_0_01_1_n_n none h w

/-- A product, entry by entry. -/
theorem prod_apply (h : FVec Ideal S2x8192x1024 .f32) (w : FVec Ideal S1024x2816 .f32) (b : Fin 2) (s : Fin 8192) (f : Fin 2816) :
    prod h w (ix3 b s f) = ∑ d, h (ix3 b s d) * w (ix2 d f) := by
  unfold prod
  pointwise

/-- The gated product. -/
def gate (u v : FVec Ideal S2x8192x2816 .f32) : FVec Ideal S2x8192x2816 .f32 :=
  mulf (mulf u (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf u))))) v

/-- The gated product, entry by entry. -/
theorem gate_apply (u v : FVec Ideal S2x8192x2816 .f32) (i : S2x8192x2816.Idx) : gate u v i = Cert.Ffn.silu (u i) * v i := by
  unfold gate Cert.Ffn.silu Cert.Ffn.unit
  pointwise

/-- The product back. -/
def back (h : FVec Ideal S2x8192x2816 .f32) (w : FVec Ideal S2816x1024 .f32) : FVec Ideal S2x8192x1024 .f32 :=
  Host.dotGeneral dot_S2x8192x2816_S2816x1024_S2x8192x1024_2_0_01_1_n_n none h w

/-- The product back, entry by entry. -/
theorem back_apply (h : FVec Ideal S2x8192x2816 .f32) (w : FVec Ideal S2816x1024 .f32) (b : Fin 2) (s : Fin 8192) (d : Fin 1024) :
    back h w (ix3 b s d) = ∑ f, h (ix3 b s f) * w (ix2 f d) := by
  unfold back
  pointwise

/-- The rows of all tokens. -/
def rows : FVec Ideal S2x8192x1024 .f32 :=
  addf x (mulf (broadcastInDim S2x8192x1024 ![0, 1, 2] bcast_S2x1x1024_S2x8192x1024_0_1_2 (mods gt))
    (back (gate (prod (hid x sh sc g) wg) (prod (hid x sh sc g) wu)) wd))

/-- Each row is the token's. -/
theorem rows_apply (b : Fin 2) (s : Fin 8192) (d : Fin 1024) :
    rows x sh sc gt g wg wu wd (ix3 b s d)
      = Cert.Ffn.token (fun k => x (ix3 b s k)) (fun k => sh (ix3 ⟨b.val, by omega⟩ 0 k)) (fun k => sc (ix3 ⟨b.val, by omega⟩ 0 k)) (fun k => gt (ix3 ⟨b.val, by omega⟩ 0 k))
          (fun k => g (ix1 k)) (fun d f => wg (ix2 d f)) (fun d f => wu (ix2 d f)) (fun f d => wd (ix2 f d)) d := by
  unfold rows Cert.Ffn.token Cert.Ffn.inner
  pointwise
  simp only [back_apply, gate_apply, prod_apply, hid_apply, mods_apply]

/-- The composed term is these steps. -/
theorem result_eq (m : (ℓ : Loc nD τ sig) → Buf (Elt Ideal) ℓ) (c : Dev nD) :
    res_main_v36 m c = shapeCast S16384x1024
      (rows (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)))
      shapeCasts_S2x8192x1024_S16384x1024 := by
  unfold res_main_v36 rows back gate prod hid mods
  rfl

/-- The result, entry by entry: row `R` is token `R % 8192` of sequence `R / 8192`. -/
theorem result_apply (m : (ℓ : Loc nD τ sig) → Buf (Elt Ideal) ℓ) (c : Dev nD) (R : Fin 16384) (d : Fin 1024) :
    (res_main_v36 m c : FVec Ideal S16384x1024 .f32) (ix2 R d)
      = Cert.Ffn.answer (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) R d := by
  rw [result_eq]
  refine (shapeCast_apply _ _ _ (ix3 ⟨R.val / 8192, by omega⟩ ⟨R.val % 8192, by omega⟩ d) ?_).trans ?_
  · rw [Shape.rowMajor_val_three, Shape.rowMajor_val_two]
    show (R.val / 8192 * 8192 + R.val % 8192) * 1024 + d.val = R.val * 1024 + d.val
    omega
  · exact rows_apply _ _ _ _ _ _ _ _ _ _ _

end Cert.Reference2Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Kernel.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Array
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_tables_named
public import proofs.«01_k».proof.Proof.Gen.On_steps_used
public import proofs.«01_k».proof.Proof.ExpFrame
public import proofs.«01_k».proof.Proof.ExpResult
public import proofs.«01_k».proof.Proof.ExpRef
public import proofs.«01_k».proof.Proof.StepsUsed
public import proofs.«01_k».proof.Proof.ExpPre
public import proofs.«01_k».proof.Proof.ExpWords
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.MergeArray
public import proofs.«01_k».proof.Proof.MergeRef
public import proofs.«01_k».proof.Proof.RefResult
public import proofs.«01_k».proof.Proof.FfnArray
public import proofs.«01_k».proof.Proof.FfnRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The reference ends with the kernel's result of its arguments, which it keeps. -/
theorem reference {F : FTy → Type} [BitOps F] (m : (ℓ : Loc Cert.Reference.nD Cert.Reference.τ Cert.Reference.sig) → Buf (Elt F) ℓ)
    (ρ : Dev Cert.Reference.nD → PrngReg) :
    θ_run Cert.Reference.defs (onTc (τ := Cert.Reference.τ) (Cert.Reference.main (F := F))) ⟨m, fun _ => 0, ρ⟩ (fun r => ∀ c : Dev Cert.Reference.nD,
      r.2.mem ((c.tc : Thread Cert.Reference.nD Cert.Reference.τ).loc Cert.Reference.main_v306)
        = Cert.Kernel.Hand.result (F := F) (m ((c : Thread Cert.Reference.nD Cert.Reference.τ).loc Cert.Reference.main_arg0)) (m ((c : Thread Cert.Reference.nD Cert.Reference.τ).loc Cert.Reference.main_arg1)) (m ((c : Thread Cert.Reference.nD Cert.Reference.τ).loc Cert.Reference.main_arg2)) (m ((c : Thread Cert.Reference.nD Cert.Reference.τ).loc Cert.Reference.main_arg3)) (m ((c : Thread Cert.Reference.nD Cert.Reference.τ).loc Cert.Reference.main_arg4)) (m ((c : Thread Cert.Reference.nD Cert.Reference.τ).loc Cert.Reference.main_arg5)) (m ((c : Thread Cert.Reference.nD Cert.Reference.τ).loc Cert.Reference.main_arg6)) (m ((c : Thread Cert.Reference.nD Cert.Reference.τ).loc Cert.Reference.main_arg7)) (m ((c : Thread Cert.Reference.nD Cert.Reference.τ).loc Cert.Reference.main_arg8))
      ∧ r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)) := by
  refine (θ_run_and (Cert.Reference.Gen.unchanged m ρ) (Cert.Reference.Gen.run_main m ρ)).mono ?_
  intro r h c
  exact ⟨((h.2 c).2 Cert.Reference.main_v306 (Pipeline.mem_restRefs_of Cert.Reference.main_v306 (by decide) (by decide))).trans (Cert.Reference.Hand.ends m c), h.1 c⟩

/-- The long convolution's middle step: both programs end with the same words. -/
theorem middle : bitexact_Kernel_Reference (hKernel := Cert.Kernel.Gen.facts) (hReference := Cert.Reference.Gen.facts) := by
  intro m g m' g' _ agree
  refine ⟨fun c => (Cert.Kernel.Gen.dats m 0 c).arrAt 9 Cert.Kernel.cfg0.N, Cert.Kernel.Value.run_blocks m g, ?_⟩
  refine (θ_run _ _ _).mono (fun r h c => ?_) (reference m' g')
  refine ⟨(h c).1.trans ?_, (h c).2⟩
  obtain ⟨e0, e1, e2, e3, e4, e5, e6, e7, e8⟩ := agree c
  refine Eq.trans ?_ (Cert.Kernel.Hand.final m c).symm
  rw [e0, e1, e2, e3, e4, e5, e6, e7, e8]

/-- The feed-forward part: over the extended reals both programs end with the same rows. -/
theorem feedForward : algebraic_Kernel2Ideal_Reference2Ideal (hKernel2Ideal := Cert.Kernel2Ideal.Gen.facts) (hReference2Ideal := Cert.Reference2Ideal.Gen.facts) := by
  intro m g m' g' _ agree
  refine ⟨fun c => (Cert.Kernel2Ideal.Gen.dats m 0 c).arrAt 8 Cert.Kernel2Ideal.cfg0.N, Cert.Kernel2Ideal.Value.run_blocks m g, ?_⟩
  refine (θ_run _ _ _).mono (fun r h c => ?_) (Cert.Reference2Ideal.Value.run (F := Ideal) m' g')
  refine ⟨(h c).1.trans ?_, (h c).2⟩
  obtain ⟨e0, e1, e2, e3, e4, e5, e6, e7⟩ := agree c
  refine Eq.trans ?_ (Cert.Kernel2Ideal.Hand.final m c).symm
  funext y
  obtain ⟨R, d, rfl⟩ : ∃ (R : Fin 16384) (d : Fin 1024), y = ix2 R d := ⟨y 0, y 1, by ext a; fin_cases a <;> rfl⟩
  refine (Cert.Reference2Ideal.Hand.result_apply m' c R d).trans ?_
  rw [e0, e1, e2, e3, e4, e5, e6, e7]
  rfl

/-- The plain feed-forward program runs to its end and keeps its arguments. -/
theorem frameReference2 : quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run m ρ)

/-- The experts run to their end and keep their arguments when the tables name what there is. -/
theorem frameKernel3 : quiescent_Kernel3 (hKernel3 := Cert.Kernel3.Gen.facts) (hPre_tables_named := Cert.Pre_tables_named.Gen.facts) :=
  frame3_eq.mpr frame3

theorem frameKernel3Ideal : quiescent_Kernel3Ideal (hKernel3Ideal := Cert.Kernel3Ideal.Gen.facts) (hPre_tables_named := Cert.Pre_tables_named.Gen.facts) :=
  fun m ρ h =>
    have hN := Cert.Kernel3Ideal.Hand.named_of_pre m (h 0).1 (h 0).2.1
    have hU := Cert.Kernel3Ideal.Hand.used_of_pre m (h 0).2.2
    Cert.Kernel3Ideal.Hand.frame m ρ (Cert.Kernel3Ideal.Hand.ok_of_named m hN hU) hU

/-- The plain experts run to their end and keep their arguments, whatever the tables. -/
theorem frameReference3 : quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run m ρ)

theorem frameReference3Named : quiescent_Reference3Ideal_pre_tables_named (hReference3Ideal := Cert.Reference3Ideal.Gen.facts)
    (hPre_tables_named := Cert.Pre_tables_named.Gen.facts) :=
  fun m ρ _ => frameReference3 m ρ True.intro

/-- The experts: over the extended reals both programs end with the same rows in every used step's block. -/
theorem experts : algebraic_Kernel3Ideal_Reference3Ideal_on_steps_used (hKernel3Ideal := Cert.Kernel3Ideal.Gen.facts)
    (hReference3Ideal := Cert.Reference3Ideal.Gen.facts) (hPre_tables_named := Cert.Pre_tables_named.Gen.facts) (hOn_steps_used := Cert.On_steps_used.Gen.facts) := by
  intro m g m' g' h agree
  have hN := Cert.Kernel3Ideal.Hand.named_of_pre m (h 0).1 (h 0).2.1
  have hU := Cert.Kernel3Ideal.Hand.used_of_pre m (h 0).2.2
  have hO := Cert.Kernel3Ideal.Hand.ok_of_named m hN hU
  refine ⟨fun c => (Cert.Kernel3Ideal.Hand.dats m hO 0 c).arrAt 19 (Cert.Kernel3Ideal.Hand.cfgM m hO).N,
    (θ_run _ _ _).mono (fun r e c => ⟨fun i _ => congrFun (e c).1 i, (e c).2⟩) (Cert.Kernel3Ideal.Hand.run_result m hO hU g), ?_⟩
  refine (θ_run _ _ _).mono (fun r e c => ?_) (Cert.Reference3Ideal.Value.run (F := Ideal) m' g')
  refine ⟨fun i hi => ?_, (e c).2⟩
  obtain ⟨e0, e1, e2, e3, e4, e5, e6, e7⟩ := agree c
  obtain rfl : c = 0 := Subsingleton.elim _ _
  have hb : (i 0).val < Cert.Kernel3Ideal.Hand.used m := by
    have hw := hU.2
    unfold Cert.Kernel3Ideal.Hand.used Cert.Kernel3Ideal.Hand.word at hw ⊢
    rw [show Cert.Kernel3Ideal.Hand.tbl m 2 = m ((((0 : Dev Cert.Kernel3Ideal.nD)) : Thread Cert.Kernel3Ideal.nD Cert.Kernel3Ideal.τ).loc Cert.Kernel3Ideal.main_arg2) from Cert.Kernel3Ideal.Hand.V_main_arg2 m 0] at hw ⊢
    exact Cert.StepsUsed.lt_used _ _ _ _ _ _ _ _ i _ hw hi
  obtain ⟨b, s, k, rfl⟩ : ∃ (b : Fin 167) (s : Fin 256) (k : Fin 1024), i = ix3 b s k := ⟨i 0, i 1, i 2, by ext a; fin_cases a <;> rfl⟩
  refine (congrFun (e 0).1 _).trans ?_
  refine Eq.trans ?_ (Cert.Kernel3Ideal.Hand.arr_apply m hO hU 0 hN b hb s k).symm
  refine (Cert.Reference3Ideal.Hand.result_apply _ (fun j => ?_) (fun j => ?_) b s k).trans ?_
  · exact lt_of_eq_of_lt (congrArg BitVec.toNat (congrFun e0 j)) (Cert.TablesNamed.piece_lt _ _ _ _ _ _ _ _ (h 0).1 j)
  · exact lt_of_eq_of_lt (congrArg BitVec.toNat (congrFun e1 j)) (Cert.TablesNamed.expert_lt _ _ _ _ _ _ _ _ (h 0).2.1 j)
  unfold Cert.Kernel3Ideal.Hand.goal
  rw [← e0, ← e1, ← e3, ← e4, ← e5, ← e6, ← e7]

/-- The merge: over the extended reals both programs end with the same rows. -/
theorem merge : algebraic_Kernel4Ideal_Reference4Ideal (hKernel4Ideal := Cert.Kernel4Ideal.Gen.facts) (hReference4Ideal := Cert.Reference4Ideal.Gen.facts) := by
  intro m g m' g' _ agree
  refine ⟨fun c => (Cert.Kernel4Ideal.Gen.dats m 0 c).arrAt 10 Cert.Kernel4Ideal.cfg0.N, Cert.Kernel4Ideal.Value.run_blocks m g, ?_⟩
  refine (θ_run _ _ _).mono (fun r h c => ?_) (Cert.Reference4Ideal.Value.run (F := Ideal) m' g')
  refine ⟨(h c).1.trans ?_, (h c).2⟩
  obtain ⟨e0, e1, e2, e3, e4, e5, e6, e7, e8, e9⟩ := agree c
  refine Eq.trans ?_ (Cert.Kernel4Ideal.Hand.final m c).symm
  funext y
  obtain ⟨R, d, rfl⟩ : ∃ (R : Fin 16384) (d : Fin 1024), y = ix2 R d := ⟨y 0, y 1, by ext a; fin_cases a <;> rfl⟩
  rw [e0, e1, e2, e3, e4, e5, e6, e7, e8, e9]
  exact Cert.Reference4Ideal.Hand.result_apply _ _ _ _ _ _ _ _ _ _ R d

/-- The plain merge runs to its end and keeps its arguments. -/
theorem frameReference4 : quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run m ρ)

theorem claim : Cert.Claim :=
  ⟨Cert.Kernel.Gen.facts, Cert.Reference.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_tables_named.Gen.facts, Cert.On_steps_used.Gen.facts,
    fun m ρ _ => Cert.Kernel.Gen.frame m ρ, fun m ρ _ => Cert.Reference.Gen.frame m ρ, fun m ρ _ => Cert.Kernel2.Gen.frame m ρ,
    fun m ρ _ => Cert.Kernel2Ideal.Gen.frame m ρ, frameReference2, frameKernel3, frameKernel3Ideal, frameReference3, frameReference3Named,
    fun m ρ _ => Cert.Kernel4.Gen.frame m ρ, fun m ρ _ => Cert.Kernel4Ideal.Gen.frame m ρ, frameReference4,
    middle, trivial, feedForward, trivial, experts, trivial, merge⟩

end Cert.Proof

end
